-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S4x4096x512 : Shape := ⟨3, ![4, 4096, 512]⟩
abbrev S1x64 : Shape := ⟨2, ![1, 64]⟩
abbrev S1x128 : Shape := ⟨2, ![1, 128]⟩
abbrev S131072x64 : Shape := ⟨2, ![131072, 64]⟩
abbrev S_ : Shape := ⟨0, ![]⟩

class Facts : Prop where
  shapeCasts_S4x4096x512_S131072x64 : S4x4096x512.ShapeCasts S131072x64
  bcast_S_S131072x64 : S_.BroadcastsInDim S131072x64 (![] : Fin 0 → Fin S131072x64.rank)
  bcast_S_S1x64 : S_.BroadcastsInDim S1x64 (![] : Fin 0 → Fin S1x64.rank)
  bcast_S1x64_S131072x64_0_1 : S1x64.BroadcastsInDim S131072x64 (![0, 1] : Fin 2 → Fin S131072x64.rank)

variable [Facts]

def fn_part1 {F : FTy → Type} [FloatOps F] (main_arg5 : FVec F S1x64 .f32) (main_arg6 : FVec F S1x64 .f32) (main_v18 : IVec S131072x64 1) (main_v19 : FVec F S1x64 .f32) : IVec S131072x64 1 :=
  let main_cst_3 : FVec F S_ .f32 := constant S_ .f32 0x7F800000#32
  let main_v20 : FVec F S1x64 .f32 := broadcastInDim S1x64 ![] bcast_S_S1x64 main_cst_3
  let main_v21 : IVec S1x64 1 := cmpf .olt main_v19 main_v20
  let main_v22 : IVec S131072x64 1 := broadcastInDim S131072x64 ![0, 1] bcast_S1x64_S131072x64_0_1 main_v21
  let main_v23 : IVec S131072x64 1 := andi main_v18 main_v22
  let main_v24 : FVec F S1x64 .f32 := Host.absf main_arg5
  let main_cst_4 : FVec F S_ .f32 := constant S_ .f32 0x7F800000#32
  let main_v25 : FVec F S1x64 .f32 := broadcastInDim S1x64 ![] bcast_S_S1x64 main_cst_4
  let main_v26 : IVec S1x64 1 := cmpf .olt main_v24 main_v25
  let main_v27 : IVec S131072x64 1 := broadcastInDim S131072x64 ![0, 1] bcast_S1x64_S131072x64_0_1 main_v26
  let main_v28 : IVec S131072x64 1 := andi main_v23 main_v27
  let main_v29 : FVec F S1x64 .f32 := Host.absf main_arg6
  let main_cst_5 : FVec F S_ .f32 := constant S_ .f32 0x7F800000#32
  let main_v30 : FVec F S1x64 .f32 := broadcastInDim S1x64 ![] bcast_S_S1x64 main_cst_5
  let main_v31 : IVec S1x64 1 := cmpf .olt main_v29 main_v30
  let main_v32 : IVec S131072x64 1 := broadcastInDim S131072x64 ![0, 1] bcast_S1x64_S131072x64_0_1 main_v31
  let main_v33 : IVec S131072x64 1 := andi main_v28 main_v32
  main_v33

def fn {F : FTy → Type} [FloatOps F] (main_arg0 : FVec F S4x4096x512 .f32) (main_arg1 : FVec F S4x4096x512 .f32) (main_arg2 : FVec F S4x4096x512 .f32) (main_arg3 : FVec F S1x64 .f32) (main_arg4 : FVec F S1x64 .f32) (main_arg5 : FVec F S1x64 .f32) (main_arg6 : FVec F S1x64 .f32) (main_arg7 : FVec F S1x128 .f32) : IVec S131072x64 1 :=
  let main_v0 : FVec F S131072x64 .f32 := shapeCast S131072x64 main_arg0 shapeCasts_S4x4096x512_S131072x64
  let main_v1 : FVec F S131072x64 .f32 := Host.absf main_v0
  let main_cst : FVec F S_ .f32 := constant S_ .f32 0x7F800000#32
  let main_v2 : FVec F S131072x64 .f32 := broadcastInDim S131072x64 ![] bcast_S_S131072x64 main_cst
  let main_v3 : IVec S131072x64 1 := cmpf .olt main_v1 main_v2
  let main_v4 : FVec F S131072x64 .f32 := shapeCast S131072x64 main_arg1 shapeCasts_S4x4096x512_S131072x64
  let main_v5 : FVec F S131072x64 .f32 := shapeCast S131072x64 main_arg2 shapeCasts_S4x4096x512_S131072x64
  let main_v6 : FVec F S131072x64 .f32 := Host.absf main_v4
  let main_cst_0 : FVec F S_ .f32 := constant S_ .f32 0x7F800000#32
  let main_v7 : FVec F S131072x64 .f32 := broadcastInDim S131072x64 ![] bcast_S_S131072x64 main_cst_0
  let main_v8 : IVec S131072x64 1 := cmpf .olt main_v6 main_v7
  let main_v9 : IVec S131072x64 1 := andi main_v3 main_v8
  let main_v10 : FVec F S131072x64 .f32 := Host.absf main_v5
  let main_cst_1 : FVec F S_ .f32 := constant S_ .f32 0x7F800000#32
  let main_v11 : FVec F S131072x64 .f32 := broadcastInDim S131072x64 ![] bcast_S_S131072x64 main_cst_1
  let main_v12 : IVec S131072x64 1 := cmpf .olt main_v10 main_v11
  let main_v13 : IVec S131072x64 1 := andi main_v9 main_v12
  let main_v14 : FVec F S1x64 .f32 := Host.absf main_arg3
  let main_cst_2 : FVec F S_ .f32 := constant S_ .f32 0x7F800000#32
  let main_v15 : FVec F S1x64 .f32 := broadcastInDim S1x64 ![] bcast_S_S1x64 main_cst_2
  let main_v16 : IVec S1x64 1 := cmpf .olt main_v14 main_v15
  let main_v17 : IVec S131072x64 1 := broadcastInDim S131072x64 ![0, 1] bcast_S1x64_S131072x64_0_1 main_v16
  let main_v18 : IVec S131072x64 1 := andi main_v13 main_v17
  let main_v19 : FVec F S1x64 .f32 := Host.absf main_arg4
  fn_part1 (F := F) main_arg5 main_arg6 main_v18 main_v19
-- ==== Kernel.lean ====
abbrev S4x4096x512 : Shape := ⟨3, ![4, 4096, 512]⟩
abbrev S1x64 : Shape := ⟨2, ![1, 64]⟩
abbrev S1x128 : Shape := ⟨2, ![1, 128]⟩
abbrev S_ : Shape := ⟨0, ![]⟩
abbrev S4x16x256x512 : Shape := ⟨4, ![4, 16, 256, 512]⟩
abbrev S4x16x512x256 : Shape := ⟨4, ![4, 16, 512, 256]⟩
abbrev S64 : Shape := ⟨1, ![64]⟩
abbrev S128 : Shape := ⟨1, ![128]⟩
abbrev S4096x128 : Shape := ⟨2, ![4096, 128]⟩
abbrev S1x16x128x256 : Shape := ⟨4, ![1, 16, 128, 256]⟩
abbrev S1x4096x128 : Shape := ⟨3, ![1, 4096, 128]⟩
abbrev S3x4096x512 : Shape := ⟨3, ![3, 4096, 512]⟩
abbrev S3x1x512 : Shape := ⟨3, ![3, 1, 512]⟩
abbrev S144x512 : Shape := ⟨2, ![144, 512]⟩
abbrev S128x256 : Shape := ⟨2, ![128, 256]⟩
abbrev S64x256 : Shape := ⟨2, ![64, 256]⟩
abbrev S256x512 : Shape := ⟨2, ![256, 512]⟩
abbrev S16x256 : Shape := ⟨2, ![16, 256]⟩
abbrev S1 : Shape := ⟨1, ![1]⟩
abbrev S1x1 : Shape := ⟨2, ![1, 1]⟩
abbrev S128x512 : Shape := ⟨2, ![128, 512]⟩
abbrev S1x512 : Shape := ⟨2, ![1, 512]⟩
abbrev S256 : Shape := ⟨1, ![256]⟩
abbrev S1x256 : Shape := ⟨2, ![1, 256]⟩
abbrev S256x128 : Shape := ⟨2, ![256, 128]⟩
abbrev S1x256x128 : Shape := ⟨3, ![1, 256, 128]⟩
abbrev S1x1x128x256 : Shape := ⟨4, ![1, 1, 128, 256]⟩
abbrev S256x256 : Shape := ⟨2, ![256, 256]⟩
abbrev S1x1x512 : Shape := ⟨3, ![1, 1, 512]⟩
abbrev S1x256x512 : Shape := ⟨3, ![1, 256, 512]⟩
abbrev S512 : Shape := ⟨1, ![512]⟩
abbrev S144x256 : Shape := ⟨2, ![144, 256]⟩

abbrev nBuf : Space → Nat
  | .hbm => 60
  | .vmem => 17
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S_, .f32⟩
  | .hbm, ⟨9, _⟩ => ⟨S4x4096x512, .f32⟩
  | .hbm, ⟨10, _⟩ => ⟨S4x4096x512, .f32⟩
  | .hbm, ⟨11, _⟩ => ⟨S4x4096x512, .bf16⟩
  | .hbm, ⟨12, _⟩ => ⟨S4x16x256x512, .bf16⟩
  | .hbm, ⟨13, _⟩ => ⟨S4x16x512x256, .bf16⟩
  | .hbm, ⟨14, _⟩ => ⟨S4x4096x512, .bf16⟩
  | .hbm, ⟨15, _⟩ => ⟨S4x16x256x512, .bf16⟩
  | .hbm, ⟨16, _⟩ => ⟨S4x16x512x256, .bf16⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S4x4096x512, .bf16⟩
  | .hbm, ⟨26, _⟩ => ⟨S128, .f32⟩
  | .hbm, ⟨27, _⟩ => ⟨S1x128, .f32⟩
  | .hbm, ⟨28, _⟩ => ⟨S4096x128, .i32⟩
  | .hbm, ⟨29, _⟩ => ⟨S4096x128, .i32⟩
  | .hbm, ⟨30, _⟩ => ⟨S_, .i32⟩
  | .hbm, ⟨31, _⟩ => ⟨S4096x128, .i32⟩
  | .hbm, ⟨32, _⟩ => ⟨S4096x128, .i1⟩
  | .hbm, ⟨33, _⟩ => ⟨S_, .i32⟩
  | .hbm, ⟨34, _⟩ => ⟨S4096x128, .i32⟩
  | .hbm, ⟨35, _⟩ => ⟨S4096x128, .i32⟩
  | .hbm, ⟨36, _⟩ => ⟨S_, .i32⟩
  | .hbm, ⟨37, _⟩ => ⟨S4096x128, .i32⟩
  | .hbm, ⟨38, _⟩ => ⟨S4096x128, .i1⟩
  | .hbm, ⟨39, _⟩ => ⟨S_, .i32⟩
  | .hbm, ⟨40, _⟩ => ⟨S4096x128, .i32⟩
  | .hbm, ⟨41, _⟩ => ⟨S4096x128, .i32⟩
  | .hbm, ⟨42, _⟩ => ⟨S_, .i32⟩
  | .hbm, ⟨43, _⟩ => ⟨S4096x128, .i32⟩
  | .hbm, ⟨44, _⟩ => ⟨S4096x128, .i1⟩
  | .hbm, ⟨45, _⟩ => ⟨S_, .i32⟩
  | .hbm, ⟨46, _⟩ => ⟨S4096x128, .i32⟩
  | .hbm, ⟨47, _⟩ => ⟨S4096x128, .i1⟩
  | .hbm, ⟨48, _⟩ => ⟨S4096x128, .i1⟩
  | .hbm, ⟨49, _⟩ => ⟨S_, .i32⟩
  | .hbm, ⟨50, _⟩ => ⟨S_, .i32⟩
  | .hbm, ⟨51, _⟩ => ⟨S4096x128, .i32⟩
  | .hbm, ⟨52, _⟩ => ⟨S4096x128, .i32⟩
  | .hbm, ⟨53, _⟩ => ⟨S4096x128, .i32⟩
  | .hbm, ⟨54, _⟩ => ⟨S4096x128, .i32⟩
  | .hbm, ⟨55, _⟩ => ⟨S4096x128, .i32⟩
  | .hbm, ⟨56, _⟩ => ⟨S4096x128, .i32⟩
  | .hbm, ⟨57, _⟩ => ⟨S4096x128, .f32⟩
  | .hbm, ⟨58, _⟩ => ⟨S4096x128, .bf16⟩
  | .hbm, ⟨59, _⟩ => ⟨S4x4096x512, .bf16⟩
  | .local _ .vmem, ⟨0, _⟩ => ⟨S1x16x128x256, .bf16⟩
  | .local _ .vmem, ⟨1, _⟩ => ⟨S1x16x128x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S4096x128, .bf16⟩
  | .local _ .vmem, ⟨5, _⟩ => ⟨S1x16x128x256, .bf16⟩
  | .local _ .vmem, ⟨6, _⟩ => ⟨S1x16x128x256, .bf16⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x128, .f32⟩
  | .local _ .vmem, ⟨12, _⟩ => ⟨S1x4096x128, .bf16⟩
  | .local _ .vmem, ⟨13, _⟩ => ⟨S1x4096x128, .bf16⟩
  | .local _ .vmem, ⟨14, _⟩ => ⟨S3x4096x512, .f32⟩
  | .local _ .vmem, ⟨15, _⟩ => ⟨S3x1x512, .f32⟩
  | .local _ .vmem, ⟨16, _⟩ => ⟨S144x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_c_0 : Ref sig .tc := ⟨.hbm, 33, rfl⟩
abbrev main_v23 : Ref sig .tc := ⟨.hbm, 34, rfl⟩
abbrev main_v24 : Ref sig .tc := ⟨.hbm, 35, rfl⟩
abbrev main_c_1 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_c_6 : Ref sig .tc := ⟨.hbm, 50, rfl⟩
abbrev main_call0_v0 : Ref sig .tc := ⟨.hbm, 51, rfl⟩
abbrev main_call0_v1 : Ref sig .tc := ⟨.hbm, 52, rfl⟩
abbrev main_v34 : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![4, 4, 2], ![false, false, false]⟩

def k0_cond1 (i : grid0.Coords) : BitVec 1 :=
  let arg2 : BitVec 32 := BitVec.ofNat 32 (i 2).val
  let c0_i32_11 : BitVec 32 := 0#32
  let v36 : BitVec 32 := Scalar.maxsi arg2 c0_i32_11
  let c1_i32_12 : BitVec 32 := 1#32
  let v37 : BitVec 32 := Scalar.minsi v36 c1_i32_12
  let c0_i32_13 : BitVec 32 := 0#32
  let v38 : BitVec 1 := Scalar.cmpi .ne v37 c0_i32_13
  v38

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x16x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x16x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S4x4096x512 : Shape := ⟨3, ![4, 4096, 512]⟩
abbrev S1x64 : Shape := ⟨2, ![1, 64]⟩
abbrev S1x128 : Shape := ⟨2, ![1, 128]⟩
abbrev S64 : Shape := ⟨1, ![64]⟩
abbrev S_ : Shape := ⟨0, ![]⟩
abbrev S4x4096x4x2x64 : Shape := ⟨5, ![4, 4096, 4, 2, 64]⟩
abbrev S4x4x2x4096x64 : Shape := ⟨5, ![4, 4, 2, 4096, 64]⟩
abbrev S4x4096x4x128 : Shape := ⟨4, ![4, 4096, 4, 128]⟩
abbrev S4x4x4096x128 : Shape := ⟨4, ![4, 4, 4096, 128]⟩
abbrev S4 : Shape := ⟨1, ![4]⟩
abbrev S4x1x1x1 : Shape := ⟨4, ![4, 1, 1, 1]⟩
abbrev S4096 : Shape := ⟨1, ![4096]⟩
abbrev S4x4x2x4096x4096 : Shape := ⟨5, ![4, 4, 2, 4096, 4096]⟩
abbrev S4096x1 : Shape := ⟨2, ![4096, 1]⟩
abbrev S1x4096 : Shape := ⟨2, ![1, 4096]⟩
abbrev S4096x4096 : Shape := ⟨2, ![4096, 4096]⟩
abbrev S1x1x4096x4096 : Shape := ⟨4, ![1, 1, 4096, 4096]⟩
abbrev S4x1x4096x4096 : Shape := ⟨4, ![4, 1, 4096, 4096]⟩
abbrev S1x4x1x4096x4096 : Shape := ⟨5, ![1, 4, 1, 4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4096x4 : Shape := ⟨3, ![4, 4096, 4]⟩
abbrev S4x4096x4x1 : Shape := ⟨4, ![4, 4096, 4, 1]⟩
abbrev S128 : Shape := ⟨1, ![128]⟩
abbrev S1x1x1x128 : Shape := ⟨4, ![1, 1, 1, 128]⟩

abbrev nBuf : Space → Nat
  | .hbm => 116
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4096x4x2x64, .f32⟩
  | .hbm, ⟨24, _⟩ => ⟨S_, .f32⟩
  | .hbm, ⟨25, _⟩ => ⟨S4x4096x4x2x64, .f32⟩
  | .hbm, ⟨26, _⟩ => ⟨S4x4096x4x2x64, .f32⟩
  | .hbm, ⟨27, _⟩ => ⟨S4x4x2x4096x64, .f32⟩
  | .hbm, ⟨28, _⟩ => ⟨S4x4096x4x2x64, .f32⟩
  | .hbm, ⟨29, _⟩ => ⟨S4x4x2x4096x64, .f32⟩
  | .hbm, ⟨30, _⟩ => ⟨S4x4096x4x128, .f32⟩
  | .hbm, ⟨31, _⟩ => ⟨S4x4x4096x128, .f32⟩
  | .hbm, ⟨32, _⟩ => ⟨S4, .i32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S4x1x1x1, .f32⟩
  | .hbm, ⟨47, _⟩ => ⟨S4096, .i32⟩
  | .hbm, ⟨48, _⟩ => ⟨S4x4x2x4096x4096, .f32⟩
  | .hbm, ⟨49, _⟩ => ⟨S4096x1, .i32⟩
  | .hbm, ⟨50, _⟩ => ⟨S1x4096, .i32⟩
  | .hbm, ⟨51, _⟩ => ⟨S4096x4096, .i32⟩
  | .hbm, ⟨52, _⟩ => ⟨S4096x4096, .i32⟩
  | .hbm, ⟨53, _⟩ => ⟨S4096x4096, .i32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .i1⟩
  | .hbm, ⟨58, _⟩ => ⟨S4x1x1x1, .f32⟩
  | .hbm, ⟨59, _⟩ => ⟨S1x1x4096x4096, .f32⟩
  | .hbm, ⟨60, _⟩ => ⟨S4x1x4096x4096, .f32⟩
  | .hbm, ⟨61, _⟩ => ⟨S4x1x4096x4096, .f32⟩
  | .hbm, ⟨62, _⟩ => ⟨S4x1x4096x4096, .f32⟩
  | .hbm, ⟨63, _⟩ => ⟨S1x4x1x4096x4096, .f32⟩
  | .hbm, ⟨64, _⟩ => ⟨S4x4x2x4096x4096, .f32⟩
  | .hbm, ⟨65, _⟩ => ⟨S4x4x2x4096x4096, .f32⟩
  | .hbm, ⟨66, _⟩ => ⟨S_, .f32⟩
  | .hbm, ⟨67, _⟩ => ⟨S_, .f32⟩
  | .hbm, ⟨68, _⟩ => ⟨S4x4x2x4096x4096, .i1⟩
  | .hbm, ⟨69, _⟩ => ⟨S4x4x2x4096x4096, .f32⟩
  | .hbm, ⟨70, _⟩ => ⟨S4x4x2x4096x4096, .f32⟩
  | .hbm, ⟨71, _⟩ => ⟨S_, .f32⟩
  | .hbm, ⟨72, _⟩ => ⟨S4x4x2x4096, .f32⟩
  | .hbm, ⟨73, _⟩ => ⟨S_, .f32⟩
  | .hbm, ⟨74, _⟩ => ⟨S4x4x2x4096, .f32⟩
  | .hbm, ⟨75, _⟩ => ⟨S4x4x2x4096, .f32⟩
  | .hbm, ⟨76, _⟩ => ⟨S4x4x2x4096x1, .f32⟩
  | .hbm, ⟨77, _⟩ => ⟨S4x4x2x4096x4096, .f32⟩
  | .hbm, ⟨78, _⟩ => ⟨S4x4x2x4096x4096, .f32⟩
  | .hbm, ⟨79, _⟩ => ⟨S4x4x2x4096x4096, .f32⟩
  | .hbm, ⟨80, _⟩ => ⟨S_, .f32⟩
  | .hbm, ⟨81, _⟩ => ⟨S4x4x2x4096, .f32⟩
  | .hbm, ⟨82, _⟩ => ⟨S4x4x2x4096x1, .f32⟩
  | .hbm, ⟨83, _⟩ => ⟨S4x4x2x4096x4096, .f32⟩
  | .hbm, ⟨84, _⟩ => ⟨S4x4x2x4096x4096, .f32⟩
  | .hbm, ⟨85, _⟩ => ⟨S4x4x1x4096x4096, .f32⟩
  | .hbm, ⟨86, _⟩ => ⟨S4x4x4096x4096, .f32⟩
  | .hbm, ⟨87, _⟩ => ⟨S4x4x1x4096x4096, .f32⟩
  | .hbm, ⟨88, _⟩ => ⟨S4x4x4096x4096, .f32⟩
  | .hbm, ⟨89, _⟩ => ⟨S4x4x4096x4096, .f32⟩
  | .hbm, ⟨90, _⟩ => ⟨S4x4x4096x4096, .f32⟩
  | .hbm, ⟨91, _⟩ => ⟨S4x4x4096x4096, .f32⟩
  | .hbm, ⟨92, _⟩ => ⟨S4x4x4096x128, .f32⟩
  | .hbm, ⟨93, _⟩ => ⟨S4x4096x4x128, .f32⟩
  | .hbm, ⟨94, _⟩ => ⟨S4x4096x4x128, .f32⟩
  | .hbm, ⟨95, _⟩ => ⟨S_, .f32⟩
  | .hbm, ⟨96, _⟩ => ⟨S4x4096x4, .f32⟩
  | .hbm, ⟨97, _⟩ => ⟨S4x4096x4x1, .f32⟩
  | .hbm, ⟨98, _⟩ => ⟨S_, .f32⟩
  | .hbm, ⟨99, _⟩ => ⟨S4x4096x4x1, .f32⟩
  | .hbm, ⟨100, _⟩ => ⟨S4x4096x4x1, .f32⟩
  | .hbm, ⟨101, _⟩ => ⟨S_, .f32⟩
  | .hbm, ⟨102, _⟩ => ⟨S4x4096x4x1, .f32⟩
  | .hbm, ⟨103, _⟩ => ⟨S4x4096x4x1, .f32⟩
  | .hbm, ⟨104, _⟩ => ⟨S4x4096x4x1, .f32⟩
  | .hbm, ⟨105, _⟩ => ⟨S4x4096x4x128, .f32⟩
  | .hbm, ⟨106, _⟩ => ⟨S4x4096x4x128, .f32⟩
  | .hbm, ⟨107, _⟩ => ⟨S128, .f32⟩
  | .hbm, ⟨108, _⟩ => ⟨S1x1x1x128, .f32⟩
  | .hbm, ⟨109, _⟩ => ⟨S4x4096x4x128, .f32⟩
  | .hbm, ⟨110, _⟩ => ⟨S4x4096x4x128, .f32⟩
  | .hbm, ⟨111, _⟩ => ⟨S_, .f32⟩
  | .hbm, ⟨112, _⟩ => ⟨S4x4096x4x128, .f32⟩
  | .hbm, ⟨113, _⟩ => ⟨S4x4096x4x128, .f32⟩
  | .hbm, ⟨114, _⟩ => ⟨S4x4096x512, .f32⟩
  | .hbm, ⟨115, _⟩ => ⟨S4x4096x512, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_12 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_15 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S16384x1024 : Shape := ⟨2, ![16384, 1024]⟩
abbrev S16384x512 : Shape := ⟨2, ![16384, 512]⟩
abbrev S512x1024 : Shape := ⟨2, ![512, 1024]⟩
abbrev S512x512 : Shape := ⟨2, ![512, 512]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 20
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S4x4096x512, .bf16⟩
  | .hbm, ⟨9, _⟩ => ⟨S4x4096x512, .bf16⟩
  | .hbm, ⟨10, _⟩ => ⟨S1024x1024, .f32⟩
  | .hbm, ⟨11, _⟩ => ⟨S1024, .f32⟩
  | .hbm, ⟨12, _⟩ => ⟨S1x1024, .f32⟩
  | .hbm, ⟨13, _⟩ => ⟨S1024x4096, .f32⟩
  | .hbm, ⟨14, _⟩ => ⟨S4096x1024, .f32⟩
  | .hbm, ⟨15, _⟩ => ⟨S1x1024, .f32⟩
  | .hbm, ⟨16, _⟩ => ⟨S16384x1024, .f32⟩
  | .hbm, ⟨17, _⟩ => ⟨S16384x512, .bf16⟩
  | .hbm, ⟨18, _⟩ => ⟨S16384x512, .bf16⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x4096, .bf16⟩
  | .local _ .vmem, ⟨12, _⟩ => ⟨S4096x1024, .bf16⟩
  | .local _ .vmem, ⟨13, _⟩ => ⟨S2x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .ne arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x4096x1024 : Shape := ⟨3, ![4, 4096, 1024]⟩
abbrev S4x4096x512 : Shape := ⟨3, ![4, 4096, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4096 : Shape := ⟨2, ![1024, 4096]⟩
abbrev S4x4096x4096 : Shape := ⟨3, ![4, 4096, 4096]⟩
abbrev S4096x1024 : Shape := ⟨2, ![4096, 1024]⟩
abbrev S16384x1024 : Shape := ⟨2, ![16384, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S4x4096x1024, .f32⟩
  | .hbm, ⟨9, _⟩ => ⟨S1024x1024, .f32⟩
  | .hbm, ⟨10, _⟩ => ⟨S4x4096x1024, .f32⟩
  | .hbm, ⟨11, _⟩ => ⟨S4x4096x1024, .f32⟩
  | .hbm, ⟨12, _⟩ => ⟨S1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S1024x4096, .f32⟩
  | .hbm, ⟨30, _⟩ => ⟨S4x4096x4096, .f32⟩
  | .hbm, ⟨31, _⟩ => ⟨S_, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4096x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x1024, .f32⟩
  | .hbm, ⟨50, _⟩ => ⟨S4x4096x1024, .f32⟩
  | .hbm, ⟨51, _⟩ => ⟨S1x1x1024, .f32⟩
  | .hbm, ⟨52, _⟩ => ⟨S4x4096x1024, .f32⟩
  | .hbm, ⟨53, _⟩ => ⟨S4x4096x1024, .f32⟩
  | .hbm, ⟨54, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Proof.Steps.lean ====
/-
  The attention kernel's body, written out as the loops it was unrolled from. The kernel visits the sixteen query
  blocks in a fixed order; while it takes the weighted sum for one block it already scores the block two places
  ahead. `pieces` are the pure computations on whole vectors, `progFirst` and `progSecond` the two branches of the
  kernel's switch over the pieces, in continuation-passing form.
-/
module

public import proofs.«01_k».proof.Proof.Gen.KernelIdeal.Frame

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.Sem

variable {F : FTy → Type} [FloatOps F]

/-! ## The pure pieces -/

/-- The slope of the head at a grid point: a selection among the four slopes by the head's number. -/
def slopeOf (i : grid0.Coords) : F .f32 :=
  Scalar.select (Scalar.cmpi .eq (BitVec.ofNat 32 (i 1).val) 3#32) (Scalar.ofBits .f32 0x3B800000#32)
    (Scalar.select (Scalar.cmpi .eq (BitVec.ofNat 32 (i 1).val) 2#32) (Scalar.ofBits .f32 0x3C800000#32)
      (Scalar.select (Scalar.cmpi .eq (BitVec.ofNat 32 (i 1).val) 1#32) (Scalar.ofBits .f32 0x3D800000#32)
        (Scalar.ofBits .f32 0x3E800000#32)))

/-- The row number of a position column. -/
def rowIota : IVec S128x256 32 := iota .tc S128x256 32 [0] iota_S128x256_d0_w32
/-- The query's place in its block, as a float. -/
def laneF : FVec F S128x256 .f32 := sitofp .f32 (iota .tc S128x256 32 [1] iota_S128x256_d1_w32)
/-- Half a head of zeros. -/
def zeroHalf : FVec F S64x256 .bf16 := broadcast S64x256 (Scalar.ofBits .bf16 0x0000#16)
/-- The divisor of the query's place, guarded against zero as the host's remainder guards it. -/
def modulus : BitVec 32 := Scalar.select (Scalar.cmpi .eq (256#32) (0#32)) (1#32) (256#32)
/-- The truncated remainder of the lane by the block length. -/
def laneRem : IVec S256x512 32 := remsi (iota .tc S256x512 32 [1] iota_S256x512_d1_w32) (broadcast S256x512 modulus)
/-- The query's place in its block (the remainder brought to the divisor's sign). -/
def qryPos : IVec S256x512 32 :=
  select (andi (xori (cmpi .slt laneRem (broadcast S256x512 0#32))
      (broadcastTo S256x512 (broadcast S256x512 (Scalar.cmpi .slt modulus (0#32))) broadcasts_S256x512_S256x512))
      (cmpi .ne laneRem (broadcast S256x512 0#32)))
    (addi laneRem (broadcast S256x512 modulus)) laneRem
/-- The causal mask of a diagonal block: the key's place is at most the query's. -/
def causal : IVec S256x512 1 := cmpi .sle (iota .tc S256x512 32 [0] iota_S256x512_d0_w32) qryPos
/-- Sixteen rows, the first of ones, the others of zeros. -/
def onesRows : FVec F S16x256 .bf16 :=
  truncf .bf16 (select (cmpi .eq (iota .tc S16x256 32 [0] iota_S16x256_d0_w32) (broadcast S16x256 0#32))
    (broadcast S16x256 (Scalar.ofBits .f32 0x3F800000#32)) (broadcast S16x256 (Scalar.ofBits .f32 0x00000000#32))) bitsLt_bf16_f32

/-- The query operand's position rows, for the query block whose first place is the float of word `w`. -/
def alibi (sl : F .f32) (w : BitVec 32) : FVec F S128x256 .bf16 :=
  truncf .bf16 (select (cmpi .eq rowIota (broadcast S128x256 0#32)) (broadcast S128x256 sl)
    (select (cmpi .eq rowIota (broadcast S128x256 1#32)) (broadcast S128x256 (Scalar.mulf sl (Scalar.ofBits .f32 0x43800000#32)))
      (select (cmpi .eq rowIota (broadcast S128x256 2#32))
        (mulf (broadcast S128x256 (Scalar.subf (Scalar.ofBits .f32 0x00000000#32) sl)) laneF)
        (select (cmpi .eq rowIota (broadcast S128x256 3#32))
          (broadcast S128x256 (Scalar.mulf (Scalar.subf (Scalar.ofBits .f32 0x00000000#32) sl) (Scalar.ofBits .f32 w)))
          (broadcast S128x256 (Scalar.ofBits .f32 0x00000000#32)))))) bitsLt_bf16_f32

/-- The query operand: the two half heads side by side, each over zeros for the other half, the position rows below. -/
def qOperand (sl : F .f32) (w : BitVec 32) (q : FVec F S1x1x128x256 .bf16) : FVec F S256x512 .bf16 :=
  concatenate S256x512 1
    [⟨S256x256, concatenate S256x256 0
        [⟨S64x256, extractStridedSlice S64x256 ![0, 0] (shapeCast S128x256 q shapeCasts_S1x1x128x256_S128x256) slices_S128x256_o0_0_S64x256⟩,
          ⟨S64x256, zeroHalf⟩, ⟨S128x256, alibi sl w⟩] concatenates_S64x256_S64x256_S128x256_S256x256_d0⟩,
      ⟨S256x256, concatenate S256x256 0
        [⟨S64x256, zeroHalf⟩,
          ⟨S64x256, extractStridedSlice S64x256 ![64, 0] (shapeCast S128x256 q shapeCasts_S1x1x128x256_S128x256) slices_S128x256_o64_0_S64x256⟩,
          ⟨S128x256, alibi sl w⟩] concatenates_S64x256_S64x256_S128x256_S256x256_d0⟩] concatenates_S256x256_S256x256_S256x512_d1

/-- The scores of one key block against a query operand. -/
def rawScore (qa : FVec F S256x512 .bf16) (kx : FVec F S1x256x128 .bf16) (px : FVec F S256x128 .bf16) : FVec F S256x512 .f32 :=
  matmul dot_S256x256_S256x512_S256x512_1_0_0_1_n_n none
    (concatenate S256x256 1 [⟨S256x128, shapeCast S256x128 kx shapeCasts_S1x256x128_S256x128⟩,
      ⟨S256x128, shapeCast S256x128 px shapeCasts_S256x128_S256x128⟩] concatenates_S256x128_S256x128_S256x256_d1)
    qa (constant S256x512 .f32 0x00000000#32)

/-- The scores with the keys after the query taken out. -/
def maskScore (s : FVec F S256x512 .f32) : FVec F S256x512 .f32 :=
  select causal s (broadcast S256x512 (Scalar.ofBits .f32 0xFF800000#32))

/-- The scores of a key block: masked on the diagonal. -/
def score (d : Bool) (qa : FVec F S256x512 .bf16) (kx : FVec F S1x256x128 .bf16) (px : FVec F S256x128 .bf16) : FVec F S256x512 .f32 :=
  cond d (maskScore (rawScore qa kx px)) (rawScore qa kx px)

/-- The largest score of each query in a block. -/
def colMax (s : FVec F S256x512 .f32) : FVec F S1x512 .f32 :=
  shapeCast S1x512 (multiReduction .maximumf [0] S512 s 0xFF800000#32 reduces_S256x512_S512 (.inl rfl) rfl) shapeCasts_S512_S1x512

/-- The running maximum after a block: the block's own at the first one. -/
def maxStep (first : Bool) (m : FVec F S1x512 .f32) (s : FVec F S256x512 .f32) : FVec F S1x512 .f32 :=
  cond first (colMax s) (maximumf m (colMax s))

/-- A block's weights against the maximum. -/
def weights (m : FVec F S1x512 .f32) (s : FVec F S1x256x512 .f32) : FVec F S256x512 .bf16 :=
  truncf .bf16 (exp (subf (shapeCast S256x512 s shapeCasts_S1x256x512_S256x512) (broadcastTo S256x512 m broadcasts_S1x512_S256x512)))
    bitsLt_bf16_f32

/-- The accumulator after a block: the weighted sums of the values, and of the ones row. -/
def pvStep (m : FVec F S1x512 .f32) (acc : FVec F S144x512 .f32) (s : FVec F S1x256x512 .f32) (v : FVec F S1x1x128x256 .bf16) : FVec F S144x512 .f32 :=
  addf acc (matmul dot_S144x256_S256x512_S144x512_1_0_0_1_n_n none
    (concatenate S144x256 0 [⟨S128x256, shapeCast S128x256 v shapeCasts_S1x1x128x256_S128x256⟩, ⟨S16x256, onesRows⟩]
      concatenates_S128x256_S16x256_S144x256_d0)
    (weights m s) (constant S144x512 .f32 0x00000000#32))

/-- The exponential of the inner product of two lambda vectors. -/
def lamExp (a b : FVec F S1x64 .f32) : FVec F S1x1 .f32 :=
  exp (shapeCast S1x1 (multiReduction .add [1] S1 (mulf (shapeCast S1x64 a shapeCasts_S1x64_S1x64) (shapeCast S1x64 b shapeCasts_S1x64_S1x64))
    0x00000000#32 reduces_S1x64_S1 (.inl rfl) rfl) shapeCasts_S1_S1x1)

/-- The weight of the second attention in the difference. -/
def lam (a b c d : FVec F S1x64 .f32) : FVec F S1x1 .f32 :=
  addf (subf (lamExp a b) (lamExp c d)) (broadcast S1x1 (Scalar.ofBits .f32 0x3E4CCCCD#32))

/-- Both heads' sums divided by their totals. -/
def heads (acc : FVec F S144x512 .f32) : FVec F S128x512 .f32 :=
  divf (extractStridedSlice S128x512 ![0, 0] acc slices_S144x512_o0_0_S128x512)
    (broadcastTo S128x512 (extractStridedSlice S1x512 ![128, 0] acc slices_S144x512_o128_0_S1x512) broadcasts_S1x512_S128x512)

/-- The difference of the two attentions. -/
def diff (acc : FVec F S144x512 .f32) (l : FVec F S1x1 .f32) : FVec F S128x256 .f32 :=
  subf (extractStridedSlice S128x256 ![0, 0] (heads acc) slices_S128x512_o0_0_S128x256)
    (mulf (broadcastTo S128x256 l broadcasts_S1x1_S128x256) (extractStridedSlice S128x256 ![0, 256] (heads acc) slices_S128x512_o0_256_S128x256))

/-- A difference divided by its root mean square. -/
def rmsUnit (o : FVec F S128x256 .f32) : FVec F S128x256 .f32 :=
  mulf o (broadcastTo S128x256 (rsqrt (addf
    (divf (shapeCast S1x256 (multiReduction .add [0] S256 (mulf o o) 0x00000000#32 reduces_S128x256_S256 (.inl rfl) rfl) shapeCasts_S256_S1x256)
      (broadcast S1x256 (Scalar.ofBits .f32 0x43000000#32)))
    (broadcast S1x256 (Scalar.ofBits .f32 0x358637BD#32)))) broadcasts_S1x256_S128x256)

/-- The normalized difference of a query block times the gain, as the kernel writes it out. -/
def outBlock (acc : FVec F S144x512 .f32) (a b c d : FVec F S1x64 .f32) (g : FVec F S1x128 .f32) : FVec F S1x256x128 .bf16 :=
  shapeCast S1x256x128 (truncf .bf16 (mulf
    (transpose S256x128 [1, 0] (rmsUnit (diff acc (lam a b c d))) transposes_S128x256_p1_0_S256x128)
    (broadcastTo S256x128 (mulf (shapeCast S1x128 g shapeCasts_S1x128_S1x128) (broadcast S1x128 (Scalar.ofBits .f32 0x3F4CCCCD#32)))
      broadcasts_S1x128_S256x128)) bitsLt_bf16_f32) shapeCasts_S256x128_S1x256x128

/-! ## The rectangles the body accesses -/

/-- Block `j` of the transposed queries or values is inside them. -/
theorem inbQ : ∀ (j : Fin 16) (a : Fin 4), (![0, j.val, 0, 0] : Fin 4 → Nat) a + S1x1x128x256.size a ≤ S1x16x128x256.size a := by decide
/-- Block `j` of the keys is inside them. -/
theorem inbK : ∀ (j : Fin 16) (a : Fin 3), (![0, 256 * j.val, 0] : Fin 3 → Nat) a + S1x256x128.size a ≤ S1x4096x128.size a := by decide
/-- Block `j` of the position table is inside it. -/
theorem inbP : ∀ (j : Fin 16) (a : Fin 2), (![256 * j.val, 0] : Fin 2 → Nat) a + S256x128.size a ≤ S4096x128.size a := by decide
/-- Block `j` of a slot is inside the scores. -/
theorem inbS : ∀ (s : Fin 3) (j : Fin 16) (a : Fin 3), (![s.val, 256 * j.val, 0] : Fin 3 → Nat) a + S1x256x512.size a ≤ S3x4096x512.size a := by decide
/-- A slot's row is inside the maxima. -/
theorem inbM : ∀ (s : Fin 3) (a : Fin 3), (![s.val, 0, 0] : Fin 3 → Nat) a + S1x1x512.size a ≤ S3x1x512.size a := by decide

/-- Block `j` of the transposed queries or values. -/
abbrev rQ (j : Fin 16) : Rect S1x16x128x256 := Rect.unit (s := S1x16x128x256) ![0, j.val, 0, 0] S1x1x128x256.size (inbQ j)
/-- Rows `256 j` to `256 j + 255` of the keys, and of the output. -/
abbrev rK (j : Fin 16) : Rect S1x4096x128 := Rect.unit (s := S1x4096x128) ![0, 256 * j.val, 0] S1x256x128.size (inbK j)
/-- Rows `256 j` to `256 j + 255` of the position table. -/
abbrev rP (j : Fin 16) : Rect S4096x128 := Rect.unit (s := S4096x128) ![256 * j.val, 0] S256x128.size (inbP j)
/-- Block `j` of the scores kept in slot `s`. -/
abbrev rS (s : Fin 3) (j : Fin 16) : Rect S3x4096x512 := Rect.unit (s := S3x4096x512) ![s.val, 256 * j.val, 0] S1x256x512.size (inbS s j)
/-- The maxima kept in slot `s`. -/
abbrev rM (s : Fin 3) : Rect S3x1x512 := Rect.unit (s := S3x1x512) ![s.val, 0, 0] S1x1x512.size (inbM s)
/-- The accumulator, whole. -/
abbrev rA : Rect S144x512 := Rect.unit (s := S144x512) ![0, 0] S144x512.size inb_S144x512_S144x512_0_0
/-- A lambda vector, whole. -/
abbrev rL : Rect S1x64 := Rect.unit (s := S1x64) ![0, 0] S1x64.size inb_S1x64_S1x64_0_0
/-- The gain, whole. -/
abbrev rG : Rect S1x128 := Rect.unit (s := S1x128) ![0, 0] S1x128.size inb_S1x128_S1x128_0_0

/-- A block of the output is made of whole packed rows. -/
theorem packedK : ∀ j : Fin 16, (rK j).PackedRows (EltTy.packing .bf16) := by decide

/-! ## The structured body -/

section Body

/-- The blocks the body is given. -/
structure Refs where
  /-- The transposed queries. -/
  a3 : Memref sig .tc .vmem S1x16x128x256 .bf16
  /-- The keys. -/
  a4 : Memref sig .tc .vmem S1x4096x128 .bf16
  /-- The position table. -/
  a5 : Memref sig .tc .vmem S4096x128 .bf16
  /-- The transposed values. -/
  a6 : Memref sig .tc .vmem S1x16x128x256 .bf16
  /-- The first lambda vector. -/
  a7 : Memref sig .tc .vmem S1x64 .f32
  /-- The second lambda vector. -/
  a8 : Memref sig .tc .vmem S1x64 .f32
  /-- The third lambda vector. -/
  a9 : Memref sig .tc .vmem S1x64 .f32
  /-- The fourth lambda vector. -/
  a10 : Memref sig .tc .vmem S1x64 .f32
  /-- The gain. -/
  a11 : Memref sig .tc .vmem S1x128 .f32
  /-- The output. -/
  a12 : Memref sig .tc .vmem S1x4096x128 .bf16
  /-- The output block is whole. -/
  h12 : a12.IsWhole
  /-- The scores. -/
  a13 : Memref sig .tc .vmem S3x4096x512 .f32
  /-- The maxima. -/
  a14 : Memref sig .tc .vmem S3x1x512 .f32
  /-- The accumulator. -/
  a15 : Memref sig .tc .vmem S144x512 .f32

/-- A program of the body. -/
abbrev Pr (F : FTy → Type) : Type 1 := Prog (TpuEff nD τ sig (Elt F) Λ₀ .tc) PUnit

/-- A load through a rectangle, then the rest. -/
abbrev ld {s : Shape} {e : EltTy} (m : Memref sig .tc .vmem s e) (r : Rect s) (h : m.view.LoadsAt r.toLoadRect)
    (k : (r.shape.Idx → Elt F e) → Pr F) : Pr F := .op (.load m r.toLoadRect h) k

variable (R : Refs)

/-- Keeps a block's scores in slot `s` and goes on with the running maximum. -/
def putScore (s : Fin 3) (j : Fin 16) (first : Bool) (m : FVec F S1x512 .f32) (x : FVec F S256x512 .f32)
    (k : FVec F S1x512 .f32 → Pr F) : Pr F :=
  ld R.a13 (rS s j) (View.loadsAt_vmem h_S1x256x512) fun _ =>
  .op (.store R.a13 (rS s j) (shapeCast S1x256x512 x shapeCasts_S256x512_S1x256x512) Finset.univ
    (View.stores_vmem_bits_univ h_S1x256x512 rfl) (.inl rfl)) fun _ =>
  cond first (k (colMax x)) (k (maximumf m (colMax x)))

/-- Scores key block `j` against the operand `qa` into slot `s` and goes on with the running maximum. -/
def scoreK (s : Fin 3) (j : Fin 16) (d first : Bool) (qa : FVec F S256x512 .bf16) (m : FVec F S1x512 .f32)
    (k : FVec F S1x512 .f32 → Pr F) : Pr F :=
  ld R.a4 (rK j) (View.loadsAt_vmem h_S1x256x128) fun (kx : FVec F S1x256x128 .bf16) =>
  ld R.a5 (rP j) (View.loadsAt_vmem h_S256x128) fun (px : FVec F S256x128 .bf16) =>
  cond d (putScore R s j first m (maskScore (rawScore qa kx px)) k) (putScore R s j first m (rawScore qa kx px) k)

/-- Adds key block `j`'s weighted values to the accumulator, the scores taken from slot `s`. -/
def pvK (s : Fin 3) (j : Fin 16) (m : FVec F S1x512 .f32) (acc : FVec F S144x512 .f32) (k : FVec F S144x512 .f32 → Pr F) : Pr F :=
  ld R.a13 (rS s j) (View.loadsAt_vmem h_S1x256x512) fun (sx : FVec F S1x256x512 .f32) =>
  ld R.a6 (rQ j) (View.loadsAt_vmem h_S1x1x128x256) fun (vx : FVec F S1x1x128x256 .bf16) =>
  k (pvStep m acc sx vx)

/-- Scores the key blocks `j`, `j + 1`, … (`n` of them), of which block `q` is the diagonal one. -/
def scoreLoop (s : Fin 3) (q : ℕ) (qa : FVec F S256x512 .bf16) : ℕ → ℕ → FVec F S1x512 .f32 → (FVec F S1x512 .f32 → Pr F) → Pr F
  | 0, _, m, k => k m
  | n + 1, j, m, k => scoreK R s (Fin.ofNat 16 j) (Nat.beq j q) (Nat.beq j 0) qa m fun m' => scoreLoop s q qa n (j + 1) m' k

/-- The key blocks `j`, `j + 1`, … (`n` of them): scores those up to `qa'` for the query block two places ahead, into slot `sa`,
    and adds those up to `qc` to the accumulator, from slot `sc`. -/
def mainLoop (sc sa : Fin 3) (qc q : ℕ) (qa : FVec F S256x512 .bf16) (mc : FVec F S1x512 .f32) :
    ℕ → ℕ → FVec F S1x512 .f32 → FVec F S144x512 .f32 → (FVec F S1x512 .f32 → FVec F S144x512 .f32 → Pr F) → Pr F
  | 0, _, m, acc, k => k m acc
  | n + 1, j, m, acc, k =>
    cond (Nat.ble j q)
      (scoreK R sa (Fin.ofNat 16 j) (Nat.beq j q) (Nat.beq j 0) qa m fun m' =>
        cond (Nat.ble j qc) (pvK R sc (Fin.ofNat 16 j) mc acc fun acc' => mainLoop sc sa qc q qa mc n (j + 1) m' acc' k)
          (mainLoop sc sa qc q qa mc n (j + 1) m' acc k))
      (cond (Nat.ble j qc) (pvK R sc (Fin.ofNat 16 j) mc acc fun acc' => mainLoop sc sa qc q qa mc n (j + 1) m acc' k)
        (mainLoop sc sa qc q qa mc n (j + 1) m acc k))

/-- The key blocks `j`, `j + 1`, … (`n` of them) added to the accumulator, nothing scored. -/
def pvLoop (sc : Fin 3) (mc : FVec F S1x512 .f32) : ℕ → ℕ → FVec F S144x512 .f32 → (FVec F S144x512 .f32 → Pr F) → Pr F
  | 0, _, acc, k => k acc
  | n + 1, j, acc, k => pvK R sc (Fin.ofNat 16 j) mc acc fun acc' => pvLoop sc mc n (j + 1) acc' k

/-- Keeps the maxima in slot `s`. -/
def storeM (s : Fin 3) (m : FVec F S1x512 .f32) (k : Pr F) : Pr F :=
  ld R.a14 (rM s) (View.loadsAt_vmem h_S1x1x512) fun _ =>
  Prog.op (.store R.a14 (rM s) (shapeCast S1x1x512 m shapeCasts_S1x512_S1x1x512) Finset.univ (View.stores_vmem_bits_univ h_S1x1x512 rfl) (.inl rfl))
    fun _ => k

/-- Keeps the accumulator. -/
def storeA (acc : FVec F S144x512 .f32) (k : Pr F) : Pr F :=
  ld R.a15 rA (View.loadsAt_vmem h_S144x512) fun _ =>
  Prog.op (.store R.a15 rA (shapeCast S144x512 acc shapeCasts_S144x512_S144x512) Finset.univ (View.stores_vmem_bits_univ h_S144x512 rfl) (.inl rfl))
    fun _ => k

/-- Writes out query block `t` from the accumulator. -/
def finishK (t : Fin 16) (k : Pr F) : Pr F :=
  ld R.a15 rA (View.loadsAt_vmem h_S144x512) fun (acc : FVec F S144x512 .f32) =>
  ld R.a7 rL (View.loadsAt_vmem h_S1x64) fun (a : FVec F S1x64 .f32) =>
  ld R.a8 rL (View.loadsAt_vmem h_S1x64) fun (b : FVec F S1x64 .f32) =>
  ld R.a9 rL (View.loadsAt_vmem h_S1x64) fun (c : FVec F S1x64 .f32) =>
  ld R.a10 rL (View.loadsAt_vmem h_S1x64) fun (d : FVec F S1x64 .f32) =>
  ld R.a11 rG (View.loadsAt_vmem h_S1x128) fun (g : FVec F S1x128 .f32) =>
  ld R.a12 (rK t) (View.loadsAt_vmem h_S1x256x128) fun _ =>
  Prog.op (.store R.a12 (rK t) (outBlock acc a b c d g) Finset.univ
    (View.stores_vmem h_S1x256x128 (R.h12.storeExact_slice rfl _ (packedK t)) (fun _ => rfl)) (.inl rfl)) fun _ => k

/-- Scores query block `q` (its first place the float of word `w`) whole into slot `s` and keeps its maxima. -/
def primeK (sl : F .f32) (w : BitVec 32) (s : Fin 3) (q : Fin 16) (k : Pr F) : Pr F :=
  ld R.a3 (rQ q) (View.loadsAt_vmem h_S1x1x128x256) fun (qx : FVec F S1x1x128x256 .bf16) =>
  scoreLoop R s q.val (qOperand sl w qx) (q.val + 1) 0 (constant S1x512 .f32 0x00000000#32) fun m =>
  storeM R s m k

/-- One step: the weighted sum of query block `qc` from slot `sc` while query block `q` is scored into slot `sa`; `n` is the
    larger of the two, plus one. -/
def stepK (sl : F .f32) (w : BitVec 32) (sc sa : Fin 3) (qc q : Fin 16) (n : ℕ) (k : Pr F) : Pr F :=
  ld R.a3 (rQ q) (View.loadsAt_vmem h_S1x1x128x256) fun (qx : FVec F S1x1x128x256 .bf16) =>
  ld R.a14 (rM sc) (View.loadsAt_vmem h_S1x1x512) fun (mx : FVec F S1x1x512 .f32) =>
  mainLoop R sc sa qc.val q.val (qOperand sl w qx) (shapeCast S1x512 mx shapeCasts_S1x1x512_S1x512) n 0
    (constant S1x512 .f32 0x00000000#32) (broadcast S144x512 (Scalar.ofBits .f32 0x00000000#32)) fun m acc =>
  storeM R sa m (storeA R acc k)

/-- One of the last steps: the weighted sum of query block `qc` from slot `sc`, nothing scored. -/
def tailK (sc : Fin 3) (qc : Fin 16) (k : Pr F) : Pr F :=
  ld R.a14 (rM sc) (View.loadsAt_vmem h_S1x1x512) fun (mx : FVec F S1x1x512 .f32) =>
  pvLoop R sc (shapeCast S1x512 mx shapeCasts_S1x1x512_S1x512) (qc.val + 1) 0
    (broadcast S144x512 (Scalar.ofBits .f32 0x00000000#32)) fun acc =>
  storeA R acc k

/-- The switch's first branch: steps 0 to 8. -/
def progFirst (sl : F .f32) : Pr F :=
  primeK R sl 0x00000000#32 0 0 <| primeK R sl 0x44000000#32 1 2 <|
  stepK R sl 0x44800000#32 0 2 0 4 5 <|
  finishK R 0 <| stepK R sl 0x44C00000#32 1 0 2 6 7 <|
  finishK R 2 <| stepK R sl 0x45000000#32 2 1 4 8 9 <|
  finishK R 4 <| stepK R sl 0x45200000#32 0 2 6 10 11 <|
  finishK R 6 <| stepK R sl 0x45400000#32 1 0 8 12 13 <|
  finishK R 8 <| stepK R sl 0x45600000#32 2 1 10 14 15 <|
  finishK R 10 <| stepK R sl 0x45700000#32 0 2 12 15 16 <|
  finishK R 12 <| stepK R sl 0x45500000#32 1 0 14 13 15 <|
  finishK R 14 <| stepK R sl 0x45300000#32 2 1 15 11 16 <| .ret ⟨⟩

/-- The switch's second branch: steps 9 to 16. -/
def progSecond (sl : F .f32) : Pr F :=
  finishK R 15 <| stepK R sl 0x45100000#32 0 2 13 9 14 <|
  finishK R 13 <| stepK R sl 0x44E00000#32 1 0 11 7 12 <|
  finishK R 11 <| stepK R sl 0x44A00000#32 2 1 9 5 10 <|
  finishK R 9 <| stepK R sl 0x44400000#32 0 2 7 3 8 <|
  finishK R 7 <| stepK R sl 0x43800000#32 1 0 5 1 6 <|
  finishK R 5 <| tailK R 2 3 <|
  finishK R 3 <| tailK R 0 1 <|
  finishK R 1 <| .ret ⟨⟩

end Body

/-! ## Walking two programs side by side -/

universe v

/-- Two programs are equal when their first operations are and the rests are at every answer. -/
theorem op_congr {E : Type → Type v} {α β : Type} {e e' : E β} {k k' : β → Prog E α} (he : e = e') (hk : ∀ x, k x = k' x) :
    Prog.op e k = Prog.op e' k' := by subst he; exact congrArg _ (funext hk)

/-- A conditional whose test holds. -/
theorem dite_left {α : Sort _} {c : Prop} {d : Decidable c} {t : c → α} {e : ¬ c → α} {x : α} (h : c) (hx : t h = x) :
    dite c t e = x := by rw [dif_pos h, hx]

/-- A conditional whose test fails. -/
theorem dite_right {α : Sort _} {c : Prop} {d : Decidable c} {t : c → α} {e : ¬ c → α} {x : α} (h : ¬ c) (hx : e h = x) :
    dite c t e = x := by rw [dif_neg h, hx]

end Cert.KernelIdeal.Attn

end
-- ==== Proof.Wp.lean ====
/-
  The structured body run as a function on the contents of its buffers. `St` is what the output block and the three
  scratch buffers hold, `Ins` what the nine input blocks hold; each piece of the body takes `St` to `St` (`runPut`,
  `runScore`, …, `runFirst`, `runSecond`), and owning the buffers at a state before a piece is enough for its weakest
  precondition once owning them at the state after it is enough for the rest's.
-/
module

public import proofs.«01_k».proof.Proof.Steps
public import Idealize.ShloMosaic.Lib.Writes
public import Idealize.ShloMosaic.Lib.Pipeline.Frame
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The states -/

/-- What the nine input blocks hold. -/
structure Ins (F : FTy → Type) where
  /-- The transposed queries. -/
  q : S1x16x128x256.Idx → Elt F .bf16
  /-- The keys. -/
  k : S1x4096x128.Idx → Elt F .bf16
  /-- The position table. -/
  p : S4096x128.Idx → Elt F .bf16
  /-- The transposed values. -/
  v : S1x16x128x256.Idx → Elt F .bf16
  /-- The first lambda vector. -/
  l1 : S1x64.Idx → Elt F .f32
  /-- The second lambda vector. -/
  l2 : S1x64.Idx → Elt F .f32
  /-- The third lambda vector. -/
  l3 : S1x64.Idx → Elt F .f32
  /-- The fourth lambda vector. -/
  l4 : S1x64.Idx → Elt F .f32
  /-- The gain. -/
  g : S1x128.Idx → Elt F .f32

/-- What the output block and the scratch buffers hold. -/
structure St (F : FTy → Type) where
  /-- The output. -/
  o : S1x4096x128.Idx → Elt F .bf16
  /-- The scores. -/
  s : S3x4096x512.Idx → Elt F .f32
  /-- The maxima. -/
  m : S3x1x512.Idx → Elt F .f32
  /-- The accumulator. -/
  a : S144x512.Idx → Elt F .f32

/-- What a rectangle of a block holds. -/
def part {s : Shape} {α : Type} (r : Rect s) (X : s.Idx → α) : r.shape.Idx → α := fun j => X (r.emb j)

/-! ## The pieces as functions on states -/

variable (In : Ins F)

/-- The state after a block's scores are kept. -/
def runPut (s : Fin 3) (j : Fin 16) (x : FVec F S256x512 .f32) (σ : St F) : St F :=
  { σ with s := (rS s j).overlay σ.s (shapeCast S1x256x512 x shapeCasts_S256x512_S1x256x512) }

/-- The scores of key block `j` against an operand. -/
def scoreOf (d : Bool) (qa : FVec F S256x512 .bf16) (j : Fin 16) : FVec F S256x512 .f32 :=
  score d qa (part (rK j) In.k) (part (rP j) In.p)

/-- The running maximum after a block. -/
def maxNext (first : Bool) (m : FVec F S1x512 .f32) (x : FVec F S256x512 .f32) : FVec F S1x512 .f32 :=
  cond first (colMax x) (maximumf m (colMax x))

/-- `scoreLoop` on states. -/
def runScores (s : Fin 3) (q : ℕ) (qa : FVec F S256x512 .bf16) : ℕ → ℕ → FVec F S1x512 .f32 → St F → FVec F S1x512 .f32 × St F
  | 0, _, m, σ => (m, σ)
  | n + 1, j, m, σ =>
    runScores s q qa n (j + 1) (maxNext (Nat.beq j 0) m (scoreOf In (Nat.beq j q) qa (Fin.ofNat 16 j)))
      (runPut s (Fin.ofNat 16 j) (scoreOf In (Nat.beq j q) qa (Fin.ofNat 16 j)) σ)

/-- The accumulator after key block `j`. -/
def pvNext (s : Fin 3) (j : Fin 16) (mc : FVec F S1x512 .f32) (acc : FVec F S144x512 .f32) (σ : St F) : FVec F S144x512 .f32 :=
  pvStep mc acc (part (rS s j) σ.s) (part (rQ j) In.v)

/-- `mainLoop` on states. -/
def runMain (sc sa : Fin 3) (qc q : ℕ) (qa : FVec F S256x512 .bf16) (mc : FVec F S1x512 .f32) :
    ℕ → ℕ → FVec F S1x512 .f32 → FVec F S144x512 .f32 → St F → FVec F S1x512 .f32 × FVec F S144x512 .f32 × St F
  | 0, _, m, acc, σ => (m, acc, σ)
  | n + 1, j, m, acc, σ =>
    let x := scoreOf In (Nat.beq j q) qa (Fin.ofNat 16 j)
    let σ' := cond (Nat.ble j q) (runPut sa (Fin.ofNat 16 j) x σ) σ
    runMain sc sa qc q qa mc n (j + 1) (cond (Nat.ble j q) (maxNext (Nat.beq j 0) m x) m)
      (cond (Nat.ble j qc) (pvNext In sc (Fin.ofNat 16 j) mc acc σ') acc) σ'

/-- `pvLoop` on states (which it leaves). -/
def runPv (sc : Fin 3) (mc : FVec F S1x512 .f32) (σ : St F) : ℕ → ℕ → FVec F S144x512 .f32 → FVec F S144x512 .f32
  | 0, _, acc => acc
  | n + 1, j, acc => runPv sc mc σ n (j + 1) (pvNext In sc (Fin.ofNat 16 j) mc acc σ)

/-- The state after maxima are kept. -/
def runStoreM (s : Fin 3) (m : FVec F S1x512 .f32) (σ : St F) : St F :=
  { σ with m := (rM s).overlay σ.m (shapeCast S1x1x512 m shapeCasts_S1x512_S1x1x512) }

/-- The state after the accumulator is kept. -/
def runStoreA (acc : FVec F S144x512 .f32) (σ : St F) : St F :=
  { σ with a := rA.overlay σ.a (shapeCast S144x512 acc shapeCasts_S144x512_S144x512) }

/-- The state after query block `t` is written out. -/
def runFinish (t : Fin 16) (σ : St F) : St F :=
  let x := outBlock (part rA σ.a) (part rL In.l1) (part rL In.l2) (part rL In.l3) (part rL In.l4) (part rG In.g)
  { σ with o := (rK t).overlay σ.o x }

/-- The query operand of query block `q`. -/
def qaOf (sl : F .f32) (w : BitVec 32) (q : Fin 16) : FVec F S256x512 .bf16 := qOperand sl w (part (rQ q) In.q)

/-- The maxima kept in a slot, as a row. -/
def mAt (s : Fin 3) (σ : St F) : FVec F S1x512 .f32 := shapeCast S1x512 (part (rM s) σ.m) shapeCasts_S1x1x512_S1x512

/-- The accumulator's start. -/
def acc0 : FVec F S144x512 .f32 := broadcast S144x512 (Scalar.ofBits .f32 0x00000000#32)

/-- `primeK` on states. -/
def runPrime (sl : F .f32) (w : BitVec 32) (s : Fin 3) (q : Fin 16) (σ : St F) : St F :=
  let r := runScores In s q.val (qaOf In sl w q) (q.val + 1) 0 (constant S1x512 .f32 0x00000000#32) σ
  runStoreM s r.1 r.2

/-- `stepK` on states. -/
def runStep (sl : F .f32) (w : BitVec 32) (sc sa : Fin 3) (qc q : Fin 16) (n : ℕ) (σ : St F) : St F :=
  let r := runMain In sc sa qc.val q.val (qaOf In sl w q) (mAt sc σ) n 0 (constant S1x512 .f32 0x00000000#32) acc0 σ
  runStoreA r.2.1 (runStoreM sa r.1 r.2.2)

/-- `tailK` on states. -/
def runTail (sc : Fin 3) (qc : Fin 16) (σ : St F) : St F :=
  runStoreA (runPv In sc (mAt sc σ) σ (qc.val + 1) 0 acc0) σ

/-- The first branch on states. -/
def runFirst (sl : F .f32) (σ : St F) : St F :=
  runStep In sl 0x45300000#32 2 1 15 11 16 <| runFinish In 14 <|
  runStep In sl 0x45500000#32 1 0 14 13 15 <| runFinish In 12 <|
  runStep In sl 0x45700000#32 0 2 12 15 16 <| runFinish In 10 <|
  runStep In sl 0x45600000#32 2 1 10 14 15 <| runFinish In 8 <|
  runStep In sl 0x45400000#32 1 0 8 12 13 <| runFinish In 6 <|
  runStep In sl 0x45200000#32 0 2 6 10 11 <| runFinish In 4 <|
  runStep In sl 0x45000000#32 2 1 4 8 9 <| runFinish In 2 <|
  runStep In sl 0x44C00000#32 1 0 2 6 7 <| runFinish In 0 <|
  runStep In sl 0x44800000#32 0 2 0 4 5 <|
  runPrime In sl 0x44000000#32 1 2 <| runPrime In sl 0x00000000#32 0 0 σ

/-- The second branch on states. -/
def runSecond (sl : F .f32) (σ : St F) : St F :=
  runFinish In 1 <| runTail In 0 1 <|
  runFinish In 3 <| runTail In 2 3 <|
  runFinish In 5 <| runStep In sl 0x43800000#32 1 0 5 1 6 <|
  runFinish In 7 <| runStep In sl 0x44400000#32 0 2 7 3 8 <|
  runFinish In 9 <| runStep In sl 0x44A00000#32 2 1 9 5 10 <|
  runFinish In 11 <| runStep In sl 0x44E00000#32 1 0 11 7 12 <|
  runFinish In 13 <| runStep In sl 0x45100000#32 0 2 13 9 14 <|
  runFinish In 15 σ

/-! ## Ownership of the blocks -/

section Own

variable (c : Dev nD) (R : Refs) (sh : Fin 9 → PosShare TreeShare)

/-- The input blocks owned at the shares `sh`, the output and the scratch buffers whole. -/
def held (σ : St F) : sProp 𝕄 :=
  iprop(owns (c : Thread nD τ) R.a3 (sh 0) In.q ∗ owns (c : Thread nD τ) R.a4 (sh 1) In.k ∗ owns (c : Thread nD τ) R.a5 (sh 2) In.p
    ∗ owns (c : Thread nD τ) R.a6 (sh 3) In.v ∗ owns (c : Thread nD τ) R.a7 (sh 4) In.l1 ∗ owns (c : Thread nD τ) R.a8 (sh 5) In.l2
    ∗ owns (c : Thread nD τ) R.a9 (sh 6) In.l3 ∗ owns (c : Thread nD τ) R.a10 (sh 7) In.l4 ∗ owns (c : Thread nD τ) R.a11 (sh 8) In.g
    ∗ owns (c : Thread nD τ) R.a12 fullShare σ.o ∗ owns (c : Thread nD τ) R.a13 fullShare σ.s ∗ owns (c : Thread nD τ) R.a14 fullShare σ.m
    ∗ owns (c : Thread nD τ) R.a15 fullShare σ.a)

/-- A part taken out of an assertion, another put back. -/
def Swap (O O' P P' : sProp 𝕄) : Prop := P ⊢ iprop(O ∗ (O' -∗ P'))

/-- The first of what is held. -/
theorem Swap.here {O O' P : sProp 𝕄} : Swap O O' iprop(O ∗ P) iprop(O' ∗ P) := by
  unfold Swap
  iintro ⟨H, HP⟩
  isplitl [H]; · iexact H
  iintro H'
  isplitl [H']; · iexact H'
  iexact HP

/-- All of what is held. -/
theorem Swap.last {O O' : sProp 𝕄} : Swap O O' O O' := by
  unfold Swap
  iintro H
  isplitl [H]; · iexact H
  iintro H'
  iexact H'

/-- One further along what is held. -/
theorem Swap.there {O O' P P' T : sProp 𝕄} (h : Swap O O' P P') : Swap O O' iprop(T ∗ P) iprop(T ∗ P') := by
  unfold Swap at h ⊢
  iintro ⟨HT, HP⟩
  ihave H := h $$ HP
  icases H with ⟨HO, HW⟩
  isplitl [HO]; · iexact HO
  iintro H'
  isplitl [HT]; · iexact HT
  iapply HW; iexact H'

/-- A load's weakest precondition, the block taken out of what is held. -/
theorem wp_ld {s : Shape} {e : EltTy} {m : Memref sig .tc .vmem s e} {r : Rect s} {h : m.view.LoadsAt r.toLoadRect}
    {k : (r.shape.Idx → Elt F e) → Pr F} {Q : PUnit → sProp 𝕄} {q : PosShare TreeShare} {X : s.Idx → Elt F e} {P : sProp 𝕄}
    (hs : Swap (owns (c : Thread nD τ) m q X) (owns (c : Thread nD τ) m q X) P P)
    (hk : P ⊢ wp frame (wpE (defs₀ (F := F)) Variants.none c none) Set.univ (k (part r X)) Q) :
    P ⊢ wp frame (wpE (defs₀ (F := F)) Variants.none c none) Set.univ (ld m r h k) Q := by
  unfold Swap at hs
  iintro HP
  ihave H := hs $$ HP
  icases H with ⟨HO, HW⟩
  unfold owns
  icases HO with ⟨%f, %hf, H⟩
  subst hf
  iapply (wp_load (c := (c : Thread nD τ)) Variants.none none Set.univ (hl := h) (k := k) (m.view.setOn_subset_set _)) $$ H
  iintro H
  iapply hk
  iapply HW
  iexists f
  isplitr; · ipureintro; rfl
  iexact H

/-- A store's weakest precondition, the block taken out of what is held and put back overlaid. -/
theorem wp_st {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    {k : PUnit → Pr F} {Q : PUnit → sProp 𝕄} {X : s.Idx → Elt F e} {P P' : sProp 𝕄}
    (hs : Swap (owns (c : Thread nD τ) m fullShare X) (owns (c : Thread nD τ) m fullShare (r.overlay X w)) P P')
    (hk : P' ⊢ wp frame (wpE (defs₀ (F := F)) Variants.none c none) Set.univ (k ⟨⟩) Q) :
    P ⊢ wp frame (wpE (defs₀ (F := F)) Variants.none c none) Set.univ (.op (.store m r w Finset.univ hx hm) k) Q := by
  unfold Swap at hs
  iintro HP
  ihave H := hs $$ HP
  icases H with ⟨HO, HW⟩
  unfold owns
  icases HO with ⟨%f, %hf, H⟩
  subst hf
  iapply (wp_store_writes₀ (c := (c : Thread nD τ)) Variants.none none Set.univ (w := w) (hx := hx) (hm := hm) (k := k) (f := f)
    (m.view.set_slice_subset r)) $$ H
  iintro H
  iapply hk
  iapply HW
  iexists (m.view.writes (Elt F) f [⟨r, w⟩])
  isplitr
  · ipureintro
    funext y
    by_cases hy : y ∈ r.set
    · obtain ⟨x, rfl⟩ := r.exists_idx_of_mem hy
      show _ = r.overlay _ w (r.emb x)
      rw [Rect.overlay_emb]; exact View.read_writes_cons_emb m.view f r w [] x
    · rw [Rect.overlay_of_not_mem r _ _ hy]
      exact View.read_writes_cons_miss m.view f ⟨r, w⟩ [] y hy
  iexact H

/-! ## Each block taken out of what is held -/

variable {c R sh In}

section
variable {σ : St F}

/-- The transposed queries, out of what is held. -/
theorem swap_q : Swap (owns (c : Thread nD τ) R.a3 (sh 0) In.q) (owns (c : Thread nD τ) R.a3 (sh 0) In.q) (held In c R sh σ) (held In c R sh σ) :=
  .here
/-- The keys, out of what is held. -/
theorem swap_k : Swap (owns (c : Thread nD τ) R.a4 (sh 1) In.k) (owns (c : Thread nD τ) R.a4 (sh 1) In.k) (held In c R sh σ) (held In c R sh σ) :=
  .there .here
/-- The position table, out of what is held. -/
theorem swap_p : Swap (owns (c : Thread nD τ) R.a5 (sh 2) In.p) (owns (c : Thread nD τ) R.a5 (sh 2) In.p) (held In c R sh σ) (held In c R sh σ) :=
  .there (.there .here)
/-- The transposed values, out of what is held. -/
theorem swap_v : Swap (owns (c : Thread nD τ) R.a6 (sh 3) In.v) (owns (c : Thread nD τ) R.a6 (sh 3) In.v) (held In c R sh σ) (held In c R sh σ) :=
  .there (.there (.there .here))
/-- The first lambda vector, out of what is held. -/
theorem swap_l1 : Swap (owns (c : Thread nD τ) R.a7 (sh 4) In.l1) (owns (c : Thread nD τ) R.a7 (sh 4) In.l1) (held In c R sh σ) (held In c R sh σ) :=
  .there (.there (.there (.there .here)))
/-- The second lambda vector, out of what is held. -/
theorem swap_l2 : Swap (owns (c : Thread nD τ) R.a8 (sh 5) In.l2) (owns (c : Thread nD τ) R.a8 (sh 5) In.l2) (held In c R sh σ) (held In c R sh σ) :=
  .there (.there (.there (.there (.there .here))))
/-- The third lambda vector, out of what is held. -/
theorem swap_l3 : Swap (owns (c : Thread nD τ) R.a9 (sh 6) In.l3) (owns (c : Thread nD τ) R.a9 (sh 6) In.l3) (held In c R sh σ) (held In c R sh σ) :=
  .there (.there (.there (.there (.there (.there .here)))))
/-- The fourth lambda vector, out of what is held. -/
theorem swap_l4 : Swap (owns (c : Thread nD τ) R.a10 (sh 7) In.l4) (owns (c : Thread nD τ) R.a10 (sh 7) In.l4) (held In c R sh σ) (held In c R sh σ) :=
  .there (.there (.there (.there (.there (.there (.there .here))))))
/-- The gain, out of what is held. -/
theorem swap_g : Swap (owns (c : Thread nD τ) R.a11 (sh 8) In.g) (owns (c : Thread nD τ) R.a11 (sh 8) In.g) (held In c R sh σ) (held In c R sh σ) :=
  .there (.there (.there (.there (.there (.there (.there (.there .here)))))))
/-- The output, out of what is held. -/
theorem swap_o {X : S1x4096x128.Idx → Elt F .bf16} :
    Swap (owns (c : Thread nD τ) R.a12 fullShare σ.o) (owns (c : Thread nD τ) R.a12 fullShare X) (held In c R sh σ)
      (held In c R sh { σ with o := X }) :=
  .there (.there (.there (.there (.there (.there (.there (.there (.there .here))))))))
/-- The scores, out of what is held. -/
theorem swap_s {X : S3x4096x512.Idx → Elt F .f32} :
    Swap (owns (c : Thread nD τ) R.a13 fullShare σ.s) (owns (c : Thread nD τ) R.a13 fullShare X) (held In c R sh σ)
      (held In c R sh { σ with s := X }) :=
  .there (.there (.there (.there (.there (.there (.there (.there (.there (.there .here)))))))))
/-- The maxima, out of what is held. -/
theorem swap_m {X : S3x1x512.Idx → Elt F .f32} :
    Swap (owns (c : Thread nD τ) R.a14 fullShare σ.m) (owns (c : Thread nD τ) R.a14 fullShare X) (held In c R sh σ)
      (held In c R sh { σ with m := X }) :=
  .there (.there (.there (.there (.there (.there (.there (.there (.there (.there (.there .here))))))))))
/-- The accumulator, out of what is held. -/
theorem swap_a {X : S144x512.Idx → Elt F .f32} :
    Swap (owns (c : Thread nD τ) R.a15 fullShare σ.a) (owns (c : Thread nD τ) R.a15 fullShare X) (held In c R sh σ)
      (held In c R sh { σ with a := X }) :=
  .there (.there (.there (.there (.there (.there (.there (.there (.there (.there (.there (.there .last)))))))))))

end

/-! ## The pieces -/

variable {Q : PUnit.{1} → sProp (MT nD τ sig Unit (Elt F) ℕ (UR sig nD τ) ℕ)}

/-- The weakest precondition of a program of the body, over what is held. -/
abbrev Runs (c : Dev nD) (Q : PUnit → sProp 𝕄) (P : sProp 𝕄) (p : Pr F) : Prop :=
  P ⊢ wp frame (wpE (defs₀ (F := F)) Variants.none c none) Set.univ p Q

/-- Putting a block of scores and taking its maximum. -/
theorem runs_putScore {s : Fin 3} {j : Fin 16} {first : Bool} {m : FVec F S1x512 .f32} {x : FVec F S256x512 .f32}
    {k : FVec F S1x512 .f32 → Pr F} {σ : St F} (hk : Runs c Q (held In c R sh (runPut s j x σ)) (k (maxNext first m x))) :
    Runs c Q (held In c R sh σ) (putScore R s j first m x k) := by
  refine wp_ld _ (swap_s (F := F)) ?_
  refine wp_st _ (swap_s (F := F)) ?_
  cases first
  · simp only [maxNext, cond_false] at hk ⊢; exact hk
  · simp only [maxNext, cond_true] at hk ⊢; exact hk

/-- Scoring one block. -/
theorem runs_scoreK {s : Fin 3} {j : Fin 16} {d first : Bool} {qa : FVec F S256x512 .bf16} {m : FVec F S1x512 .f32}
    {k : FVec F S1x512 .f32 → Pr F} {σ : St F}
    (hk : Runs c Q (held In c R sh (runPut s j (scoreOf In d qa j) σ)) (k (maxNext first m (scoreOf In d qa j)))) :
    Runs c Q (held In c R sh σ) (scoreK R s j d first qa m k) := by
  refine wp_ld _ (swap_k (F := F)) ?_
  refine wp_ld _ (swap_p (F := F)) ?_
  cases d
  · exact runs_putScore hk
  · exact runs_putScore hk

/-- Accumulating one block. -/
theorem runs_pvK {s : Fin 3} {j : Fin 16} {m : FVec F S1x512 .f32} {acc : FVec F S144x512 .f32} {k : FVec F S144x512 .f32 → Pr F}
    {σ : St F} (hk : Runs c Q (held In c R sh σ) (k (pvNext In s j m acc σ))) :
    Runs c Q (held In c R sh σ) (pvK R s j m acc k) := by
  refine wp_ld _ (swap_s (F := F)) ?_
  refine wp_ld _ (swap_v (F := F)) ?_
  exact hk

/-- Scoring several blocks. -/
theorem runs_scoreLoop {s : Fin 3} {q : ℕ} {qa : FVec F S256x512 .bf16} (n : ℕ) :
    ∀ {j : ℕ} {m : FVec F S1x512 .f32} {k : FVec F S1x512 .f32 → Pr F} {σ : St F}
      (_ : Runs c Q (held In c R sh (runScores In s q qa n j m σ).2) (k (runScores In s q qa n j m σ).1)),
      Runs c Q (held In c R sh σ) (scoreLoop R s q qa n j m k) := by
  induction n with
  | zero => intro j m k σ hk; exact hk
  | succ n ih => intro j m k σ hk; refine runs_scoreK (F := F) ?_; exact ih hk

/-- Accumulating several blocks. -/
theorem runs_pvLoop {s : Fin 3} {mc : FVec F S1x512 .f32} (n : ℕ) :
    ∀ {j : ℕ} {acc : FVec F S144x512 .f32} {k : FVec F S144x512 .f32 → Pr F} {σ : St F}
      (_ : Runs c Q (held In c R sh σ) (k (runPv In s mc σ n j acc))), Runs c Q (held In c R sh σ) (pvLoop R s mc n j acc k) := by
  induction n with
  | zero => intro j acc k σ hk; exact hk
  | succ n ih => intro j acc k σ hk; refine runs_pvK (F := F) ?_; exact ih hk

/-- Scoring and accumulating several blocks, in turns. -/
theorem runs_mainLoop {sc sa : Fin 3} {qc q : ℕ} {qa : FVec F S256x512 .bf16} {mc : FVec F S1x512 .f32} (n : ℕ) :
    ∀ {j : ℕ} {m : FVec F S1x512 .f32} {acc : FVec F S144x512 .f32} {k : FVec F S1x512 .f32 → FVec F S144x512 .f32 → Pr F} {σ : St F}
      (_ : Runs c Q (held In c R sh (runMain In sc sa qc q qa mc n j m acc σ).2.2)
        (k (runMain In sc sa qc q qa mc n j m acc σ).1 (runMain In sc sa qc q qa mc n j m acc σ).2.1)),
      Runs c Q (held In c R sh σ) (mainLoop R sc sa qc q qa mc n j m acc k) := by
  induction n with
  | zero => intro j m acc k σ hk; exact hk
  | succ n ih =>
    intro j m acc k σ hk
    rw [runMain.eq_def] at hk
    rw [mainLoop.eq_def]
    cases h1 : Nat.ble j q <;> cases h2 : Nat.ble j qc <;> simp only [h1, h2, cond_true, cond_false] at hk ⊢
    · exact ih hk
    · refine runs_pvK (F := F) ?_; exact ih hk
    · refine runs_scoreK (F := F) ?_; exact ih hk
    · refine runs_scoreK (F := F) ?_; refine runs_pvK (F := F) ?_; exact ih hk

/-- Storing a maximum. -/
theorem runs_storeM {s : Fin 3} {m : FVec F S1x512 .f32} {k : Pr F} {σ : St F} (hk : Runs c Q (held In c R sh (runStoreM s m σ)) k) :
    Runs c Q (held In c R sh σ) (storeM R s m k) := by
  refine wp_ld _ (swap_m (F := F)) ?_
  refine wp_st _ (swap_m (F := F)) ?_
  exact hk

/-- Storing the accumulator. -/
theorem runs_storeA {acc : FVec F S144x512 .f32} {k : Pr F} {σ : St F} (hk : Runs c Q (held In c R sh (runStoreA acc σ)) k) :
    Runs c Q (held In c R sh σ) (storeA R acc k) := by
  refine wp_ld _ (swap_a (F := F)) ?_
  refine wp_st _ (swap_a (F := F)) ?_
  exact hk

/-- Finishing a block of the output. -/
theorem runs_finishK {t : Fin 16} {k : Pr F} {σ : St F} (hk : Runs c Q (held In c R sh (runFinish In t σ)) k) :
    Runs c Q (held In c R sh σ) (finishK R t k) := by
  refine wp_ld _ (swap_a (F := F)) ?_
  refine wp_ld _ (swap_l1 (F := F)) ?_
  refine wp_ld _ (swap_l2 (F := F)) ?_
  refine wp_ld _ (swap_l3 (F := F)) ?_
  refine wp_ld _ (swap_l4 (F := F)) ?_
  refine wp_ld _ (swap_g (F := F)) ?_
  refine wp_ld _ (swap_o (F := F)) ?_
  refine wp_st _ (swap_o (F := F)) ?_
  exact hk

/-- Scoring the first block of queries. -/
theorem runs_primeK {sl : F .f32} {w : BitVec 32} {s : Fin 3} {q : Fin 16} {k : Pr F} {σ : St F}
    (hk : Runs c Q (held In c R sh (runPrime In sl w s q σ)) k) : Runs c Q (held In c R sh σ) (primeK R sl w s q k) := by
  refine wp_ld _ (swap_q (F := F)) ?_
  refine runs_scoreLoop (F := F) _ ?_
  refine runs_storeM (F := F) ?_
  exact hk

/-- One step: scoring a block of queries while accumulating the one before. -/
theorem runs_stepK {sl : F .f32} {w : BitVec 32} {sc sa : Fin 3} {qc q : Fin 16} {n : ℕ} {k : Pr F} {σ : St F}
    (hk : Runs c Q (held In c R sh (runStep In sl w sc sa qc q n σ)) k) : Runs c Q (held In c R sh σ) (stepK R sl w sc sa qc q n k) := by
  refine wp_ld _ (swap_q (F := F)) ?_
  refine wp_ld _ (swap_m (F := F)) ?_
  refine runs_mainLoop (F := F) _ ?_
  refine runs_storeM (F := F) ?_
  refine runs_storeA (F := F) ?_
  exact hk

/-- Accumulating the last block of queries. -/
theorem runs_tailK {sc : Fin 3} {qc : Fin 16} {k : Pr F} {σ : St F}
    (hk : Runs c Q (held In c R sh (runTail In sc qc σ)) k) : Runs c Q (held In c R sh σ) (tailK R sc qc k) := by
  refine wp_ld _ (swap_m (F := F)) ?_
  refine runs_pvLoop (F := F) _ ?_
  refine runs_storeA (F := F) ?_
  exact hk

/-- A program that has ended. -/
theorem runs_ret (P : sProp 𝕄) : Runs c (fun _ => P) P (.ret ⟨⟩ : Pr F) :=
  le_wp_ret frame (wpE (defs₀ (F := F)) Variants.none c none) Set.univ PUnit.unit (fun _ => P)

/-- The first branch ends with what is held at `runFirst`. -/
theorem runs_progFirst (sl : F .f32) {σ : St F} :
    Runs c (fun _ => held In c R sh (runFirst In sl σ)) (held In c R sh σ) (progFirst R sl) := by
  refine runs_primeK (F := F) ?_
  refine runs_primeK (F := F) ?_
  refine runs_stepK (F := F) ?_
  refine runs_finishK (F := F) ?_
  refine runs_stepK (F := F) ?_
  refine runs_finishK (F := F) ?_
  refine runs_stepK (F := F) ?_
  refine runs_finishK (F := F) ?_
  refine runs_stepK (F := F) ?_
  refine runs_finishK (F := F) ?_
  refine runs_stepK (F := F) ?_
  refine runs_finishK (F := F) ?_
  refine runs_stepK (F := F) ?_
  refine runs_finishK (F := F) ?_
  refine runs_stepK (F := F) ?_
  refine runs_finishK (F := F) ?_
  refine runs_stepK (F := F) ?_
  refine runs_finishK (F := F) ?_
  refine runs_stepK (F := F) ?_
  exact runs_ret (held In c R sh (runFirst In sl σ))

/-- The second branch ends with what is held at `runSecond`. -/
theorem runs_progSecond (sl : F .f32) {σ : St F} :
    Runs c (fun _ => held In c R sh (runSecond In sl σ)) (held In c R sh σ) (progSecond R sl) := by
  refine runs_finishK (F := F) ?_
  refine runs_stepK (F := F) ?_
  refine runs_finishK (F := F) ?_
  refine runs_stepK (F := F) ?_
  refine runs_finishK (F := F) ?_
  refine runs_stepK (F := F) ?_
  refine runs_finishK (F := F) ?_
  refine runs_stepK (F := F) ?_
  refine runs_finishK (F := F) ?_
  refine runs_stepK (F := F) ?_
  refine runs_finishK (F := F) ?_
  refine runs_tailK (F := F) ?_
  refine runs_finishK (F := F) ?_
  refine runs_tailK (F := F) ?_
  refine runs_finishK (F := F) ?_
  exact runs_ret (held In c R sh (runSecond In sl σ))

end Own

end Cert.KernelIdeal.Attn

end
-- ==== Proof.EqFirst.lean ====
/-
  The switch's first branch is the structured program `progFirst`: both sides are the same sequence of effects on the same values.
-/
module

public import proofs.«01_k».proof.Proof.Steps

@[expose] public section

set_option maxRecDepth 65536

noncomputable section

namespace Cert.KernelIdeal.Attn

open Cert.KernelIdeal Cert.KernelIdeal.Gen
open Idealize.ShloMosaic Idealize.ShloMosaic.TcCoe
open Idealize.SL Idealize.SL.Sem

variable {F : FTy → Type} [FloatOps F]

attribute [local irreducible] maximumf addf mulf subf divf exp rsqrt select shapeCast multiReduction broadcastTo broadcast truncf concatenate extractStridedSlice transpose iota cmpi sitofp constant

set_option maxHeartbeats 0 in
/-- At the grid points of the first branch the body is `progFirst`. -/
theorem body_eq_first
    (i : grid0.Coords) (arg3 : Memref sig .tc .vmem S1x16x128x256 .bf16) (harg3 : arg3.IsWhole)
    (arg4 : Memref sig .tc .vmem S1x4096x128 .bf16) (harg4 : arg4.IsWhole) (arg5 : Memref sig .tc .vmem S4096x128 .bf16)
    (harg5 : arg5.IsWhole) (arg6 : Memref sig .tc .vmem S1x16x128x256 .bf16) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32)
    (harg10 : arg10.IsWhole) (arg11 : Memref sig .tc .vmem S1x128 .f32) (harg11 : arg11.IsWhole)
    (arg12 : Memref sig .tc .vmem S1x4096x128 .bf16) (harg12 : arg12.IsWhole) (arg13 : Memref sig .tc .vmem S3x4096x512 .f32)
    (harg13 : arg13.IsWhole) (arg14 : Memref sig .tc .vmem S3x1x512 .f32) (harg14 : arg14.IsWhole)
    (arg15 : Memref sig .tc .vmem S144x512 .f32) (harg15 : arg15.IsWhole)
    (h : ¬ k0_cond1 i = 1#1) :
    cc0_diff_attn (F := F) i arg3 harg3 arg4 harg4 arg5 harg5 arg6 harg6 arg7 harg7 arg8 harg8 arg9 harg9 arg10 harg10 arg11 harg11 arg12 harg12 arg13 harg13 arg14 harg14 arg15 harg15
      = progFirst ⟨arg3, arg4, arg5, arg6, arg7, arg8, arg9, arg10, arg11, arg12, harg12, arg13, arg14, arg15⟩ (slopeOf i) := by
  refine dite_right h ?_
  iterate 50 (refine op_congr rfl fun x => ?_)
  iterate 50 (refine op_congr rfl fun x => ?_)
  iterate 50 (refine op_congr rfl fun x => ?_)
  iterate 50 (refine op_congr rfl fun x => ?_)
  iterate 50 (refine op_congr rfl fun x => ?_)
  iterate 50 (refine op_congr rfl fun x => ?_)
  iterate 50 (refine op_congr rfl fun x => ?_)
  iterate 50 (refine op_congr rfl fun x => ?_)
  iterate 50 (refine op_congr rfl fun x => ?_)
  iterate 50 (refine op_congr rfl fun x => ?_)
  iterate 50 (refine op_congr rfl fun x => ?_)
  iterate 50 (refine op_congr rfl fun x => ?_)
  iterate 50 (refine op_congr rfl fun x => ?_)
  iterate 50 (refine op_congr rfl fun x => ?_)
  rfl

end Cert.KernelIdeal.Attn

end
-- ==== Proof.EqSecond.lean ====
/-
  The switch's second branch is the structured program `progSecond`: both sides are the same sequence of effects on the same values.
-/
module

public import proofs.«01_k».proof.Proof.Steps

@[expose] public section

set_option maxRecDepth 65536

noncomputable section

namespace Cert.KernelIdeal.Attn

open Cert.KernelIdeal Cert.KernelIdeal.Gen
open Idealize.ShloMosaic Idealize.ShloMosaic.TcCoe
open Idealize.SL Idealize.SL.Sem

variable {F : FTy → Type} [FloatOps F]

attribute [local irreducible] maximumf addf mulf subf divf exp rsqrt select shapeCast multiReduction broadcastTo broadcast truncf concatenate extractStridedSlice transpose iota cmpi sitofp constant

set_option maxHeartbeats 0 in
/-- At the grid points of the second branch the body is `progSecond`. -/
theorem body_eq_second
    (i : grid0.Coords) (arg3 : Memref sig .tc .vmem S1x16x128x256 .bf16) (harg3 : arg3.IsWhole)
    (arg4 : Memref sig .tc .vmem S1x4096x128 .bf16) (harg4 : arg4.IsWhole) (arg5 : Memref sig .tc .vmem S4096x128 .bf16)
    (harg5 : arg5.IsWhole) (arg6 : Memref sig .tc .vmem S1x16x128x256 .bf16) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32)
    (harg10 : arg10.IsWhole) (arg11 : Memref sig .tc .vmem S1x128 .f32) (harg11 : arg11.IsWhole)
    (arg12 : Memref sig .tc .vmem S1x4096x128 .bf16) (harg12 : arg12.IsWhole) (arg13 : Memref sig .tc .vmem S3x4096x512 .f32)
    (harg13 : arg13.IsWhole) (arg14 : Memref sig .tc .vmem S3x1x512 .f32) (harg14 : arg14.IsWhole)
    (arg15 : Memref sig .tc .vmem S144x512 .f32) (harg15 : arg15.IsWhole)
    (h : k0_cond1 i = 1#1) :
    cc0_diff_attn (F := F) i arg3 harg3 arg4 harg4 arg5 harg5 arg6 harg6 arg7 harg7 arg8 harg8 arg9 harg9 arg10 harg10 arg11 harg11 arg12 harg12 arg13 harg13 arg14 harg14 arg15 harg15
      = progSecond ⟨arg3, arg4, arg5, arg6, arg7, arg8, arg9, arg10, arg11, arg12, harg12, arg13, arg14, arg15⟩ (slopeOf i) := by
  refine dite_left h ?_
  iterate 50 (refine op_congr rfl fun x => ?_)
  iterate 50 (refine op_congr rfl fun x => ?_)
  iterate 50 (refine op_congr rfl fun x => ?_)
  iterate 50 (refine op_congr rfl fun x => ?_)
  iterate 50 (refine op_congr rfl fun x => ?_)
  iterate 50 (refine op_congr rfl fun x => ?_)
  iterate 32 (refine op_congr rfl fun x => ?_)
  rfl

end Cert.KernelIdeal.Attn

end
-- ==== Proof.Run.lean ====
/-
  The launch. At every grid point the body takes the blocks it is handed to `runAt`; a `Plan` says what the scratch
  buffers and the output block satisfy from point to point, and `run_main` is the run of the whole program, concluding the
  pipeline's post at the data that plan names.
-/
module

public import proofs.«01_k».proof.Proof.Wp
public import proofs.«01_k».proof.Proof.EqFirst
public import proofs.«01_k».proof.Proof.EqSecond
public import Idealize.ShloMosaic.Lib.Pipeline.DatRel
public import Idealize.ShloMosaic.Lib.Pipeline.FrameBody

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The nine input blocks at a grid point. -/
def insAt (c : Dev nD) (t : Fin cfg0.N) : Ins F where
  q := iblk m c 0 t
  k := iblk m c 1 t
  p := iblk m c 2 t
  v := iblk m c 3 t
  l1 := iblk m c 4 t
  l2 := iblk m c 5 t
  l3 := iblk m c 6 t
  l4 := iblk m c 7 t
  g := iblk m c 8 t

/-- The body at a grid point, on states. -/
def runAt (In : Ins F) (i : grid0.Coords) (σ : St F) : St F :=
  if k0_cond1 i = 1#1 then runSecond In (slopeOf i) σ else runFirst In (slopeOf i) σ

/-- The block references of a grid point. -/
def refsAt (t : Fin cfg0.N) : Refs where
  a3 := win0_0.stage (cfg0.slots t 0)
  a4 := win0_1.stage (cfg0.slots t 1)
  a5 := win0_2.stage (cfg0.slots t 2)
  a6 := win0_3.stage (cfg0.slots t 3)
  a7 := win0_4.stage (cfg0.slots t 4)
  a8 := win0_5.stage (cfg0.slots t 5)
  a9 := win0_6.stage (cfg0.slots t 6)
  a10 := win0_7.stage (cfg0.slots t 7)
  a11 := win0_8.stage (cfg0.slots t 8)
  a12 := win0_9.stage (cfg0.slots t 9)
  h12 := hstage0_9 ((cfg0.slots t 9).cast nbuf0_9)
  a13 := Memref.whole cc0_scratch0
  a14 := Memref.whole cc0_scratch1
  a15 := Memref.whole cc0_scratch2

/-- The body at a grid point takes what is held to `runAt`. -/
theorem runs_body (c : Dev nD) (t : Fin cfg0.N) (In : Ins F) (σ : St F) :
    Runs c (fun _ => held In c (refsAt t) (fun _ => fullShare) (runAt In (grid0.coords t) σ))
      (held In c (refsAt t) (fun _ => fullShare) σ) (bodyAt0 t) := by
  unfold bodyAt0 runAt
  by_cases h : k0_cond1 (grid0.coords t) = 1#1
  · rw [if_pos h, body_eq_second (h := h)]
    exact runs_progSecond _
  · rw [if_neg h, body_eq_first (h := h)]
    exact runs_progFirst _

/-- What the scratch buffers satisfy before each grid point, what the output block satisfies after each, and that the body
    keeps it so. -/
structure Plan where
  /-- What the scratch buffers satisfy before a point. -/
  inv : Dev nD → ℕ → (S3x4096x512.Idx → Elt F .f32) → (S3x1x512.Idx → Elt F .f32) → (S144x512.Idx → Elt F .f32) → Prop
  /-- What the output block satisfies after a point. -/
  out : Dev nD → Fin cfg0.N → (S1x4096x128.Idx → Elt F .bf16) → Prop
  /-- Nothing is asked before the first point. -/
  start : ∀ c s mx a, inv c 0 s mx a
  /-- The body keeps it so. -/
  step : ∀ c (t : Fin cfg0.N) (σ : St F), inv c t.val σ.s σ.m σ.a →
    (∀ t' : Fin cfg0.N, t'.val + 1 = t.val → (cfg0.win 9).flush t' = false → out c t' σ.o) →
    inv c (t.val + 1) (runAt (insAt m c t) (grid0.coords t) σ).s (runAt (insAt m c t) (grid0.coords t) σ).m
        (runAt (insAt m c t) (grid0.coords t) σ).a
      ∧ out c t (runAt (insAt m c t) (grid0.coords t) σ).o

variable {m}
variable (pl : Plan m)

/-- The invariant between grid points: the scratch buffers at contents the plan allows, the generator register at any. -/
def inv (c : Dev nD) (n : ℕ) : sProp 𝕄 :=
  iprop(∃ s, ∃ mx, ∃ a, ⌜pl.inv c n s mx a⌝ ∗ owns (c : Thread nD τ) (Memref.whole cc0_scratch0) fullShare s
    ∗ owns (c : Thread nD τ) (Memref.whole cc0_scratch1) fullShare mx ∗ owns (c : Thread nD τ) (Memref.whole cc0_scratch2) fullShare a
    ∗ ∃ r, prngReg c r)

/-- The one window whose contents are held to a predicate: the output. -/
def rel0 : Fin 10 → Bool := fun w => w == 9

/-- The predicate. -/
def relOf (c : Dev nD) : (w : Fin cfg0.W) → Fin cfg0.N → ((cfg0.win w).block.Idx → Elt F (cfg0.win w).elt) → Prop
  | ⟨9, _⟩ => fun t X => pl.out c t X
  | _ => fun _ _ => True

/-- The proof data: the arrays as the region finds them, the input blocks left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Pipeline.Dat.unnamed (cfg := cfg0) 9 t
  Φ t := inv pl c t.val
  q _ := fullShare
  owed _ := 0

/-- The proof data's arrays are the ones the launch finds. -/
theorem A_eq (c : Dev nD) (w : Fin cfg0.W) : (dats pl 0 c).A w = V m c (Pipeline.arrRef spec0 w) := by dsimp only [dats]

/-- Before a point, input window 0 holds its block. -/
theorem before_0 (c : Dev nD) (t : Fin cfg0.N) (d) : (dats pl 0 c).before 0 t d = iblk m c 0 t := before0_0_of m _ (A_eq pl c 0) (fun _ => by dsimp only [dats]) t d
/-- Before a point, input window 1 holds its block. -/
theorem before_1 (c : Dev nD) (t : Fin cfg0.N) (d) : (dats pl 0 c).before 1 t d = iblk m c 1 t := before0_1_of m _ (A_eq pl c 1) (fun _ => by dsimp only [dats]) t d
/-- Before a point, input window 2 holds its block. -/
theorem before_2 (c : Dev nD) (t : Fin cfg0.N) (d) : (dats pl 0 c).before 2 t d = iblk m c 2 t := before0_2_of m _ (A_eq pl c 2) (fun _ => by dsimp only [dats]) t d
/-- Before a point, input window 3 holds its block. -/
theorem before_3 (c : Dev nD) (t : Fin cfg0.N) (d) : (dats pl 0 c).before 3 t d = iblk m c 3 t := before0_3_of m _ (A_eq pl c 3) (fun _ => by dsimp only [dats]) t d
/-- Before a point, input window 4 holds its block. -/
theorem before_4 (c : Dev nD) (t : Fin cfg0.N) (d) : (dats pl 0 c).before 4 t d = iblk m c 4 t := before0_4_of m _ (A_eq pl c 4) (fun _ => by dsimp only [dats]) t d
/-- Before a point, input window 5 holds its block. -/
theorem before_5 (c : Dev nD) (t : Fin cfg0.N) (d) : (dats pl 0 c).before 5 t d = iblk m c 5 t := before0_5_of m _ (A_eq pl c 5) (fun _ => by dsimp only [dats]) t d
/-- Before a point, input window 6 holds its block. -/
theorem before_6 (c : Dev nD) (t : Fin cfg0.N) (d) : (dats pl 0 c).before 6 t d = iblk m c 6 t := before0_6_of m _ (A_eq pl c 6) (fun _ => by dsimp only [dats]) t d
/-- Before a point, input window 7 holds its block. -/
theorem before_7 (c : Dev nD) (t : Fin cfg0.N) (d) : (dats pl 0 c).before 7 t d = iblk m c 7 t := before0_7_of m _ (A_eq pl c 7) (fun _ => by dsimp only [dats]) t d
/-- Before a point, input window 8 holds its block. -/
theorem before_8 (c : Dev nD) (t : Fin cfg0.N) (d) : (dats pl 0 c).before 8 t d = iblk m c 8 t := before0_8_of m _ (A_eq pl c 8) (fun _ => by dsimp only [dats]) t d

/-- What the output block may hold when the body finds it: after a point that did not write it back, what the plan says. -/
theorem out_of_finds (c : Dev nD) (t : Fin cfg0.N) (Y : (cfg0.win 9).block.Idx → Elt F (cfg0.win 9).elt)
    (h : ((dats pl 0 c).toRRel rel0 (relOf pl c)).Finds 9 t Y) (t' : Fin cfg0.N) (ht : t'.val + 1 = t.val)
    (hf : (cfg0.win 9).flush t' = false) : pl.out c t' Y := by
  rw [Pipeline.RDat.finds_of_pos _ ((cfg0.win 9).fetch_out rfl t) (by omega)] at h
  have e : (⟨t.val - 1, Nat.lt_of_le_of_lt (Nat.sub_le _ _) t.isLt⟩ : Fin cfg0.N) = t' := Fin.ext (by simp only; omega)
  rw [e, hf] at h
  rcases h with h | h
  · exact absurd h (by decide)
  · exact (dats pl 0 c).toRRel_leaves (by decide) h

/-- What the body is called with at point `t`. -/
def bodyPre (c : Dev nD) (t : Fin cfg0.N) : sProp 𝕄 :=
  iprop(inv pl c t.val ∗ (dats pl 0 c).owesAt () t.castSucc
    ∗ (∃ d, owns (c : Thread nD τ) (refsAt t).a3 fullShare ((dats pl 0 c).before 0 t d))
    ∗ (∃ d, owns (c : Thread nD τ) (refsAt t).a4 fullShare ((dats pl 0 c).before 1 t d))
    ∗ (∃ d, owns (c : Thread nD τ) (refsAt t).a5 fullShare ((dats pl 0 c).before 2 t d))
    ∗ (∃ d, owns (c : Thread nD τ) (refsAt t).a6 fullShare ((dats pl 0 c).before 3 t d))
    ∗ (∃ d, owns (c : Thread nD τ) (refsAt t).a7 fullShare ((dats pl 0 c).before 4 t d))
    ∗ (∃ d, owns (c : Thread nD τ) (refsAt t).a8 fullShare ((dats pl 0 c).before 5 t d))
    ∗ (∃ d, owns (c : Thread nD τ) (refsAt t).a9 fullShare ((dats pl 0 c).before 6 t d))
    ∗ (∃ d, owns (c : Thread nD τ) (refsAt t).a10 fullShare ((dats pl 0 c).before 7 t d))
    ∗ (∃ d, owns (c : Thread nD τ) (refsAt t).a11 fullShare ((dats pl 0 c).before 8 t d))
    ∗ (∃ Y, ⌜((dats pl 0 c).toRRel rel0 (relOf pl c)).Finds 9 t Y⌝ ∗ owns (c : Thread nD τ) (refsAt t).a12 fullShare Y))

/-- What the body returns at point `t`. -/
def bodyPost (c : Dev nD) (t : Fin cfg0.N) : sProp 𝕄 :=
  iprop(inv pl c (t.val + 1) ∗ (dats pl 0 c).owesAt () t.castSucc
    ∗ owns (c : Thread nD τ) (refsAt t).a3 fullShare (insAt m c t).q
    ∗ owns (c : Thread nD τ) (refsAt t).a4 fullShare (insAt m c t).k
    ∗ owns (c : Thread nD τ) (refsAt t).a5 fullShare (insAt m c t).p
    ∗ owns (c : Thread nD τ) (refsAt t).a6 fullShare (insAt m c t).v
    ∗ owns (c : Thread nD τ) (refsAt t).a7 fullShare (insAt m c t).l1
    ∗ owns (c : Thread nD τ) (refsAt t).a8 fullShare (insAt m c t).l2
    ∗ owns (c : Thread nD τ) (refsAt t).a9 fullShare (insAt m c t).l3
    ∗ owns (c : Thread nD τ) (refsAt t).a10 fullShare (insAt m c t).l4
    ∗ owns (c : Thread nD τ) (refsAt t).a11 fullShare (insAt m c t).g
    ∗ (∃ X, ⌜pl.out c t X⌝ ∗ owns (c : Thread nD τ) (refsAt t).a12 fullShare X))

set_option maxHeartbeats 1000000 in
/-- The body at a point: what it is called with is enough for what it returns. -/
theorem sound_body (c : Dev nD) (t : Fin cfg0.N) : Runs c (fun _ => bodyPost pl c t) (bodyPre pl c t) (bodyAt0 t) := by
  unfold bodyPre bodyPost
  simp only [before_0, before_1, before_2, before_3, before_4, before_5, before_6, before_7, before_8]
  unfold inv
  iintro ⟨⟨%s, %mx, %a, %hinv, HS, HM, HA, HP⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y, %hY, H9⟩⟩
  have hst := pl.step c t ⟨Y, s, mx, a⟩ hinv (fun t' ht hf => out_of_finds pl c t Y hY t' ht hf)
  iapply (wp_wand_r frame (wpE (defs₀ (F := F)) Variants.none c none) Set.univ (p := bodyAt0 t)
    (Q := fun _ => held (insAt m c t) c (refsAt t) (fun _ => fullShare) (runAt (insAt m c t) (grid0.coords t) ⟨Y, s, mx, a⟩)))
  isplitl [H0 H1 H2 H3 H4 H5 H6 H7 H8 H9 HS HM HA]
  · iapply (runs_body c t (insAt m c t) ⟨Y, s, mx, a⟩)
    unfold held
    dsimp only [insAt]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    isplitl [HM]; · iexact HM
    iexact HA
  iintro %u
  unfold held
  iintro ⟨H0, H1, H2, H3, H4, H5, H6, H7, H8, H9, HS, HM, HA⟩
  isplitl [HS HM HA HP]
  · iexists _, _, _
    isplitr; · ipureintro; exact hst.1
    isplitl [HS]; · iexact HS
    isplitl [HM]; · iexact HM
    isplitl [HA]; · iexact HA
    iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _
  isplitr; · ipureintro; exact hst.2
  iexact H9

/-- The body table's row at a point. -/
theorem defs₀_row (t : Fin cfg0.N) : defs₀ (F := F) .tc cfg0.body (cfg0.bodyArgs t (cfg0.slots t)) = bodyAt0 t := by
  unfold defs₀; rw [Defs.onTc_tc]

/-- The pipeline's body obligation, the output held to the plan. -/
theorem body_obligation (c : Dev nD) :
    BodyObligationRel (dats pl 0 c) (defs₀ (F := F)) Variants.none () Set.univ rel0 (relOf pl c) := fun t => by
  rw [bigSep_W0, bigSep_W0, defs₀_row]
  exact triple_restated (sound_body pl c t) rfl .rfl fun _ => .rfl

/-- The launch's invariant gives the plan's before the first point. -/
theorem inv_start (c : Dev nD) : (Pipeline.ΦA spec0 c : sProp 𝕄) ⊢ inv pl c 0 := by
  unfold Pipeline.ΦA inv
  rw [scopedRest0_eq]
  simp only [owns_whole]
  iintro ⟨⟨⟨%f, HS⟩, ⟨%g, HM⟩, ⟨%h, HA⟩⟩, HP⟩
  iexists f, g, h
  isplitr; · ipureintro; exact pl.start c f g h
  isplitl [HS]; · iexact HS
  isplitl [HM]; · iexact HM
  isplitl [HA]; · iexact HA
  iexact HP

/-- The plan's invariant gives the launch's back. -/
theorem inv_end (c : Dev nD) (n : ℕ) : inv pl c n ⊢ (Pipeline.ΦA spec0 c : sProp 𝕄) := by
  unfold Pipeline.ΦA inv
  rw [scopedRest0_eq]
  simp only [owns_whole]
  iintro ⟨%f, %g, %h, -, HS, HM, HA, HP⟩
  isplitl [HS HM HA]
  · isplitl [HS]; · iexists f; iexact HS
    isplitl [HM]; · iexists g; iexact HM
    iexists h; iexact HA
  iexact HP

set_option backward.isDefEq.respectTransparency.types false in
/-- From any memory with zero counters every weakly fair execution terminates, the arrays as the plan says and every
    semaphore counter at zero. -/
theorem run_main :
    θ_run defs (onTc (τ := τ) (main (F := F))) (s₀ m ρ)
      (fun r => Pipeline.RDat.FramePost (cfgs 0) (fun c => (dats pl 0 c).toRRel rel0 (relOf pl c)) (V m) r ∧ r.2.sem = fun _ => 0) :=
  Pipeline.RDat.θ_run_frame_track (Q' := _) cfgs (0 : Fin 1) launch0 defs₀ Variants.none
    (fun c => (dats pl 0 c).toRRel rel0 (relOf pl c)) m ρ main
    (hbody := fun c => (body_obligation pl c).toRRel)
    (hshare := fun c => (dats pl 0 c).share_full fun _ => rfl) (howed := fun _ _ => rfl) (V := V m)
    (hmain := hmain m Variants.none) (hA := A_eq pl)
    (hin := inv_start pl) (hout := fun c => inv_end pl c _)

/-- The plan that asks nothing. -/
def noPlan : Plan m where
  inv _ _ _ _ _ := True
  out _ _ _ := True
  start _ _ _ _ := trivial
  step _ _ _ _ _ := ⟨trivial, trivial⟩

/-- The arguments are as launched after the run, and the counters at zero. -/
theorem run_frame :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)
    (run_main ρ (noPlan (m := m)))

end Cert.KernelIdeal.Attn

end
-- ==== Proof.Slots.lean ====
/-
  What the scratch buffers and the output block hold along the body: each score slot the scores of one query block against
  every key block up to its own, with the largest of each query; the accumulator the weighted sums of one query block; the
  output block the query blocks written out so far.
-/
module

public import proofs.«01_k».proof.Proof.Wp
public import Idealize.ShloMosaic.Lib.Pipeline.Value

@[expose] public section

set_option maxRecDepth 16384

noncomputable section

namespace Cert.KernelIdeal.Attn

open Cert.KernelIdeal Cert.KernelIdeal.Gen
open Idealize.ShloMosaic

variable {F : FTy → Type} [FloatOps F]

/-! ## Parts of an overlaid block -/

/-- A block just written reads back as what was written. -/
theorem part_overlay {s : Shape} {α : Type} (r : Rect s) (X : s.Idx → α) (w : r.shape.Idx → α) : part r (r.overlay X w) = w :=
  funext fun x => Rect.overlay_emb r X w x

/-- A block apart from the one written reads as before. -/
theorem part_overlay_ne {s : Shape} {α : Type} (r r' : Rect s) (X : s.Idx → α) (w : r'.shape.Idx → α)
    (h : ∀ x y, r'.emb y ≠ r.emb x) : part r (r'.overlay X w) = part r X :=
  funext fun x => Rect.overlay_of_not_mem r' X w fun hm => by
    obtain ⟨y, hy⟩ := r'.exists_idx_of_mem hm
    exact h x y hy

/-- Two different blocks of the scores have no entry in common. -/
theorem rS_ne (s s' : Fin 3) (j j' : Fin 16) (h : s ≠ s' ∨ j ≠ j') (x : (rS s j).shape.Idx) (y : (rS s' j').shape.Idx) :
    (rS s' j').emb y ≠ (rS s j).emb x := fun e => by
  have e0 := congrArg (fun z => (z 0 : Nat)) e
  have e1 := congrArg (fun z => (z 1 : Nat)) e
  have x0 : (x 0 : Nat) < 1 := (x 0).isLt
  have y0 : (y 0 : Nat) < 1 := (y 0).isLt
  have x1 : (x 1 : Nat) < 256 := (x 1).isLt
  have y1 : (y 1 : Nat) < 256 := (y 1).isLt
  have f0 : s'.val + 1 * (y 0 : Nat) = s.val + 1 * (x 0 : Nat) := e0
  have f1 : 256 * j'.val + 1 * (y 1 : Nat) = 256 * j.val + 1 * (x 1 : Nat) := e1
  rcases h with h | h
  · exact h (Fin.ext (by omega))
  · exact h (Fin.ext (by omega))

/-- Two slots' rows of the maxima have no entry in common. -/
theorem rM_ne (s s' : Fin 3) (h : s ≠ s') (x : (rM s).shape.Idx) (y : (rM s').shape.Idx) : (rM s').emb y ≠ (rM s).emb x := fun e => by
  have e0 := congrArg (fun z => (z 0 : Nat)) e
  have x0 : (x 0 : Nat) < 1 := (x 0).isLt
  have y0 : (y 0 : Nat) < 1 := (y 0).isLt
  have f0 : s'.val + 1 * (y 0 : Nat) = s.val + 1 * (x 0 : Nat) := e0
  exact h (Fin.ext (by omega))

/-- Two different blocks of rows have no entry in common. -/
theorem rK_ne (j j' : Fin 16) (h : j ≠ j') (x : (rK j).shape.Idx) (y : (rK j').shape.Idx) : (rK j').emb y ≠ (rK j).emb x := fun e => by
  have e1 := congrArg (fun z => (z 1 : Nat)) e
  have x1 : (x 1 : Nat) < 256 := (x 1).isLt
  have y1 : (y 1 : Nat) < 256 := (y 1).isLt
  have f1 : 256 * j'.val + 1 * (y 1 : Nat) = 256 * j.val + 1 * (x 1 : Nat) := e1
  exact h (Fin.ext (by omega))

/-! ## What is kept for a query block -/

variable (In : Ins F) (sl : F .f32)

/-- The word of the first place of a query block, as a float. -/
def wOf : Fin 16 → BitVec 32 := ![0x00000000#32, 0x43800000#32, 0x44000000#32, 0x44400000#32, 0x44800000#32, 0x44A00000#32, 0x44C00000#32,
  0x44E00000#32, 0x45000000#32, 0x45100000#32, 0x45200000#32, 0x45300000#32, 0x45400000#32, 0x45500000#32, 0x45600000#32, 0x45700000#32]

/-- The scores of query block `q` against key block `j`. -/
def blk (q : Fin 16) (j : ℕ) : FVec F S256x512 .f32 := scoreOf In (Nat.beq j q.val) (qaOf In sl (wOf q) q) (Fin.ofNat 16 j)

/-- The largest scores of query block `q` against the first `n` key blocks. -/
def maxUpto (q : Fin 16) : ℕ → FVec F S1x512 .f32
  | 0 => constant S1x512 .f32 0x00000000#32
  | n + 1 => maxNext (Nat.beq n 0) (maxUpto q n) (blk In sl q n)

/-- The largest scores of query block `q`. -/
def mxOf (q : Fin 16) : FVec F S1x512 .f32 := maxUpto In sl q (q.val + 1)

/-- The weighted sums of query block `q` over the first `n` key blocks. -/
def accUpto (q : Fin 16) : ℕ → FVec F S144x512 .f32
  | 0 => acc0
  | n + 1 => pvStep (mxOf In sl q) (accUpto q n) (shapeCast S1x256x512 (blk In sl q n) shapeCasts_S256x512_S1x256x512)
      (part (rQ (Fin.ofNat 16 n)) In.v)

/-- The weighted sums of query block `q`. -/
def accOf (q : Fin 16) : FVec F S144x512 .f32 := accUpto In sl q (q.val + 1)

/-- What is written out for query block `q`. -/
def outOf (q : Fin 16) : FVec F S1x256x128 .bf16 :=
  outBlock (accOf In sl q) (part rL In.l1) (part rL In.l2) (part rL In.l3) (part rL In.l4) (part rG In.g)

/-- A slot holds the scores of query block `q` against the first `n` key blocks. -/
def Kept (S : S3x4096x512.Idx → Elt F .f32) (s : Fin 3) (q : Fin 16) (n : ℕ) : Prop :=
  ∀ j, j < n → part (rS s (Fin.ofNat 16 j)) S = shapeCast S1x256x512 (blk In sl q j) shapeCasts_S256x512_S1x256x512

/-- A slot holds query block `q`. -/
def Slot (σ : St F) (s : Fin 3) (q : Fin 16) : Prop := Kept In sl σ.s s q (q.val + 1) ∧ mAt s σ = mxOf In sl q

/-- The accumulator holds query block `q`. -/
def Acc (σ : St F) (q : Fin 16) : Prop := part rA σ.a = accOf In sl q

/-- Query block `q` is written out. -/
def Out (o : S1x4096x128.Idx → Elt F .bf16) (q : Fin 16) : Prop := part (rK q) o = outOf In sl q

variable {In sl}

/-- Different numbers below 16 stay different. -/
theorem ofNat_ne {i j : ℕ} (hi : i < 16) (hj : j < 16) (h : i ≠ j) : (Fin.ofNat 16 i) ≠ (Fin.ofNat 16 j) := fun e => by
  have := congrArg Fin.val e
  simp only [Fin.ofNat] at this
  omega

section Fields

variable (s : Fin 3) (j t : Fin 16) (x : FVec F S256x512 .f32) (mx : FVec F S1x512 .f32) (acc : FVec F S144x512 .f32) (σ : St F)

/-- Putting a block of scores leaves the maxima alone. -/
theorem put_m : (runPut s j x σ).m = σ.m := by unfold runPut; dsimp only
/-- Putting a block of scores leaves the accumulator alone. -/
theorem put_a : (runPut s j x σ).a = σ.a := by unfold runPut; dsimp only
/-- Putting a block of scores leaves the output alone. -/
theorem put_o : (runPut s j x σ).o = σ.o := by unfold runPut; dsimp only
/-- Storing a maximum leaves the scores alone. -/
theorem storeM_s : (runStoreM s mx σ).s = σ.s := by unfold runStoreM; dsimp only
/-- Storing a maximum leaves the accumulator alone. -/
theorem storeM_a : (runStoreM s mx σ).a = σ.a := by unfold runStoreM; dsimp only
/-- Storing a maximum leaves the output alone. -/
theorem storeM_o : (runStoreM s mx σ).o = σ.o := by unfold runStoreM; dsimp only
/-- Storing the accumulator leaves the scores alone. -/
theorem storeA_s : (runStoreA acc σ).s = σ.s := by unfold runStoreA; dsimp only
/-- Storing the accumulator leaves the maxima alone. -/
theorem storeA_m : (runStoreA acc σ).m = σ.m := by unfold runStoreA; dsimp only
/-- Storing the accumulator leaves the output alone. -/
theorem storeA_o : (runStoreA acc σ).o = σ.o := by unfold runStoreA; dsimp only
/-- Finishing a block leaves the scores alone. -/
theorem finish_s : (runFinish In t σ).s = σ.s := by unfold runFinish; dsimp only
/-- Finishing a block leaves the maxima alone. -/
theorem finish_m : (runFinish In t σ).m = σ.m := by unfold runFinish; dsimp only
/-- Finishing a block leaves the accumulator alone. -/
theorem finish_a : (runFinish In t σ).a = σ.a := by unfold runFinish; dsimp only

end Fields

/-- The block of scores just put reads back as put. -/
theorem part_put (s : Fin 3) (j : Fin 16) (x : FVec F S256x512 .f32) (σ : St F) :
    part (rS s j) (runPut s j x σ).s = shapeCast S1x256x512 x shapeCasts_S256x512_S1x256x512 := by
  unfold runPut; dsimp only
  exact part_overlay (rS s j) σ.s (shapeCast S1x256x512 x shapeCasts_S256x512_S1x256x512)

/-- Another block of scores reads as before. -/
theorem part_put_ne (s s' : Fin 3) (j i : Fin 16) (x : FVec F S256x512 .f32) (σ : St F) (h : s' ≠ s ∨ i ≠ j) :
    part (rS s' i) (runPut s j x σ).s = part (rS s' i) σ.s := by
  unfold runPut; dsimp only
  exact part_overlay_ne (rS s' i) (rS s j) σ.s (shapeCast S1x256x512 x shapeCasts_S256x512_S1x256x512) fun x y => rS_ne s' s i j h x y

/-- Keeping block `j`'s scores extends what a slot holds. -/
theorem kept_put {σ : St F} {s : Fin 3} {q : Fin 16} {j : ℕ} (hj : j < 16) (h : Kept In sl σ.s s q j) :
    Kept In sl (runPut s (Fin.ofNat 16 j) (blk In sl q j) σ).s s q (j + 1) := fun i hi => by
  rcases Nat.lt_or_ge i j with e | e
  · rw [part_put_ne s s (Fin.ofNat 16 j) (Fin.ofNat 16 i) (blk In sl q j) σ (.inr (ofNat_ne (by omega) hj (by omega)))]
    exact h i e
  · have e' : i = j := by omega
    subst e'
    exact part_put s (Fin.ofNat 16 i) (blk In sl q i) σ

/-- Keeping scores in a slot leaves the other slots. -/
theorem kept_put_ne {σ : St F} {s s' : Fin 3} {q : Fin 16} {n : ℕ} {j : Fin 16} {x : FVec F S256x512 .f32} (hs : s' ≠ s)
    (h : Kept In sl σ.s s' q n) : Kept In sl (runPut s j x σ).s s' q n := fun i hi => by
  rw [part_put_ne s s' j (Fin.ofNat 16 i) x σ (.inl hs)]
  exact h i hi

/-- What a piece that only scores into slot `s` leaves. -/
structure Same (In : Ins F) (sl : F .f32) (s : Fin 3) (σ σ' : St F) : Prop where
  m : σ'.m = σ.m
  a : σ'.a = σ.a
  o : σ'.o = σ.o
  kept : ∀ s' q n, s' ≠ s → Kept In sl σ.s s' q n → Kept In sl σ'.s s' q n

/-- A state differs from itself in nothing. -/
theorem Same.refl (s : Fin 3) (σ : St F) : Same In sl s σ σ := ⟨rfl, rfl, rfl, fun _ _ _ _ h => h⟩

/-- Putting one more block of the slot's scores changes nothing else. -/
theorem Same.put {s : Fin 3} {j : Fin 16} {x : FVec F S256x512 .f32} {σ σ' : St F} (h : Same In sl s (runPut s j x σ) σ') : Same In sl s σ σ' :=
  ⟨h.m.trans (put_m s j x σ), h.a.trans (put_a s j x σ), h.o.trans (put_o s j x σ), fun s' q n hs hk => h.kept s' q n hs (kept_put_ne hs hk)⟩

/-- The scoring loop: the maximum it carries, and the blocks it has written. -/
theorem runScores_spec {s : Fin 3} {q : Fin 16} : ∀ (n j : ℕ) (σ : St F), j + n ≤ 16 → Kept In sl σ.s s q j →
    (runScores In s q.val (qaOf In sl (wOf q) q) n j (maxUpto In sl q j) σ).1 = maxUpto In sl q (j + n)
      ∧ Kept In sl (runScores In s q.val (qaOf In sl (wOf q) q) n j (maxUpto In sl q j) σ).2.s s q (j + n)
      ∧ Same In sl s σ (runScores In s q.val (qaOf In sl (wOf q) q) n j (maxUpto In sl q j) σ).2
  | 0, j, σ, _, hk => ⟨rfl, hk, .refl _ _⟩
  | n + 1, j, σ, hn, hk => by
    have h := runScores_spec n (j + 1) (runPut s (Fin.ofNat 16 j) (blk In sl q j) σ) (by omega) (kept_put (by omega) hk)
    have e : j + 1 + n = j + (n + 1) := by omega
    rw [e] at h
    exact ⟨h.1, h.2.1, h.2.2.put⟩

/-- The loop that scores one block of queries while accumulating another. -/
theorem runMain_spec {sc sa : Fin 3} {qc q : Fin 16} (hs : sc ≠ sa) : ∀ (n j : ℕ) (σ : St F) (m : FVec F S1x512 .f32) (acc : FVec F S144x512 .f32),
    j + n ≤ 16 → Kept In sl σ.s sa q (min j (q.val + 1)) → Kept In sl σ.s sc qc (qc.val + 1) → m = maxUpto In sl q (min j (q.val + 1)) →
    acc = accUpto In sl qc (min j (qc.val + 1)) →
    (runMain In sc sa qc.val q.val (qaOf In sl (wOf q) q) (mxOf In sl qc) n j m acc σ).1 = maxUpto In sl q (min (j + n) (q.val + 1))
      ∧ (runMain In sc sa qc.val q.val (qaOf In sl (wOf q) q) (mxOf In sl qc) n j m acc σ).2.1 = accUpto In sl qc (min (j + n) (qc.val + 1))
      ∧ Kept In sl (runMain In sc sa qc.val q.val (qaOf In sl (wOf q) q) (mxOf In sl qc) n j m acc σ).2.2.s sa q (min (j + n) (q.val + 1))
      ∧ Same In sl sa σ (runMain In sc sa qc.val q.val (qaOf In sl (wOf q) q) (mxOf In sl qc) n j m acc σ).2.2
  | 0, j, σ, m, acc, _, hk, _, hm, ha => ⟨hm, ha, hk, .refl _ _⟩
  | n + 1, j, σ, m, acc, hn, hk, hc, hm, ha => by
    rw [runMain.eq_def]
    dsimp only
    have e : j + 1 + n = j + (n + 1) := by omega
    by_cases h1 : j ≤ q.val
    · have b1 : Nat.ble j q.val = true := Nat.ble_eq.mpr h1
      have m1 : min j (q.val + 1) = j := by omega
      have m1' : min (j + 1) (q.val + 1) = j + 1 := by omega
      rw [m1] at hk hm
      have hk' := kept_put (s := sa) (by omega) hk
      have hc' : Kept In sl (runPut sa (Fin.ofNat 16 j) (blk In sl q j) σ).s sc qc (qc.val + 1) := kept_put_ne hs hc
      rw [b1]
      simp only [cond_true]
      have hacc : cond (Nat.ble j qc.val) (pvNext In sc (Fin.ofNat 16 j) (mxOf In sl qc) acc
          (runPut sa (Fin.ofNat 16 j) (blk In sl q j) σ)) acc = accUpto In sl qc (min (j + 1) (qc.val + 1)) := by
        by_cases h2 : j ≤ qc.val
        · have b2 : Nat.ble j qc.val = true := Nat.ble_eq.mpr h2
          have m2 : min j (qc.val + 1) = j := by omega
          have m2' : min (j + 1) (qc.val + 1) = j + 1 := by omega
          rw [b2, m2', ha, m2]
          show pvStep _ _ _ _ = pvStep _ _ _ _
          rw [hc' j (by omega)]
        · have b2 : Nat.ble j qc.val = false := by
            rw [← Bool.not_eq_true]; exact fun h => h2 (Nat.ble_eq.mp h)
          have m2 : min (j + 1) (qc.val + 1) = min j (qc.val + 1) := by omega
          rw [b2, m2, ← ha]; rfl
      have h := runMain_spec hs n (j + 1) (runPut sa (Fin.ofNat 16 j) (blk In sl q j) σ) (maxUpto In sl q (j + 1)) _ (by omega)
        (by rw [m1']; exact hk') hc' (by rw [m1']) hacc
      rw [e] at h
      subst hm
      exact ⟨h.1, h.2.1, h.2.2.1, h.2.2.2.put⟩
    · have b1 : Nat.ble j q.val = false := by
        rw [← Bool.not_eq_true]; exact fun h => h1 (Nat.ble_eq.mp h)
      have m1 : min (j + 1) (q.val + 1) = min j (q.val + 1) := by omega
      rw [b1]
      simp only [cond_false]
      have hacc : cond (Nat.ble j qc.val) (pvNext In sc (Fin.ofNat 16 j) (mxOf In sl qc) acc σ) acc = accUpto In sl qc (min (j + 1) (qc.val + 1)) := by
        by_cases h2 : j ≤ qc.val
        · have b2 : Nat.ble j qc.val = true := Nat.ble_eq.mpr h2
          have m2 : min j (qc.val + 1) = j := by omega
          have m2' : min (j + 1) (qc.val + 1) = j + 1 := by omega
          rw [b2, m2', ha, m2]
          show pvStep _ _ _ _ = pvStep _ _ _ _
          rw [hc j (by omega)]
        · have b2 : Nat.ble j qc.val = false := by
            rw [← Bool.not_eq_true]; exact fun h => h2 (Nat.ble_eq.mp h)
          have m2 : min (j + 1) (qc.val + 1) = min j (qc.val + 1) := by omega
          rw [b2, m2, ← ha]; rfl
      have h := runMain_spec hs n (j + 1) σ m _ (by omega) (by rw [m1]; exact hk) hc (by rw [m1]; exact hm) hacc
      rw [e] at h
      exact h

/-- The accumulating loop: what it has added up. -/
theorem runPv_spec {sc : Fin 3} {qc : Fin 16} {σ : St F} (hc : Kept In sl σ.s sc qc (qc.val + 1)) : ∀ (n j : ℕ), j + n ≤ qc.val + 1 →
    runPv In sc (mxOf In sl qc) σ n j (accUpto In sl qc j) = accUpto In sl qc (j + n)
  | 0, _, _ => rfl
  | n + 1, j, hn => by
    have h := runPv_spec hc n (j + 1) (by omega)
    have e : j + 1 + n = j + (n + 1) := by omega
    rw [e] at h
    rw [← h]
    show runPv In sc _ σ n (j + 1) (pvStep _ _ _ _) = runPv In sc _ σ n (j + 1) (pvStep _ _ _ _)
    rw [hc j (by omega)]

/-- A slot's maximum reads back as stored. -/
theorem mAt_store (s : Fin 3) (mx : FVec F S1x512 .f32) (σ : St F) : mAt s (runStoreM s mx σ) = mx := by
  unfold mAt runStoreM; dsimp only
  rw [part_overlay (rM s) σ.m (shapeCast S1x1x512 mx shapeCasts_S1x512_S1x1x512)]
  exact shapeCast_shapeCast mx _ _

/-- Another slot's maximum reads as before. -/
theorem mAt_store_ne {s s' : Fin 3} (h : s' ≠ s) (mx : FVec F S1x512 .f32) (σ : St F) : mAt s' (runStoreM s mx σ) = mAt s' σ := by
  unfold mAt runStoreM; dsimp only
  rw [part_overlay_ne (rM s') (rM s) σ.m (shapeCast S1x1x512 mx shapeCasts_S1x512_S1x1x512) fun x y => rM_ne s' s h x y]

/-- The accumulator reads back as stored. -/
theorem acc_store (acc : FVec F S144x512 .f32) (σ : St F) : part rA (runStoreA acc σ).a = acc := by
  unfold runStoreA; dsimp only
  rw [part_overlay rA σ.a (shapeCast S144x512 acc shapeCasts_S144x512_S144x512)]
  exact shapeCast_self acc _

/-- A slot's maximum depends on the maxima alone. -/
theorem mAt_congr {σ σ' : St F} (s : Fin 3) (h : σ'.m = σ.m) : mAt s σ' = mAt s σ := by
  unfold mAt; rw [h]

/-- The block of the output just finished. -/
theorem out_finish (t : Fin 16) (σ : St F) : part (rK t) (runFinish In t σ).o
    = outBlock (part rA σ.a) (part rL In.l1) (part rL In.l2) (part rL In.l3) (part rL In.l4) (part rG In.g) := by
  unfold runFinish; dsimp only
  exact part_overlay (rK t) σ.o (outBlock (part rA σ.a) (part rL In.l1) (part rL In.l2) (part rL In.l3) (part rL In.l4) (part rG In.g))

/-- Another block of the output reads as before. -/
theorem out_finish_ne {t q : Fin 16} (h : q ≠ t) (σ : St F) : part (rK q) (runFinish In t σ).o = part (rK q) σ.o := by
  unfold runFinish; dsimp only
  exact part_overlay_ne (rK q) (rK t) σ.o (outBlock (part rA σ.a) (part rL In.l1) (part rL In.l2) (part rL In.l3) (part rL In.l4) (part rG In.g))
    fun x y => rK_ne q t h x y

/-! ## The body's pieces -/

/-- What a state holds: in each slot a query block or nothing known, in the accumulator likewise, and the query blocks written out. -/
structure Has (In : Ins F) (sl : F .f32) (f : Fin 3 → Option (Fin 16)) (ac : Option (Fin 16)) (outs : List (Fin 16)) (σ : St F) : Prop where
  slot : ∀ s q, f s = some q → Slot In sl σ s q
  acc : ∀ q, ac = some q → Acc In sl σ q
  out : ∀ q ∈ outs, Out In sl σ.o q

variable {f : Fin 3 → Option (Fin 16)} {ac : Option (Fin 16)} {outs : List (Fin 16)} {σ : St F}

/-- The slots after one is given query block `q`. -/
def put (f : Fin 3 → Option (Fin 16)) (s : Fin 3) (q : Fin 16) : Fin 3 → Option (Fin 16) := fun s' => if s' = s then some q else f s'

/-- After the first block of queries is scored, its slot holds it. -/
theorem Has.prime (h : Has In sl f ac outs σ) {w : BitVec 32} {s : Fin 3} {q : Fin 16} (hw : wOf q = w) :
    Has In sl (put f s q) ac outs (runPrime In sl w s q σ) := by
  subst hw
  have hr := runScores_spec (In := In) (sl := sl) (s := s) (q := q) (q.val + 1) 0 σ (by omega) (fun j hj => absurd hj (Nat.not_lt_zero _))
  rw [Nat.zero_add] at hr
  unfold runPrime
  change Has In sl (put f s q) ac outs (runStoreM s (runScores In s q.val (qaOf In sl (wOf q) q) (q.val + 1) 0 (maxUpto In sl q 0) σ).1
    (runScores In s q.val (qaOf In sl (wOf q) q) (q.val + 1) 0 (maxUpto In sl q 0) σ).2)
  generalize runScores In s q.val (qaOf In sl (wOf q) q) (q.val + 1) 0 (maxUpto In sl q 0) σ = r at hr ⊢
  obtain ⟨r1, r2⟩ := r
  obtain ⟨h1, h2, h3⟩ := hr
  dsimp only at h1 h2 h3 ⊢
  refine ⟨fun s' q' hq => ?_, fun q' hq => ?_, fun q' hq => ?_⟩
  · unfold Slot
    rw [storeM_s]
    by_cases e : s' = s
    · subst e
      simp only [put, if_true, Option.some.injEq] at hq
      subst hq
      exact ⟨h2, (mAt_store s' r1 r2).trans h1⟩
    · simp only [put, if_neg e] at hq
      have hs := h.slot s' q' hq
      exact ⟨h3.kept s' q' _ e hs.1, (mAt_store_ne e r1 r2).trans ((mAt_congr s' h3.m).trans hs.2)⟩
  · unfold Acc
    rw [storeM_a, h3.a]
    exact h.acc q' hq
  · rw [storeM_o, h3.o]
    exact h.out q' hq

/-- After a step, the slot scored into holds its block and the accumulator the other's. -/
theorem Has.step (h : Has In sl f ac outs σ) {w : BitVec 32} {sc sa : Fin 3} {qc q : Fin 16} {n : ℕ} (hw : wOf q = w) (hs : sc ≠ sa)
    (hf : f sc = some qc) (hn : n = max (q.val + 1) (qc.val + 1)) :
    Has In sl (put f sa q) (some qc) outs (runStep In sl w sc sa qc q n σ) := by
  subst hw
  have hsl := h.slot sc qc hf
  have hr := runMain_spec (In := In) (sl := sl) (sc := sc) (sa := sa) (qc := qc) (q := q) hs n 0 σ (constant S1x512 .f32 0x00000000#32) acc0
    (by omega) (fun j hj => absurd hj (by omega)) hsl.1 (by rw [Nat.min_eq_left (by omega)]; rfl) (by rw [Nat.min_eq_left (by omega)]; rfl)
  have n1 : min (0 + n) (q.val + 1) = q.val + 1 := by omega
  have n2 : min (0 + n) (qc.val + 1) = qc.val + 1 := by omega
  rw [n1, n2] at hr
  unfold runStep
  rw [hsl.2]
  dsimp only
  generalize runMain In sc sa qc.val q.val (qaOf In sl (wOf q) q) (mxOf In sl qc) n 0 (constant S1x512 .f32 0x00000000#32) acc0 σ = r at hr ⊢
  obtain ⟨r1, r2, r3⟩ := r
  obtain ⟨h1, h2, h3, h4⟩ := hr
  dsimp only at h1 h2 h3 h4 ⊢
  refine ⟨fun s' q' hq => ?_, fun q' hq => ?_, fun q' hq => ?_⟩
  · unfold Slot
    rw [storeA_s, storeM_s, mAt_congr s' (storeA_m r2 (runStoreM sa r1 r3))]
    by_cases e : s' = sa
    · subst e
      simp only [put, if_true, Option.some.injEq] at hq
      subst hq
      exact ⟨h3, (mAt_store s' r1 r3).trans h1⟩
    · simp only [put, if_neg e] at hq
      have hs' := h.slot s' q' hq
      exact ⟨h4.kept s' q' _ e hs'.1, (mAt_store_ne e r1 r3).trans ((mAt_congr s' h4.m).trans hs'.2)⟩
  · simp only [Option.some.injEq] at hq
    subst hq
    exact (acc_store r2 (runStoreM sa r1 r3)).trans h2
  · rw [storeA_o, storeM_o, h4.o]
    exact h.out q' hq

/-- After the last block is accumulated, the accumulator holds it. -/
theorem Has.tail (h : Has In sl f ac outs σ) {sc : Fin 3} {qc : Fin 16} (hf : f sc = some qc) :
    Has In sl f (some qc) outs (runTail In sc qc σ) := by
  have hsl := h.slot sc qc hf
  have hr := runPv_spec (In := In) (sl := sl) hsl.1 (qc.val + 1) 0 (by omega)
  rw [Nat.zero_add] at hr
  unfold runTail
  rw [hsl.2]
  change runPv In sc (mxOf In sl qc) σ (qc.val + 1) 0 acc0 = accOf In sl qc at hr
  rw [hr]
  refine ⟨fun s' q' hq => ?_, fun q' hq => ?_, fun q' hq => ?_⟩
  · unfold Slot
    rw [storeA_s, mAt_congr s' (storeA_m (accOf In sl qc) σ)]
    exact h.slot s' q' hq
  · simp only [Option.some.injEq] at hq
    subst hq
    exact acc_store (accOf In sl qc) σ
  · rw [storeA_o]
    exact h.out q' hq

/-- After a block is finished, the output holds it too. -/
theorem Has.finish (h : Has In sl f ac outs σ) {t : Fin 16} (hf : ac = some t) : Has In sl f ac (t :: outs) (runFinish In t σ) := by
  refine ⟨fun s' q' hq => ?_, fun q' hq => ?_, fun q' hq => ?_⟩
  · unfold Slot
    rw [finish_s, mAt_congr s' (finish_m t σ)]
    exact h.slot s' q' hq
  · unfold Acc
    rw [finish_a]
    exact h.acc q' hq
  have ha := h.acc t hf
  unfold Acc at ha
  unfold Out
  by_cases e : q' = t
  · subst e
    rw [out_finish, ha]
    rfl
  · rw [out_finish_ne e]
    rcases List.mem_cons.mp hq with h' | h'
    · exact absurd h' e
    · exact h.out q' h'

/-- The slots between the two branches. -/
def midSlots : Fin 3 → Option (Fin 16) := ![some 13, some 11, none]

/-- What is known of a state may be forgotten. -/
theorem Has.weaken {f' : Fin 3 → Option (Fin 16)} {outs' : List (Fin 16)} (h : Has In sl f ac outs σ)
    (hf : ∀ s q, f' s = some q → f s = some q) (ho : ∀ q ∈ outs', q ∈ outs) : Has In sl f' ac outs' σ :=
  ⟨fun s q hq => h.slot s q (hf s q hq), h.acc, fun q hq => h.out q (ho q hq)⟩

/-- The first branch: whatever the buffers held, after it query block 15 is in the accumulator, 13 and 11 in the first two slots, and the
    even query blocks are written out. -/
theorem runFirst_has (In : Ins F) (sl : F .f32) (σ : St F) : Has In sl midSlots (some 15) [14, 12, 10, 8, 6, 4, 2, 0] (runFirst In sl σ) := by
  have h0 : Has In sl (fun _ => none) none [] σ := ⟨fun _ _ h => absurd h (by simp), fun _ h => absurd h (by simp), fun _ h => absurd h List.not_mem_nil⟩
  have h := h0.prime (s := 0) (q := 0) (w := 0x00000000#32) rfl
  have h := h.prime (s := 1) (q := 2) (w := 0x44000000#32) rfl
  have h := h.step (sc := 0) (sa := 2) (qc := 0) (q := 4) (n := 5) (w := 0x44800000#32) rfl (by decide) (by decide) rfl
  have h := h.finish (t := 0) rfl
  have h := h.step (sc := 1) (sa := 0) (qc := 2) (q := 6) (n := 7) (w := 0x44C00000#32) rfl (by decide) (by decide) rfl
  have h := h.finish (t := 2) rfl
  have h := h.step (sc := 2) (sa := 1) (qc := 4) (q := 8) (n := 9) (w := 0x45000000#32) rfl (by decide) (by decide) rfl
  have h := h.finish (t := 4) rfl
  have h := h.step (sc := 0) (sa := 2) (qc := 6) (q := 10) (n := 11) (w := 0x45200000#32) rfl (by decide) (by decide) rfl
  have h := h.finish (t := 6) rfl
  have h := h.step (sc := 1) (sa := 0) (qc := 8) (q := 12) (n := 13) (w := 0x45400000#32) rfl (by decide) (by decide) rfl
  have h := h.finish (t := 8) rfl
  have h := h.step (sc := 2) (sa := 1) (qc := 10) (q := 14) (n := 15) (w := 0x45600000#32) rfl (by decide) (by decide) rfl
  have h := h.finish (t := 10) rfl
  have h := h.step (sc := 0) (sa := 2) (qc := 12) (q := 15) (n := 16) (w := 0x45700000#32) rfl (by decide) (by decide) rfl
  have h := h.finish (t := 12) rfl
  have h := h.step (sc := 1) (sa := 0) (qc := 14) (q := 13) (n := 15) (w := 0x45500000#32) rfl (by decide) (by decide) rfl
  have h := h.finish (t := 14) rfl
  have h := h.step (sc := 2) (sa := 1) (qc := 15) (q := 11) (n := 16) (w := 0x45300000#32) rfl (by decide) (by decide) rfl
  exact h.weaken (by decide) (fun _ h => h)

/-- The second branch: from there the odd query blocks are written out too. -/
theorem runSecond_has {σ : St F} (h : Has In sl midSlots (some 15) [14, 12, 10, 8, 6, 4, 2, 0] σ) (q : Fin 16) :
    Out In sl (runSecond In sl σ).o q := by
  have h := h.finish (t := 15) rfl
  have h := h.step (sc := 0) (sa := 2) (qc := 13) (q := 9) (n := 14) (w := 0x45100000#32) rfl (by decide) (by decide) rfl
  have h := h.finish (t := 13) rfl
  have h := h.step (sc := 1) (sa := 0) (qc := 11) (q := 7) (n := 12) (w := 0x44E00000#32) rfl (by decide) (by decide) rfl
  have h := h.finish (t := 11) rfl
  have h := h.step (sc := 2) (sa := 1) (qc := 9) (q := 5) (n := 10) (w := 0x44A00000#32) rfl (by decide) (by decide) rfl
  have h := h.finish (t := 9) rfl
  have h := h.step (sc := 0) (sa := 2) (qc := 7) (q := 3) (n := 8) (w := 0x44400000#32) rfl (by decide) (by decide) rfl
  have h := h.finish (t := 7) rfl
  have h := h.step (sc := 1) (sa := 0) (qc := 5) (q := 1) (n := 6) (w := 0x43800000#32) rfl (by decide) (by decide) rfl
  have h := h.finish (t := 5) rfl
  have h := h.tail (sc := 2) (qc := 3) (by decide)
  have h := h.finish (t := 3) rfl
  have h := h.tail (sc := 0) (qc := 1) (by decide)
  have h := h.finish (t := 1) rfl
  exact h.out q (by revert q; decide)

end Cert.KernelIdeal.Attn

end
-- ==== Proof.Soft.lean ====
/-
  The mathematics both programs compute, over the reals: a causal softmax of scores with a linear distance penalty, as a
  quotient of two finite sums, and the facts about it that do not depend on how a program orders its work.
-/
module

public import Idealize.ShloMosaic.Lib.Pointwise

@[expose] public section

noncomputable section

namespace Cert.Soft

open Idealize.ShloMosaic

/-! ## Finite sums and maxima of extended reals -/

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real between a real and the top is real. -/
theorem real_of_bounds {x : EReal} (a : ℝ) (h : (a : EReal) ≤ x) (h' : x < ⊤) : ∃ r : ℝ, x = r := by
  induction x with
  | bot => exact absurd h (by simp)
  | top => exact absurd h' (lt_irrefl _)
  | coe r => exact ⟨r, rfl⟩

/-- The maximum of finitely many extended reals below the top, one of which is real, is real. -/
theorem fold_max_real {ι : Type*} (s : Finset ι) (f : ι → EReal) (b : EReal) (hb : b < ⊤) (hf : ∀ i ∈ s, f i < ⊤)
    (i : ι) (hi : i ∈ s) (a : ℝ) (ha : (a : EReal) ≤ f i) : ∃ r : ℝ, s.fold max b f = r :=
  real_of_bounds a ((Finset.le_fold_max _).mpr (Or.inr ⟨i, hi, ha⟩)) ((Finset.fold_max_lt _).mpr ⟨hb, hf⟩)

/-- The larger of a real and an extended real below the top is real. -/
theorem max_real {x y : EReal} (hx : ∃ a : ℝ, x = a) (hy : y < ⊤) : ∃ r : ℝ, max x y = r := by
  obtain ⟨a, rfl⟩ := hx
  exact real_of_bounds a (le_max_left _ _) (max_lt (EReal.coe_lt_top a) hy)

/-- A sum over the keys, block by block. -/
theorem sum_blocks (f : Fin 4096 → ℝ) : ∑ k, f k = ∑ j : Fin 16, ∑ r : Fin 256, f ⟨256 * j.val + r.val, by omega⟩ := by
  rw [← Fintype.sum_prod_type' (f := fun (j : Fin 16) (r : Fin 256) => f ⟨256 * j.val + r.val, by omega⟩)]
  refine (Fintype.sum_equiv (finProdFinEquiv (m := 16) (n := 256)) _ _ fun x => ?_).symm
  exact congrArg f (Fin.ext (by simp [finProdFinEquiv]; omega))

/-- A sum over the first blocks of keys, the rest adding nothing. -/
theorem sum_first (f : Fin 4096 → ℝ) (n : ℕ) (hn : n ≤ 16) (h : ∀ k : Fin 4096, 256 * n ≤ k.val → f k = 0) :
    ∑ k, f k = ∑ j ∈ Finset.range n, ∑ r : Fin 256, f (Fin.ofNat 4096 (256 * j + r.val)) := by
  have e : ∀ j : Fin 16, (∑ r : Fin 256, f ⟨256 * j.val + r.val, by omega⟩)
      = ∑ r : Fin 256, f (Fin.ofNat 4096 (256 * j.val + r.val)) := fun j =>
    Finset.sum_congr rfl fun r _ => congrArg f (Fin.ext (by simp only [Fin.ofNat]; omega))
  rw [sum_blocks, Finset.sum_congr rfl fun j _ => e j, Fin.sum_univ_eq_sum_range (fun j => ∑ r : Fin 256, f (Fin.ofNat 4096 (256 * j + r.val)))]
  symm
  refine Finset.sum_subset (Finset.range_subset_range.mpr hn) fun j hj hj' => Finset.sum_eq_zero fun r _ => h _ ?_
  have h1 := Finset.mem_range.mp hj
  have h2 : n ≤ j := Nat.le_of_not_lt fun h => hj' (Finset.mem_range.mpr h)
  simp only [Fin.ofNat]
  have h3 : (256 * j + r.val) % 4096 = 256 * j + r.val := Nat.mod_eq_of_lt (by omega)
  rw [h3]; omega

/-! ## The causal softmax -/

/-- The sum over the keys up to the query's own, each weighted by the exponential of its score. -/
def wsum (s : Fin 4096 → ℝ) (p : Fin 4096) (f : Fin 4096 → ℝ) : ℝ := ∑ k, if k ≤ p then Real.exp (s k) * f k else 0

/-- The softmax average of `f` over the keys up to the query's own. -/
def att (s : Fin 4096 → ℝ) (p : Fin 4096) (f : Fin 4096 → ℝ) : ℝ := wsum s p f / wsum s p fun _ => 1

/-- The softmax's total is positive. -/
theorem wsum_one_pos (s : Fin 4096 → ℝ) (p : Fin 4096) : 0 < wsum s p fun _ => 1 := by
  refine Finset.sum_pos' (fun k _ => ?_) ⟨p, Finset.mem_univ _, ?_⟩
  · split
    · simp [(Real.exp_pos _).le]
    · exact le_refl _
  · simp [Real.exp_pos]

/-- Shifting every score by `M` scales the weighted sums. -/
theorem wsum_shift (s : Fin 4096 → ℝ) (M : ℝ) (p : Fin 4096) (f : Fin 4096 → ℝ) :
    wsum (fun k => s k - M) p f = Real.exp (-M) * wsum s p f := by
  unfold wsum
  rw [Finset.mul_sum]
  refine Finset.sum_congr rfl fun k _ => ?_
  split
  · show Real.exp (s k - M) * f k = _
    rw [sub_eq_add_neg, Real.exp_add]; ring
  · ring

/-- The softmax average does not depend on the shift. -/
theorem att_shift (s : Fin 4096 → ℝ) (M : ℝ) (p : Fin 4096) (f : Fin 4096 → ℝ) : att (fun k => s k - M) p f = att s p f := by
  unfold att
  rw [wsum_shift, wsum_shift, mul_div_mul_left _ _ (Real.exp_pos _).ne']

/-- The quotient of the shifted sums, as the extended reals divide. -/
theorem div_wsum (s : Fin 4096 → ℝ) (M : ℝ) (p : Fin 4096) (f : Fin 4096 → ℝ) :
    Ideal.div (wsum (fun k => s k - M) p f : EReal) (wsum (fun k => s k - M) p (fun _ => 1) : EReal) = (att s p f : EReal) := by
  rw [Ideal.div_coe (wsum_one_pos _ p).ne', ← EReal.coe_mul, mul_one_div]
  exact congrArg _ (att_shift s M p f)

/-- The weights of one query, as the extended reals have them. -/
def wgt (s : Fin 4096 → ℝ) (M : ℝ) (p k : Fin 4096) : EReal := ((if k ≤ p then Real.exp (s k - M) else 0 : ℝ) : EReal)

/-- The exponential of a masked score less the maximum is the weight. -/
theorem exp_masked (s : Fin 4096 → ℝ) (M : ℝ) (p k : Fin 4096) :
    Ideal.exp ((if k ≤ p then (s k : EReal) else ⊥) - (M : EReal)) = wgt s M p k := by
  unfold wgt
  split
  · rw [← EReal.coe_sub, Ideal.exp_coe]
  · rw [EReal.bot_sub]; simp

/-- The weights' total. -/
theorem sum_wgt (s : Fin 4096 → ℝ) (M : ℝ) (p : Fin 4096) : ∑ k, wgt s M p k = (wsum (fun k => s k - M) p (fun _ => 1) : EReal) := by
  unfold wgt wsum
  rw [← coe_sum]
  refine congrArg _ (Finset.sum_congr rfl fun k _ => ?_)
  simp

/-- The difference of two softmaxes applied to the values is the difference of the two averages. -/
theorem sum_diff (s s' : Fin 4096 → ℝ) (M M' l : ℝ) (p : Fin 4096) (f : Fin 4096 → ℝ) :
    ∑ k, (Ideal.div (wgt s M p k) (wsum (fun k => s k - M) p (fun _ => 1) : EReal)
        - (l : EReal) * Ideal.div (wgt s' M' p k) (wsum (fun k => s' k - M') p (fun _ => 1) : EReal)) * (f k : EReal)
      = (att s p f : EReal) - (l : EReal) * (att s' p f : EReal) := by
  have e : ∀ k, (Ideal.div (wgt s M p k) (wsum (fun k => s k - M) p (fun _ => 1) : EReal)
        - (l : EReal) * Ideal.div (wgt s' M' p k) (wsum (fun k => s' k - M') p (fun _ => 1) : EReal)) * (f k : EReal)
      = (((if k ≤ p then Real.exp (s k - M) * f k else 0) * (1 / wsum (fun k => s k - M) p (fun _ => 1))
        - l * ((if k ≤ p then Real.exp (s' k - M') * f k else 0) * (1 / wsum (fun k => s' k - M') p (fun _ => 1))) : ℝ) : EReal) := fun k => by
    unfold wgt
    rw [Ideal.div_coe (wsum_one_pos _ p).ne', Ideal.div_coe (wsum_one_pos _ p).ne']
    simp only [← EReal.coe_mul, ← EReal.coe_sub]
    refine congrArg _ ?_
    split <;> ring
  rw [Finset.sum_congr rfl fun k _ => e k, ← coe_sum, Finset.sum_sub_distrib, ← Finset.mul_sum, ← Finset.sum_mul, ← Finset.sum_mul,
    ← att_shift s M p f, ← att_shift s' M' p f, ← EReal.coe_mul, ← EReal.coe_sub]
  unfold att
  rw [mul_one_div, mul_one_div]
  rfl

/-! ## The scores -/

/-- A sequence per batch entry, in reals. -/
abbrev Seq := Fin 4 → Fin 4096 → Fin 512 → ℝ

/-- The slope of a head: `2 ^ (-8 (i + 1) / 4)`. -/
def slope (i : Fin 4) : ℝ := ![1 / 4, 1 / 16, 1 / 64, 1 / 256] i

/-- The column of a head's half at a place. -/
def hcol (i : Fin 4) (h : Fin 2) (d : Fin 64) : Fin 512 := ⟨128 * i.val + 64 * h.val + d.val, by omega⟩

/-- The column of a head at a place. -/
def vcol (i : Fin 4) (c : Fin 128) : Fin 512 := ⟨128 * i.val + c.val, by omega⟩

/-- The score of a key for a query in one half of a head: the scaled inner product less the slope times the distance. -/
def sc (Q K : Seq) (b i : Fin 4) (h : Fin 2) (p k : Fin 4096) : ℝ :=
  (∑ d : Fin 64, Q b p (hcol i h d) * (1 / 8) * K b k (hcol i h d)) - slope i * ((p.val : ℝ) - (k.val : ℝ))

/-- The difference of the two attentions at a query and a place, the second weighted by `l`. -/
def dif (Q K W : Seq) (l : ℝ) (b i : Fin 4) (p : Fin 4096) (c : Fin 128) : EReal :=
  (att (sc Q K b i 0 p) p (fun k => W b k (vcol i c)) : EReal) - (l : EReal) * (att (sc Q K b i 1 p) p (fun k => W b k (vcol i c)) : EReal)

/-- A row divided by its root mean square, times the gain. -/
def rms (o g : Fin 128 → EReal) (c : Fin 128) : EReal :=
  o c * Ideal.rsqrt (Ideal.div (∑ c', o c' * o c') (Ideal.ofBits .f32 0x43000000#32) + Ideal.ofBits .f32 0x358637BD#32)
    * (g c * Ideal.ofBits .f32 0x3F4CCCCD#32)

/-! ## The constants -/

/-- A real that a word stands for. -/
theorem bits_fifth : ∃ r : ℝ, Ideal.ofBits .f32 0x3E4CCCCD#32 = r := ⟨_, by simp [Ideal.ofBits, Ideal.ieee]; rfl⟩

end Cert.Soft
-- ==== Proof.KernelWords.lean ====
/-
  The words of the kernel's position rows and of its causal mask, read as numbers.
-/
module

public import proofs.«01_k».proof.Proof.Slots
public import proofs.«01_k».proof.Proof.Soft

@[expose] public section

set_option maxRecDepth 16384

noncomputable section

namespace Cert.KernelIdeal.Attn

open Cert.KernelIdeal Cert.KernelIdeal.Gen
open Idealize.ShloMosaic
open Cert.Soft

/-- The place of a lane in a block of 256. -/
def at256 (j : Fin 16) (x : Fin 256) : Fin 4096 := ⟨256 * j.val + x.val, by omega⟩

/-- The column of a query in one half of the score block. -/
def colOf (h : Fin 2) (x : Fin 256) : Fin 512 := ⟨256 * h.val + x.val, by omega⟩

/-- The position table at a key and a column. -/
def posR (k : Fin 4096) (l : Fin 128) : ℝ :=
  if l.val = 0 then ((k.val % 256 : ℕ) : ℝ) else if l.val = 1 then ((k.val / 256 : ℕ) : ℝ) else if l.val = 2 ∨ l.val = 3 then 1 else 0

/-- The position rows of the query operand. -/
def aliR (σ : ℝ) (q : Fin 16) (l : Fin 128) (x : Fin 256) : ℝ :=
  if l.val = 0 then σ else if l.val = 1 then σ * 256 else if l.val = 2 then (0 - σ) * (x.val : ℝ)
    else if l.val = 3 then (0 - σ) * (256 * (q.val : ℝ)) else 0

/-! ## Words -/

/-- The first place of a query block, as a float, is 256 times the block's number. -/
theorem wOf_val : ∀ q : Fin 16, Ideal.ofBits .f32 (wOf q) = ((256 * (q.val : ℝ) : ℝ) : EReal) := by
  intro q
  fin_cases q <;> simp [wOf, Ideal.ofBits, Ideal.ieee, -EReal.coe_mul] <;> norm_num

/-- The printed constant for 256. -/
theorem bits_256 : Ideal.ofBits .f32 0x43800000#32 = ((256 : ℝ) : EReal) := by
  simp [Ideal.ofBits, Ideal.ieee, -EReal.coe_mul]; norm_num

/-- The printed constant for minus infinity. -/
theorem bits_neg_inf : Ideal.ofBits .f32 0xFF800000#32 = ⊥ := by simp [Ideal.ofBits, Ideal.ieee]

/-- A row number compared with a small word. -/
theorem row_eq (r : Fin 128) (n : ℕ) (hn : n < 128) :
    IntOp.cmpi .eq (BitVec.ofNat 32 r.val) (BitVec.ofNat 32 n) = if r.val = n then 1#1 else 0#1 := by
  have hi : ∀ y : Fin 128, (BitVec.ofNat 32 y.val).toNat = y.val := by decide +kernel
  show BitVec.ofBool (BitVec.ofNat 32 r.val == BitVec.ofNat 32 n) = _
  by_cases h' : r.val = n
  · subst h'; simp
  · have : BitVec.ofNat 32 r.val ≠ BitVec.ofNat 32 n := fun e => h' (by
      have := congrArg BitVec.toNat e
      rw [hi r] at this
      exact this.trans (hi ⟨n, hn⟩))
    rw [if_neg h', beq_eq_false_iff_ne.mpr this]; rfl

/-- The query's place as the kernel computes it. -/
theorem qry_eq : ∀ (h : Fin 2) (x : Fin 256), qryPos (ix2 0 (colOf h x)) = BitVec.ofNat 32 x.val := by
  intro h x
  pointwise [qryPos, laneRem, modulus]
  revert h x
  decide +kernel

/-- The causal mask allows the keys up to the query's place. -/
theorem causal_eq (r : Fin 256) (h : Fin 2) (x : Fin 256) :
    causal (ix2 r (colOf h x)) = if r.val ≤ x.val then 1#1 else 0#1 := by
  have e := qry_eq h x
  pointwise [qryPos, laneRem, modulus] at e
  pointwise [causal, qryPos, laneRem, modulus]
  rw [e]
  have hi : ∀ y : Fin 256, (BitVec.ofNat 32 y.val).toInt = (y.val : ℤ) := by decide +kernel
  have hs : (BitVec.ofNat 32 r.val).sle (BitVec.ofNat 32 x.val) = decide (r.val ≤ x.val) := by
    rw [BitVec.sle_eq_decide, hi r, hi x]; simp
  show BitVec.ofBool ((BitVec.ofNat 32 r.val).sle (BitVec.ofNat 32 x.val)) = _
  rw [hs]
  by_cases h' : r.val ≤ x.val <;> simp [h']

/-- A selection on a decided bit is the conditional. -/
theorem sel_ite {α : Type} (c : Prop) [Decidable c] (a b : α) : Scalar.select (if c then 1#1 else 0#1) a b = if c then a else b := by
  unfold Scalar.select
  by_cases h : c <;> simp [h]

/-- A small whole number converted to a float is that number. -/
theorem sitofp_val (x : Fin 256) : FloatOps.sitofp (F := Ideal) .f32 (BitVec.ofNat 32 x.val) = ((x.val : ℝ) : EReal) := by
  have H : ∀ x : Fin 256, (BitVec.ofNat 32 x.val).toInt = (x.val : ℤ) := by decide +kernel
  show (((BitVec.ofNat 32 x.val).toInt : ℝ) : EReal) = _
  rw [H x]; norm_cast

/-- The position bias at a row and a lane. -/
theorem alibi_val (σ : ℝ) (q : Fin 16) (r : Fin 128) (x : Fin 256) :
    alibi (F := Ideal) (σ : EReal) (wOf q) (ix2 r x) = (aliR σ q r x : EReal) := by
  pointwise [alibi, rowIota, laneF]
  rw [show (0#32) = BitVec.ofNat 32 0 from rfl, row_eq _ _ (by omega), show (1#32) = BitVec.ofNat 32 1 from rfl, row_eq _ _ (by omega),
    show (2#32) = BitVec.ofNat 32 2 from rfl, row_eq _ _ (by omega), show (3#32) = BitVec.ofNat 32 3 from rfl, row_eq _ _ (by omega), wOf_val, bits_256,
    sitofp_val]
  simp only [sel_ite]
  unfold aliR
  rw [show (0 : EReal) = ((0 : ℝ) : EReal) from rfl]
  simp only [← EReal.coe_mul, ← EReal.coe_sub]
  split_ifs <;> rfl

end Cert.KernelIdeal.Attn
-- ==== Proof.KernelValue.lean ====
/-
  What the kernel writes out for a query block, at the ideal values: its scores are the real scores (the query operand's
  position rows against the position table add the distance penalty), its weighted sums are the softmax's, and what it
  writes is the normalized difference of the two attentions.
-/
module

public import proofs.«01_k».proof.Proof.KernelWords

@[expose] public section

set_option maxRecDepth 16384

noncomputable section

namespace Cert.KernelIdeal.Attn

open Cert.KernelIdeal Cert.KernelIdeal.Gen
open Idealize.ShloMosaic
open Cert.Soft

/-- The input blocks of batch entry `b` and head `i` hold the real sequences `Q` (scaled), `K`, `W`, and the position table. -/
structure Reads (In : Ins Ideal) (Q K W : Seq) (b i : Fin 4) : Prop where
  /-- The transposed queries, scaled. -/
  q : ∀ (j : Fin 16) (c : Fin 128) (x : Fin 256), In.q (ix4 0 j c x) = ((Q b (at256 j x) (vcol i c) * (1 / 8) : ℝ) : EReal)
  /-- The keys. -/
  k : ∀ (k : Fin 4096) (c : Fin 128), In.k (ix3 0 k c) = (K b k (vcol i c) : EReal)
  /-- The position table. -/
  p : ∀ (k : Fin 4096) (l : Fin 128), In.p (ix2 k l) = (posR k l : EReal)
  /-- The transposed values. -/
  v : ∀ (j : Fin 16) (c : Fin 128) (x : Fin 256), In.v (ix4 0 j c x) = (W b (at256 j x) (vcol i c) : EReal)

/-! ## Parts of the blocks -/

/-- Block `j` of the keys, entry by entry. -/
theorem part_rK {α : Type} (X : S1x4096x128.Idx → α) (j : Fin 16) (r : Fin 256) (c : Fin 128) :
    part (rK j) X (ix3 0 r c) = X (ix3 0 (at256 j r) c) := by
  refine congrArg X (funext fun a => Fin.ext ?_)
  rw [Rect.emb_apply]
  match a with
  | ⟨0, _⟩ => rfl
  | ⟨1, _⟩ => show 256 * j.val + 1 * r.val = 256 * j.val + r.val; omega
  | ⟨2, _⟩ => show 0 + 1 * c.val = c.val; omega

/-- Block `j` of the position table, entry by entry. -/
theorem part_rP {α : Type} (X : S4096x128.Idx → α) (j : Fin 16) (r : Fin 256) (c : Fin 128) :
    part (rP j) X (ix2 r c) = X (ix2 (at256 j r) c) := by
  refine congrArg X (funext fun a => Fin.ext ?_)
  rw [Rect.emb_apply]
  match a with
  | ⟨0, _⟩ => show 256 * j.val + 1 * r.val = 256 * j.val + r.val; omega
  | ⟨1, _⟩ => show 0 + 1 * c.val = c.val; omega

/-- Block `j` of the transposed queries or values, entry by entry. -/
theorem part_rQ {α : Type} (X : S1x16x128x256.Idx → α) (j : Fin 16) (c : Fin 128) (x : Fin 256) :
    part (rQ j) X (ix4 0 0 c x) = X (ix4 0 j c x) := by
  refine congrArg X (funext fun a => Fin.ext ?_)
  rw [Rect.emb_apply]
  match a with
  | ⟨0, _⟩ => rfl
  | ⟨1, _⟩ => show j.val + 1 * 0 = j.val; omega
  | ⟨2, _⟩ => show 0 + 1 * c.val = c.val; omega
  | ⟨3, _⟩ => show 0 + 1 * x.val = x.val; omega

/-- A lambda vector's one block is the vector. -/
theorem part_rL {α : Type} (X : S1x64.Idx → α) (d : Fin 64) : part rL X (ix2 0 d) = X (ix2 0 d) := by
  refine congrArg X (funext fun a => Fin.ext ?_)
  rw [Rect.emb_apply]
  match a with
  | ⟨0, _⟩ => rfl
  | ⟨1, _⟩ => show 0 + 1 * d.val = d.val; omega

/-- The gain's one block is the gain. -/
theorem part_rG {α : Type} (X : S1x128.Idx → α) (d : Fin 128) : part rG X (ix2 0 d) = X (ix2 0 d) := by
  refine congrArg X (funext fun a => Fin.ext ?_)
  rw [Rect.emb_apply]
  match a with
  | ⟨0, _⟩ => rfl
  | ⟨1, _⟩ => show 0 + 1 * d.val = d.val; omega

/-- The position rows against the position table: the slope times the key's place less the query's. -/
theorem pos_sum (σ : ℝ) (q : Fin 16) (x : Fin 256) (k : Fin 4096) :
    ∑ l : Fin 128, posR k l * aliR σ q l x = - (σ * (((at256 q x).val : ℝ) - (k.val : ℝ))) := by
  have e : ∑ l : Fin 128, posR k l * aliR σ q l x = ∑ l ∈ ({0, 1, 2, 3} : Finset (Fin 128)), posR k l * aliR σ q l x :=
    (Finset.sum_subset (Finset.subset_univ _) fun l _ hl => by
      have h : ¬ l.val = 0 ∧ ¬ l.val = 1 ∧ ¬ l.val = 2 ∧ ¬ l.val = 3 := by
        simp only [Finset.mem_insert, Finset.mem_singleton, not_or, Fin.ext_iff] at hl
        exact hl
      simp [posR, h.1, h.2.1, h.2.2.1, h.2.2.2]).symm
  have d : (k.val : ℝ) = 256 * ((k.val / 256 : ℕ) : ℝ) + ((k.val % 256 : ℕ) : ℝ) := by
    have := Nat.div_add_mod k.val 256
    exact_mod_cast this.symm
  have d' : ((at256 q x).val : ℝ) = 256 * (q.val : ℝ) + (x.val : ℝ) := by
    unfold at256; push_cast; rfl
  rw [e, d, d']
  rw [Finset.sum_insert (by decide), Finset.sum_insert (by decide), Finset.sum_insert (by decide), Finset.sum_singleton]
  have v0 : ((0 : Fin 128) : ℕ) = 0 := rfl
  have v1 : ((1 : Fin 128) : ℕ) = 1 := rfl
  have v2 : ((2 : Fin 128) : ℕ) = 2 := rfl
  have v3 : ((3 : Fin 128) : ℕ) = 3 := rfl
  simp only [posR, aliR, v0, v1, v2, v3]
  norm_num
  ring

variable {In : Ins Ideal} {Q K W : Seq} {b i : Fin 4}

/-- A column's number: 256 for the second half head, and the query's place. -/
theorem colOf_val (h : Fin 2) (x : Fin 256) : (colOf h x).val = 256 * h.val + x.val := rfl

/-- The query operand at a row of the upper half: its own half head's query, zero for the other's. -/
theorem qa_top (R : Reads In Q K W b i) (σ : ℝ) (q : Fin 16) (h : Fin 2) (x : Fin 256) (c : Fin 128) (hc : c.val < 256) :
    qaOf In (σ : EReal) (wOf q) q (ix2 ⟨c.val, hc⟩ (colOf h x))
      = ((if c.val / 64 = h.val then Q b (at256 q x) (vcol i c) * (1 / 8) else 0 : ℝ) : EReal) := by
  have hpq := (part_rQ In.q q c x).trans (R.q q c x)
  have hx : x.val < 256 := x.isLt
  have hcl : c.val < 128 := c.isLt
  have hh : h.val < 2 := h.isLt
  have e1 := colOf_val h x
  have key : ∀ (a : Fin 128) (y : Fin 256), a.val = c.val → y.val = x.val →
      part (rQ q) In.q (ix4 0 0 a y) = ((Q b (at256 q x) (vcol i c) * (1 / 8) : ℝ) : EReal) := fun a y ha hy => by
    rw [Fin.ext ha, Fin.ext hy]; exact hpq
  unfold qaOf
  pointwise [qOperand, zeroHalf]
  by_cases hcase : c.val / 64 = h.val
  · rw [if_pos hcase]
    split_ifs
    all_goals first
      | (exfalso; omega)
      | exact key _ _ (by dsimp only; omega) (by dsimp only; omega)
      | exact key _ _ rfl (by dsimp only; omega)
  · rw [if_neg hcase]
    split_ifs
    all_goals first
      | (exfalso; omega)
      | rfl

/-- The query operand at a position row. -/
theorem qa_bot (σ : ℝ) (q : Fin 16) (h : Fin 2) (x : Fin 256) (c : Fin 128) (hc : 128 + c.val < 256) :
    qaOf In (σ : EReal) (wOf q) q (ix2 ⟨128 + c.val, hc⟩ (colOf h x)) = (aliR σ q c x : EReal) := by
  have hx : x.val < 256 := x.isLt
  have hcl : c.val < 128 := c.isLt
  have hh : h.val < 2 := h.isLt
  have e1 := colOf_val h x
  have key : ∀ (a : Fin 128) (y : Fin 256), a.val = c.val → y.val = x.val →
      alibi (F := Ideal) (σ : EReal) (wOf q) (ix2 a y) = (aliR σ q c x : EReal) := fun a y ha hy => by
    rw [Fin.ext ha, Fin.ext hy]; exact alibi_val σ q c x
  unfold qaOf
  pointwise [qOperand, zeroHalf]
  split_ifs
  all_goals first
    | (exfalso; omega)
    | exact key _ _ (by dsimp only; omega) (by dsimp only; omega)

/-- The inner product over a head's columns of which only one half is kept. -/
theorem half_sum (h : Fin 2) (f : Fin 128 → ℝ) :
    ∑ c : Fin 128, (if c.val / 64 = h.val then f c else 0) = ∑ d : Fin 64, f ⟨64 * h.val + d.val, by omega⟩ := by
  have e := Fin.sum_univ_add (a := 64) (b := 64) (fun c : Fin (64 + 64) => if c.val / 64 = h.val then f c else 0)
  refine e.trans ?_
  obtain rfl | rfl : h = 0 ∨ h = 1 := by omega
  · rw [Finset.sum_eq_zero (s := Finset.univ) (f := fun i : Fin 64 => if (Fin.natAdd 64 i).val / 64 = ((0 : Fin 2) : ℕ) then f (Fin.natAdd 64 i) else 0)
      (fun d _ => if_neg (by simp only [Fin.val_natAdd]; have : ((0 : Fin 2) : ℕ) = 0 := rfl; omega)), add_zero]
    refine Finset.sum_congr rfl fun d _ => ?_
    rw [if_pos (by simp only [Fin.val_castAdd]; have : ((0 : Fin 2) : ℕ) = 0 := rfl; omega)]
    exact congrArg f (Fin.ext (by simp))
  · rw [Finset.sum_eq_zero (s := Finset.univ) (f := fun i : Fin 64 => if (Fin.castAdd 64 i).val / 64 = ((1 : Fin 2) : ℕ) then f (Fin.castAdd 64 i) else 0)
      (fun d _ => if_neg (by simp only [Fin.val_castAdd]; have : ((1 : Fin 2) : ℕ) = 1 := rfl; omega)), zero_add]
    refine Finset.sum_congr rfl fun d _ => ?_
    rw [if_pos (by simp only [Fin.val_natAdd]; have : ((1 : Fin 2) : ℕ) = 1 := rfl; omega)]
    exact congrArg f (Fin.ext (by simp [Nat.add_comm]))

/-- An unmasked score is the real score. -/
theorem raw_val (R : Reads In Q K W b i) (q j : Fin 16) (h : Fin 2) (x r : Fin 256) :
    rawScore (qaOf In (slope i : EReal) (wOf q) q) (part (rK j) In.k) (part (rP j) In.p) (ix2 r (colOf h x))
      = (sc Q K b i h (at256 q x) (at256 j r) : EReal) := by
  pointwise [rawScore]
  have e1 : ∀ c : Fin 128, part (rK j) In.k (ix3 0 r c) * qaOf In (slope i : EReal) (wOf q) q (ix2 ⟨c.val, by omega⟩ (colOf h x))
      = ((if c.val / 64 = h.val then Q b (at256 q x) (vcol i c) * (1 / 8) * K b (at256 j r) (vcol i c) else 0 : ℝ) : EReal) := fun c => by
    rw [qa_top R, part_rK, R.k, ← EReal.coe_mul]
    refine congrArg _ ?_
    split <;> ring
  have e2 : ∀ c : Fin 128, part (rP j) In.p (ix2 r c) * qaOf In (slope i : EReal) (wOf q) q (ix2 ⟨128 + c.val, by omega⟩ (colOf h x))
      = ((posR (at256 j r) c * aliR (slope i) q c x : ℝ) : EReal) := fun c => by
    rw [qa_bot, part_rP, R.p, ← EReal.coe_mul]
  rw [Finset.sum_congr rfl fun c _ => e1 c, Finset.sum_congr rfl fun c _ => e2 c, ← coe_sum, ← coe_sum, ← EReal.coe_add, half_sum, pos_sum]
  unfold sc
  rw [sub_eq_add_neg]
  rfl

/-- A kept score: the real score of a key up to the query's own, the bottom after it. -/
theorem blk_val (R : Reads In Q K W b i) (q : Fin 16) (j : ℕ) (hj : j ≤ q.val) (h : Fin 2) (x r : Fin 256) :
    blk In (slope i : EReal) q j (ix2 r (colOf h x))
      = if at256 (Fin.ofNat 16 j) r ≤ at256 q x then (sc Q K b i h (at256 q x) (at256 (Fin.ofNat 16 j) r) : EReal) else ⊥ := by
  have ej : (Fin.ofNat 16 j).val = j := Nat.mod_eq_of_lt (by omega)
  have hr : r.val < 256 := r.isLt
  have el : at256 (Fin.ofNat 16 j) r ≤ at256 q x ↔ 256 * j + r.val ≤ 256 * q.val + x.val := by
    unfold at256; rw [Fin.mk_le_mk, ej]
  have rv := raw_val R q (Fin.ofNat 16 j) h x r
  unfold blk scoreOf score
  rcases Nat.lt_or_ge j q.val with hl | hl
  · rw [show Nat.beq j q.val = false from Bool.eq_false_iff.mpr fun e => by have := Nat.eq_of_beq_eq_true e; omega, if_pos (el.mpr (by omega))]
    exact rv
  · rw [show Nat.beq j q.val = true from by rw [show j = q.val by omega]; exact Nat.beq_refl _]
    show maskScore _ (ix2 r (colOf h x)) = _
    unfold maskScore
    pointwise
    rw [causal_eq, sel_ite, bits_neg_inf, rv]
    by_cases hx : r.val ≤ x.val
    · rw [if_pos hx, if_pos (el.mpr (by omega))]
    · rw [if_neg hx, if_neg fun hle => hx (by have := el.mp hle; omega)]

/-- The largest score of a block is real. -/
theorem colMax_real (R : Reads In Q K W b i) (q : Fin 16) (j : ℕ) (hj : j ≤ q.val) (h : Fin 2) (x : Fin 256) :
    ∃ M : ℝ, colMax (blk In (slope i : EReal) q j) (ix2 0 (colOf h x)) = M := by
  have ej : (Fin.ofNat 16 j).val = j := Nat.mod_eq_of_lt (by omega)
  pointwise [colMax]
  refine fold_max_real _ _ _ (by rw [bits_neg_inf]; exact bot_lt_top) (fun r _ => ?_) (0 : Fin 256) (Finset.mem_univ _)
    (sc Q K b i h (at256 q x) (at256 (Fin.ofNat 16 j) 0)) ?_
  · rw [blk_val R q j hj]
    split
    · exact EReal.coe_lt_top _
    · exact bot_lt_top
  · rw [blk_val R q j hj, if_pos]
    unfold at256; rw [Fin.mk_le_mk, ej]
    have : ((0 : Fin 256) : ℕ) = 0 := rfl
    omega

/-- The running maximum after one block is that block's. -/
theorem maxUpto_one {sl : Ideal .f32} (q : Fin 16) : maxUpto In sl q 1 = colMax (blk In sl q 0) := by
  rw [maxUpto]; unfold maxNext; rw [Nat.beq_refl]; dsimp only [cond_true]

/-- The running maximum after one more block. -/
theorem maxUpto_succ {sl : Ideal .f32} (q : Fin 16) (n : ℕ) :
    maxUpto In sl q (n + 1 + 1) = maximumf (maxUpto In sl q (n + 1)) (colMax (blk In sl q (n + 1))) := by
  rw [maxUpto]; unfold maxNext; rw [show Nat.beq (n + 1) 0 = false from rfl]; dsimp only [cond_false]

/-- The largest score of a query is real. -/
theorem maxUpto_real (R : Reads In Q K W b i) (q : Fin 16) (h : Fin 2) (x : Fin 256) :
    ∀ n, n ≤ q.val → ∃ M : ℝ, maxUpto In (slope i : EReal) q (n + 1) (ix2 0 (colOf h x)) = M
  | 0, hn => by
    obtain ⟨M, hM⟩ := colMax_real R q 0 hn h x
    exact ⟨M, (congrFun (maxUpto_one q) _).trans hM⟩
  | n + 1, hn => by
    obtain ⟨M, hM⟩ := colMax_real R q (n + 1) hn h x
    obtain ⟨M', hM'⟩ := maxUpto_real R q h x n (by omega)
    obtain ⟨M'', h''⟩ := max_real ⟨M', hM'⟩ (hM ▸ EReal.coe_lt_top M)
    exact ⟨M'', (congrFun (maxUpto_succ q n) _).trans h''⟩

/-- The place of a lane in a key block, counted through all of them. -/
theorem at256_ofNat (j : ℕ) (hj : j < 16) (r : Fin 256) : at256 (Fin.ofNat 16 j) r = Fin.ofNat 4096 (256 * j + r.val) := by
  refine Fin.ext ?_
  have e1 : (Fin.ofNat 16 j).val = j := Nat.mod_eq_of_lt hj
  have e2 : (Fin.ofNat 4096 (256 * j + r.val)).val = 256 * j + r.val := Nat.mod_eq_of_lt (by omega)
  rw [e2]
  show 256 * (Fin.ofNat 16 j).val + r.val = _
  rw [e1]

/-- What a row of the values, or of ones, holds at a key block and a lane. -/
def rowAt (In : Ins Ideal) (row : Fin 144) (j : Fin 16) (r : Fin 256) : EReal :=
  if h : row.val < 128 then part (rQ j) In.v (ix4 0 0 ⟨row.val, h⟩ r)
  else Scalar.select (IntOp.cmpi .eq (BitVec.ofNat 32 (row.val - 128)) 0#32) 1 0

/-- One step of the weighted sum, for one row and one query. -/
theorem pv_val {In : Ins Ideal} (m : FVec Ideal S1x512 .f32) (acc : FVec Ideal S144x512 .f32) (s : FVec Ideal S256x512 .f32) (j : Fin 16)
    (row : Fin 144) (y : Fin 512) :
    pvStep m acc (shapeCast S1x256x512 s shapeCasts_S256x512_S1x256x512) (part (rQ j) In.v) (ix2 row y)
      = acc (ix2 row y) + ∑ r, rowAt In row j r * Ideal.exp (s (ix2 r y) - m (ix2 0 y)) := by
  pointwise [pvStep, weights, onesRows]
  rfl

/-- The accumulator's start is zero. -/
theorem acc0_val (row : Fin 144) (y : Fin 512) : acc0 (F := Ideal) (ix2 row y) = 0 := by
  pointwise [acc0]

/-- The weighted sums over the first key blocks. -/
theorem acc_val (R : Reads In Q K W b i) (q : Fin 16) (h : Fin 2) (x : Fin 256) (row : Fin 144) (f : Fin 4096 → ℝ)
    (hf : ∀ (j : Fin 16) (r : Fin 256), rowAt In row j r = (f (at256 j r) : EReal)) (M : ℝ)
    (hM : mxOf In (slope i : EReal) q (ix2 0 (colOf h x)) = (M : EReal)) :
    ∀ n, n ≤ q.val + 1 → accUpto In (slope i : EReal) q n (ix2 row (colOf h x))
      = ((∑ j ∈ Finset.range n, ∑ r : Fin 256, (fun k => if k ≤ at256 q x then Real.exp (sc Q K b i h (at256 q x) k - M) * f k else 0)
          (Fin.ofNat 4096 (256 * j + r.val)) : ℝ) : EReal)
  | 0, _ => by rw [accUpto, acc0_val]; simp
  | n + 1, hn => by
    rw [accUpto, pv_val, acc_val R q h x row f hf M hM n (by omega), Finset.sum_range_succ, EReal.coe_add, coe_sum Finset.univ]
    refine congrArg _ (Finset.sum_congr rfl fun r _ => ?_)
    rw [hf, hM, blk_val R q n (by omega), ← at256_ofNat n (by omega)]
    rw [exp_masked (sc Q K b i h (at256 q x))]
    unfold wgt
    rw [← EReal.coe_mul]
    refine congrArg _ ?_
    dsimp only
    split <;> ring

/-- The weighted sums of a query block are the softmax's. -/
theorem accOf_val (R : Reads In Q K W b i) (q : Fin 16) (h : Fin 2) (x : Fin 256) (row : Fin 144) (f : Fin 4096 → ℝ)
    (hf : ∀ (j : Fin 16) (r : Fin 256), rowAt In row j r = (f (at256 j r) : EReal)) (M : ℝ)
    (hM : mxOf In (slope i : EReal) q (ix2 0 (colOf h x)) = (M : EReal)) :
    accOf In (slope i : EReal) q (ix2 row (colOf h x)) = (wsum (fun k => sc Q K b i h (at256 q x) k - M) (at256 q x) f : EReal) := by
  unfold accOf
  rw [acc_val R q h x row f hf M hM _ le_rfl]
  refine congrArg _ ?_
  unfold wsum
  refine (sum_first (fun k => if k ≤ at256 q x then Real.exp (sc Q K b i h (at256 q x) k - M) * f k else 0) (q.val + 1) (by omega)
    fun k hk => if_neg fun hle => ?_).symm
  have h1 : k.val ≤ 256 * q.val + x.val := hle
  omega

/-- The quotient of a value row by the ones row is the softmax average. -/
theorem head_val (R : Reads In Q K W b i) (q : Fin 16) (h : Fin 2) (x : Fin 256) (c : Fin 128) (hc : c.val < 144) :
    Ideal.div (accOf In (slope i : EReal) q (ix2 ⟨c.val, hc⟩ (colOf h x))) (accOf In (slope i : EReal) q (ix2 128 (colOf h x)))
      = (att (sc Q K b i h (at256 q x)) (at256 q x) (fun k => W b k (vcol i c)) : EReal) := by
  obtain ⟨M, hM⟩ := maxUpto_real R q h x q.val le_rfl
  rw [accOf_val R q h x ⟨c.val, hc⟩ (fun k => W b k (vcol i c)) (fun j r => ?_) M hM, accOf_val R q h x 128 (fun _ => 1) (fun j r => ?_) M hM, div_wsum]
  · unfold rowAt
    rw [dif_neg (by decide)]
    rfl
  · unfold rowAt
    rw [dif_pos c.isLt, part_rQ, R.v]

/-- What the kernel writes out for a query: the difference of the two attentions, normalized, times the gain. -/
theorem out_val (R : Reads In Q K W b i) (l : ℝ)
    (hl : Ideal.exp (∑ d : Fin 64, In.l1 (ix2 0 d) * In.l2 (ix2 0 d)) - Ideal.exp (∑ d : Fin 64, In.l3 (ix2 0 d) * In.l4 (ix2 0 d))
      + Ideal.ofBits .f32 0x3E4CCCCD#32 = (l : EReal)) (q : Fin 16) (x : Fin 256) (c : Fin 128) :
    outOf In (slope i : EReal) q (ix3 0 x c) = rms (dif Q K W l b i (at256 q x)) (fun c => In.g (ix2 0 c)) c := by
  have e0 : ∀ c : Fin 128, Ideal.div (accOf In (slope i : EReal) q (ix2 ⟨c.val, by omega⟩ ⟨x.val, by omega⟩))
      (accOf In (slope i : EReal) q (ix2 128 ⟨x.val, by omega⟩))
      = (att (sc Q K b i 0 (at256 q x)) (at256 q x) (fun k => W b k (vcol i c)) : EReal) := fun c => by
    have e : (⟨x.val, by omega⟩ : Fin 512) = colOf 0 x := Fin.ext (by rw [colOf_val]; simp)
    rw [e]
    exact head_val R q 0 x c (by omega)
  have e1 : ∀ c : Fin 128, Ideal.div (accOf In (slope i : EReal) q (ix2 ⟨c.val, by omega⟩ ⟨256 + x.val, by omega⟩))
      (accOf In (slope i : EReal) q (ix2 128 ⟨256 + x.val, by omega⟩))
      = (att (sc Q K b i 1 (at256 q x)) (at256 q x) (fun k => W b k (vcol i c)) : EReal) := fun c => by
    have e : (⟨256 + x.val, by omega⟩ : Fin 512) = colOf 1 x := Fin.ext (by rw [colOf_val]; simp)
    rw [e]
    exact head_val R q 1 x c (by omega)
  unfold outOf
  pointwise [outBlock, rmsUnit, diff, heads, lam, lamExp]
  simp only [part_rL, part_rG]
  rw [hl]
  simp only [e0, e1]
  rfl

end Cert.KernelIdeal.Attn
-- ==== Proof.Blocks.lean ====
/-
  The blocks that the body is handed, at the ideal values, read off the program's arguments: the transposed queries, scaled,
  the keys, the transposed values, the position table, the four vectors of the second half's weight, and the gain.
-/
module

public import proofs.«01_k».proof.Proof.KernelValue
public import proofs.«01_k».proof.Proof.Run
public import Idealize.ShloMosaic.Lib.Claim
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe
open Cert.Soft

variable (m : (ℓ : Loc nD τ sig) → Buf (Elt Ideal) ℓ) (c : Dev nD)

/-! ## Where the blocks lie -/

/-- The batch entry of a grid point. -/
def bOf (t : Fin cfg0.N) : Fin 4 := grid0.coords t 0

/-- The head of a grid point. -/
def hOf (t : Fin cfg0.N) : Fin 4 := grid0.coords t 1

/-- Where window 0 stands at each grid point. -/
theorem index_0 : ∀ t : Fin cfg0.N, win0_0.index t = ![(grid0.coords t 0).val, 0, (grid0.coords t 1).val, 0] := by decide +kernel
/-- Where window 1 stands at each grid point. -/
theorem index_1 : ∀ t : Fin cfg0.N, win0_1.index t = ![(grid0.coords t 0).val, 0, (grid0.coords t 1).val] := by decide +kernel
/-- Where window 2 stands at each grid point. -/
theorem index_2 : ∀ t : Fin cfg0.N, win0_2.index t = ![0, 0] := by decide +kernel
/-- Where window 3 stands at each grid point. -/
theorem index_3 : ∀ t : Fin cfg0.N, win0_3.index t = ![(grid0.coords t 0).val, 0, (grid0.coords t 1).val, 0] := by decide +kernel
/-- Where window 4 stands at each grid point. -/
theorem index_4 : ∀ t : Fin cfg0.N, win0_4.index t = ![0, 0] := by decide +kernel
/-- Where window 5 stands at each grid point. -/
theorem index_5 : ∀ t : Fin cfg0.N, win0_5.index t = ![0, 0] := by decide +kernel
/-- Where window 6 stands at each grid point. -/
theorem index_6 : ∀ t : Fin cfg0.N, win0_6.index t = ![0, 0] := by decide +kernel
/-- Where window 7 stands at each grid point. -/
theorem index_7 : ∀ t : Fin cfg0.N, win0_7.index t = ![0, 0] := by decide +kernel
/-- Where window 8 stands at each grid point. -/
theorem index_8 : ∀ t : Fin cfg0.N, win0_8.index t = ![0, 0] := by decide +kernel
/-- Where the output's window stands at each grid point. -/
theorem index_9 : ∀ t : Fin cfg0.N, win0_9.index t = ![(grid0.coords t 0).val, 0, (grid0.coords t 1).val] := by decide +kernel

/-! ## The arrays when the launch begins -/

/-- A place of a sequence, by block and lane, is the lane counted through the blocks. -/
theorem place_eq (j : Fin 16) (x : Fin 256) (h : j.val * 256 + x.val < 4096) : (⟨j.val * 256 + x.val, h⟩ : Fin 4096) = at256 j x :=
  Fin.ext (show j.val * 256 + x.val = 256 * j.val + x.val by omega)

/-- The word of an eighth. -/
theorem word_eighth : Ideal.ofBits .f32 0x3E000000#32 = ((1 / 8 : ℝ) : EReal) := by
  simp [Ideal.ofBits, Ideal.ieee, -EReal.coe_mul]; norm_num

/-- The transposed queries, scaled. -/
theorem array_q (b : Fin 4) (j : Fin 16) (col : Fin 512) (x : Fin 256) (r : ℝ)
    (h : m ((c : Thread nD τ).loc main_arg0) (ix3 b (at256 j x) col) = (r : EReal)) :
    V m c main_v4 (ix4 b j col x) = ((r * (1 / 8) : ℝ) : EReal) := by
  show StableHlo.after (List.flatten [hostOps0, hostOps0_1, hostOps0_2, hostOps0_3, hostOps0_4]) (fun b => m (c, b)) (Proc.tc.devRef _) _ = _
  simp only [hostOps0, hostOps0_1, hostOps0_2, hostOps0_3, hostOps0_4, List.flatten_cons, List.flatten_nil, List.append_nil, List.cons_append, List.nil_append]
  entry_read
  pointwise
  rw [place_eq, show m (c, Proc.tc.devRef main_arg0) (ix3 b (at256 j x) col) = (r : EReal) from h]
  show (r : EReal) * Ideal.ofBits .f32 0x3E000000#32 = _
  rw [word_eighth, ← EReal.coe_mul]

/-- The transposed values. -/
theorem array_v (b : Fin 4) (j : Fin 16) (col : Fin 512) (x : Fin 256) :
    V m c main_v7 (ix4 b j col x) = m ((c : Thread nD τ).loc main_arg2) (ix3 b (at256 j x) col) := by
  show StableHlo.after (List.flatten [hostOps0, hostOps0_1, hostOps0_2, hostOps0_3, hostOps0_4]) (fun b => m (c, b)) (Proc.tc.devRef _) _ = _
  simp only [hostOps0, hostOps0_1, hostOps0_2, hostOps0_3, hostOps0_4, List.flatten_cons, List.flatten_nil, List.append_nil, List.cons_append, List.nil_append]
  entry_read
  pointwise
  rw [place_eq]

/-- The keys. -/
theorem array_k (i : S4x4096x512.Idx) : V m c main_v16 i = m ((c : Thread nD τ).loc main_arg1) i := by
  show StableHlo.after (List.flatten [hostOps0, hostOps0_1, hostOps0_2, hostOps0_3, hostOps0_4]) (fun b => m (c, b)) (Proc.tc.devRef _) _ = _
  simp only [hostOps0, hostOps0_1, hostOps0_2, hostOps0_3, hostOps0_4, List.flatten_cons, List.flatten_nil, List.append_nil, List.cons_append, List.nil_append]
  entry_read
  rfl

/-- The first vector of the second half's weight. -/
theorem array_l1 (d : Fin 64) : V m c main_v9 (ix2 0 d) = m ((c : Thread nD τ).loc main_arg3) (ix2 0 d) := by
  show StableHlo.after (List.flatten [hostOps0, hostOps0_1, hostOps0_2, hostOps0_3, hostOps0_4]) (fun b => m (c, b)) (Proc.tc.devRef _) _ = _
  simp only [hostOps0, hostOps0_1, hostOps0_2, hostOps0_3, hostOps0_4, List.flatten_cons, List.flatten_nil, List.append_nil, List.cons_append, List.nil_append]
  entry_read
  pointwise

/-- The second vector of the second half's weight. -/
theorem array_l2 (d : Fin 64) : V m c main_v11 (ix2 0 d) = m ((c : Thread nD τ).loc main_arg4) (ix2 0 d) := by
  show StableHlo.after (List.flatten [hostOps0, hostOps0_1, hostOps0_2, hostOps0_3, hostOps0_4]) (fun b => m (c, b)) (Proc.tc.devRef _) _ = _
  simp only [hostOps0, hostOps0_1, hostOps0_2, hostOps0_3, hostOps0_4, List.flatten_cons, List.flatten_nil, List.append_nil, List.cons_append, List.nil_append]
  entry_read
  pointwise

/-- The third vector of the second half's weight. -/
theorem array_l3 (d : Fin 64) : V m c main_v13 (ix2 0 d) = m ((c : Thread nD τ).loc main_arg5) (ix2 0 d) := by
  show StableHlo.after (List.flatten [hostOps0, hostOps0_1, hostOps0_2, hostOps0_3, hostOps0_4]) (fun b => m (c, b)) (Proc.tc.devRef _) _ = _
  simp only [hostOps0, hostOps0_1, hostOps0_2, hostOps0_3, hostOps0_4, List.flatten_cons, List.flatten_nil, List.append_nil, List.cons_append, List.nil_append]
  entry_read
  pointwise

/-- The fourth vector of the second half's weight. -/
theorem array_l4 (d : Fin 64) : V m c main_v15 (ix2 0 d) = m ((c : Thread nD τ).loc main_arg6) (ix2 0 d) := by
  show StableHlo.after (List.flatten [hostOps0, hostOps0_1, hostOps0_2, hostOps0_3, hostOps0_4]) (fun b => m (c, b)) (Proc.tc.devRef _) _ = _
  simp only [hostOps0, hostOps0_1, hostOps0_2, hostOps0_3, hostOps0_4, List.flatten_cons, List.flatten_nil, List.append_nil, List.cons_append, List.nil_append]
  entry_read
  pointwise

/-- The gain. -/
theorem array_g (d : Fin 128) : V m c main_v18 (ix2 0 d) = m ((c : Thread nD τ).loc main_arg7) (ix2 0 d) := by
  show StableHlo.after (List.flatten [hostOps0, hostOps0_1, hostOps0_2, hostOps0_3, hostOps0_4]) (fun b => m (c, b)) (Proc.tc.devRef _) _ = _
  simp only [hostOps0, hostOps0_1, hostOps0_2, hostOps0_3, hostOps0_4, List.flatten_cons, List.flatten_nil, List.append_nil, List.cons_append, List.nil_append]
  entry_read
  pointwise

/-- The word of the position table at a key and a column. -/
def posW (k : Fin 4096) (l : Fin 128) : BitVec 32 :=
  Scalar.select (IntOp.cmpi .eq (BitVec.ofNat 32 l.val) 0#32) (IntOp.andi (BitVec.ofNat 32 k.val) 255#32)
    (Scalar.select (IntOp.cmpi .eq (BitVec.ofNat 32 l.val) 1#32) (Host.shrsi (iotaInDim S4096x128 32 0) (broadcastInDim S4096x128 ![] bcast_S_S4096x128 (constantI S_ 32 8#32)) (ix2 k l))
      (Scalar.select (IntOp.ori (IntOp.cmpi .eq (BitVec.ofNat 32 l.val) 2#32) (IntOp.cmpi .eq (BitVec.ofNat 32 l.val) 3#32)) 1#32 0#32))

/-- A place's low eight bits and its higher ones, as signed numbers. -/
theorem pos_words : ∀ k : Fin 4096, (IntOp.andi (BitVec.ofNat 32 k.val) 255#32).toInt = ((k.val % 256 : ℕ) : ℤ)
    ∧ (IntOp.shrsi ArithUnit.host (BitVec.ofNat 32 k.val) 8#32).toInt = ((k.val / 256 : ℕ) : ℤ) := by decide +kernel

/-- Either of two bits. -/
theorem or_ite (a b : Prop) [Decidable a] [Decidable b] :
    IntOp.ori (if a then 1#1 else 0#1) (if b then 1#1 else 0#1) = if a ∨ b then 1#1 else 0#1 := by
  by_cases h : a <;> by_cases h' : b <;> simp [h, h', IntOp.ori]

/-- The position table. -/
theorem array_p (k : Fin 4096) (l : Fin 128) : V m c main_v38 (ix2 k l) = (posR k l : EReal) := by
  show StableHlo.after (List.flatten [hostOps0, hostOps0_1, hostOps0_2, hostOps0_3, hostOps0_4]) (fun b => m (c, b)) (Proc.tc.devRef _) _ = _
  simp only [hostOps0, hostOps0_1, hostOps0_2, hostOps0_3, hostOps0_4, List.flatten_cons, List.flatten_nil, List.append_nil, List.cons_append, List.nil_append]
  entry_read
  show (((posW k l).toInt : ℝ) : EReal) = _
  unfold posW
  pointwise
  rw [show (0#32) = BitVec.ofNat 32 0 from rfl, row_eq _ _ (by omega), show (1#32) = BitVec.ofNat 32 1 from rfl, row_eq _ _ (by omega),
    show (2#32) = BitVec.ofNat 32 2 from rfl, row_eq _ _ (by omega), show (3#32) = BitVec.ofNat 32 3 from rfl, row_eq _ _ (by omega)]
  simp only [or_ite, sel_ite]
  unfold posR
  split_ifs
  · rw [(pos_words k).1]; norm_cast
  · rw [(pos_words k).2]; norm_cast
  · rw [show (BitVec.ofNat 32 1).toInt = 1 from rfl]; norm_cast
  · rw [show (BitVec.ofNat 32 0).toInt = 0 from rfl]; norm_cast

/-! ## The blocks -/

/-- The block of queries. -/
theorem block_q (t : Fin cfg0.N) (j : Fin 16) (a : Fin 128) (x : Fin 256) :
    iblk m c 0 t (ix4 0 j a x) = V m c main_v4 (ix4 (bOf t) j (vcol (hOf t) a) x) := by
  unfold iblk bOf hOf vcol
  blk_simp [index_0]
  refine congrArg (V m c main_v4) ?_
  blk_ext [index_0]

/-- The block of keys. -/
theorem block_k (t : Fin cfg0.N) (k : Fin 4096) (a : Fin 128) :
    iblk m c 1 t (ix3 0 k a) = V m c main_v16 (ix3 (bOf t) k (vcol (hOf t) a)) := by
  unfold iblk bOf hOf vcol
  blk_simp [index_1]
  refine congrArg (V m c main_v16) ?_
  blk_ext [index_1]

/-- The block of positions: the table. -/
theorem block_p (t : Fin cfg0.N) (k : Fin 4096) (l : Fin 128) : iblk m c 2 t (ix2 k l) = V m c main_v38 (ix2 k l) := by
  unfold iblk
  blk_simp [index_2]
  refine congrArg (V m c main_v38) ?_
  blk_ext [index_2]

/-- The block of values. -/
theorem block_v (t : Fin cfg0.N) (j : Fin 16) (a : Fin 128) (x : Fin 256) :
    iblk m c 3 t (ix4 0 j a x) = V m c main_v7 (ix4 (bOf t) j (vcol (hOf t) a) x) := by
  unfold iblk bOf hOf vcol
  blk_simp [index_3]
  refine congrArg (V m c main_v7) ?_
  blk_ext [index_3]

/-- The block of the first vector: the whole of it. -/
theorem block_l1 (t : Fin cfg0.N) (d : Fin 64) : iblk m c 4 t (ix2 0 d) = V m c main_v9 (ix2 0 d) := by
  unfold iblk
  blk_simp [index_4]
  refine congrArg (V m c main_v9) ?_
  blk_ext [index_4]

/-- The block of the second vector: the whole of it. -/
theorem block_l2 (t : Fin cfg0.N) (d : Fin 64) : iblk m c 5 t (ix2 0 d) = V m c main_v11 (ix2 0 d) := by
  unfold iblk
  blk_simp [index_5]
  refine congrArg (V m c main_v11) ?_
  blk_ext [index_5]

/-- The block of the third vector: the whole of it. -/
theorem block_l3 (t : Fin cfg0.N) (d : Fin 64) : iblk m c 6 t (ix2 0 d) = V m c main_v13 (ix2 0 d) := by
  unfold iblk
  blk_simp [index_6]
  refine congrArg (V m c main_v13) ?_
  blk_ext [index_6]

/-- The block of the fourth vector: the whole of it. -/
theorem block_l4 (t : Fin cfg0.N) (d : Fin 64) : iblk m c 7 t (ix2 0 d) = V m c main_v15 (ix2 0 d) := by
  unfold iblk
  blk_simp [index_7]
  refine congrArg (V m c main_v15) ?_
  blk_ext [index_7]

/-- The block of the gain: the whole of it. -/
theorem block_g (t : Fin cfg0.N) (d : Fin 128) : iblk m c 8 t (ix2 0 d) = V m c main_v18 (ix2 0 d) := by
  unfold iblk
  blk_simp [index_8]
  refine congrArg (V m c main_v18) ?_
  blk_ext [index_8]

end Cert.KernelIdeal.Attn

end
-- ==== Proof.Value.lean ====
/-
  The kernel's result array after the run, at the ideal values: each head's block of it, query block by query block, is what the
  body writes out from the blocks of that batch entry and head.
-/
module

public import proofs.«01_k».proof.Proof.Blocks
public import proofs.«01_k».proof.Proof.Slots
public import Idealize.ShloMosaic.Lib.Pipeline.ArrRel

@[expose] public section

set_option maxRecDepth 16384

noncomputable section

namespace Cert.KernelIdeal.Attn

open Cert.KernelIdeal Cert.KernelIdeal.Gen
open Idealize.ShloMosaic Idealize.ShloMosaic.TcCoe
open Idealize.SL.Sem
open Cert.Soft

variable (m : (ℓ : Loc nD τ sig) → Buf (Elt Ideal) ℓ) (c : Dev nD)

/-! ## The blocks by batch entry and head -/

/-- The blocks of a batch entry and a head. -/
def insOf (b h : Fin 4) : Ins Ideal where
  q i := V m c main_v4 (ix4 b (i 1) (vcol h (i 2)) (i 3))
  k i := V m c main_v16 (ix3 b (i 1) (vcol h (i 2)))
  p i := V m c main_v38 (ix2 (i 0) (i 1))
  v i := V m c main_v7 (ix4 b (i 1) (vcol h (i 2)) (i 3))
  l1 i := V m c main_v9 (ix2 0 (i 1))
  l2 i := V m c main_v11 (ix2 0 (i 1))
  l3 i := V m c main_v13 (ix2 0 (i 1))
  l4 i := V m c main_v15 (ix2 0 (i 1))
  g i := V m c main_v18 (ix2 0 (i 1))

/-- Two records of blocks that agree in every block are one. -/
theorem ins_eq {A B : Ins Ideal} (h0 : A.q = B.q) (h1 : A.k = B.k) (h2 : A.p = B.p) (h3 : A.v = B.v) (h4 : A.l1 = B.l1) (h5 : A.l2 = B.l2)
    (h6 : A.l3 = B.l3) (h7 : A.l4 = B.l4) (h8 : A.g = B.g) : A = B := by
  cases A; cases B; simp only at h0 h1 h2 h3 h4 h5 h6 h7 h8; subst h0 h1 h2 h3 h4 h5 h6 h7 h8; rfl

/-- An index of one batch entry, by its other coordinates. -/
theorem ix4_zero (i : S1x16x128x256.Idx) : i = ix4 0 (i 1) (i 2) (i 3) :=
  (eq_ix4 i).trans (congrArg (fun z : Fin 1 => ix4 z (i 1) (i 2) (i 3)) (Subsingleton.elim _ _))

/-- An index of one batch entry, by its other coordinates. -/
theorem ix3_zero {n k : ℕ} (i : (⟨3, ![1, n, k]⟩ : Shape).Idx) : i = ix3 0 (i 1) (i 2) :=
  (eq_ix3 i).trans (congrArg (fun z : Fin 1 => ix3 z (i 1) (i 2)) (Subsingleton.elim _ _))

/-- An index of one row, by its column. -/
theorem ix2_zero {n : ℕ} (i : (⟨2, ![1, n]⟩ : Shape).Idx) : i = ix2 0 (i 1) :=
  (eq_ix2 i).trans (congrArg (fun z : Fin 1 => ix2 z (i 1)) (Subsingleton.elim _ _))

/-- The queries at a grid point are those of its batch entry and head. -/
theorem insAt_q (t : Fin cfg0.N) : (insAt m c t).q = (insOf m c (bOf t) (hOf t)).q :=
  funext fun i => (congrArg (iblk m c 0 t) (ix4_zero i)).trans (block_q m c t _ _ _)

/-- The keys at a grid point are those of its batch entry and head. -/
theorem insAt_k (t : Fin cfg0.N) : (insAt m c t).k = (insOf m c (bOf t) (hOf t)).k :=
  funext fun i => (congrArg (iblk m c 1 t) (ix3_zero i)).trans (block_k m c t _ _)

/-- The positions at a grid point are those of its batch entry and head. -/
theorem insAt_p (t : Fin cfg0.N) : (insAt m c t).p = (insOf m c (bOf t) (hOf t)).p :=
  funext fun i => (congrArg (iblk m c 2 t) (eq_ix2 i)).trans (block_p m c t _ _)

/-- The values at a grid point are those of its batch entry and head. -/
theorem insAt_v (t : Fin cfg0.N) : (insAt m c t).v = (insOf m c (bOf t) (hOf t)).v :=
  funext fun i => (congrArg (iblk m c 3 t) (ix4_zero i)).trans (block_v m c t _ _ _)

/-- The first vector at a grid point are those of its batch entry and head. -/
theorem insAt_l1 (t : Fin cfg0.N) : (insAt m c t).l1 = (insOf m c (bOf t) (hOf t)).l1 :=
  funext fun i => (congrArg (iblk m c 4 t) (ix2_zero i)).trans (block_l1 m c t _)

/-- The second vector at a grid point are those of its batch entry and head. -/
theorem insAt_l2 (t : Fin cfg0.N) : (insAt m c t).l2 = (insOf m c (bOf t) (hOf t)).l2 :=
  funext fun i => (congrArg (iblk m c 5 t) (ix2_zero i)).trans (block_l2 m c t _)

/-- The third vector at a grid point are those of its batch entry and head. -/
theorem insAt_l3 (t : Fin cfg0.N) : (insAt m c t).l3 = (insOf m c (bOf t) (hOf t)).l3 :=
  funext fun i => (congrArg (iblk m c 6 t) (ix2_zero i)).trans (block_l3 m c t _)

/-- The fourth vector at a grid point are those of its batch entry and head. -/
theorem insAt_l4 (t : Fin cfg0.N) : (insAt m c t).l4 = (insOf m c (bOf t) (hOf t)).l4 :=
  funext fun i => (congrArg (iblk m c 7 t) (ix2_zero i)).trans (block_l4 m c t _)

/-- The gain at a grid point are those of its batch entry and head. -/
theorem insAt_g (t : Fin cfg0.N) : (insAt m c t).g = (insOf m c (bOf t) (hOf t)).g :=
  funext fun i => (congrArg (iblk m c 8 t) (ix2_zero i)).trans (block_g m c t _)

/-- The blocks at a grid point are those of its batch entry and head. -/
theorem insAt_eq (t : Fin cfg0.N) : insAt m c t = insOf m c (bOf t) (hOf t) :=
  ins_eq (insAt_q m c t) (insAt_k m c t) (insAt_p m c t) (insAt_v m c t) (insAt_l1 m c t) (insAt_l2 m c t) (insAt_l3 m c t) (insAt_l4 m c t)
    (insAt_g m c t)

/-- An argument of the shape of the queries holds a real sequence. -/
def Real3 (x : S4x4096x512.Idx → EReal) (Q : Seq) : Prop := ∀ (b : Fin 4) (p : Fin 4096) (a : Fin 512), x (ix3 b p a) = (Q b p a : EReal)

/-- The queries of a batch entry and a head. -/
theorem reads_q {Q : Seq} (hQ : Real3 (m ((c : Thread nD τ).loc main_arg0)) Q) (b h : Fin 4) (j : Fin 16) (a : Fin 128) (x : Fin 256) :
    (insOf m c b h).q (ix4 0 j a x) = ((Q b (at256 j x) (vcol h a) * (1 / 8) : ℝ) : EReal) :=
  array_q m c b j (vcol h a) x (Q b (at256 j x) (vcol h a)) (hQ b (at256 j x) (vcol h a))

/-- The keys of a batch entry and a head. -/
theorem reads_k {K : Seq} (hK : Real3 (m ((c : Thread nD τ).loc main_arg1)) K) (b h : Fin 4) (k : Fin 4096) (a : Fin 128) :
    (insOf m c b h).k (ix3 0 k a) = (K b k (vcol h a) : EReal) :=
  (array_k m c (ix3 b k (vcol h a))).trans (hK b k (vcol h a))

/-- The positions. -/
theorem reads_p (b h : Fin 4) (k : Fin 4096) (l : Fin 128) : (insOf m c b h).p (ix2 k l) = (posR k l : EReal) := array_p m c k l

/-- The values of a batch entry and a head. -/
theorem reads_v {W : Seq} (hW : Real3 (m ((c : Thread nD τ).loc main_arg2)) W) (b h : Fin 4) (j : Fin 16) (a : Fin 128) (x : Fin 256) :
    (insOf m c b h).v (ix4 0 j a x) = (W b (at256 j x) (vcol h a) : EReal) :=
  (array_v m c b j (vcol h a) x).trans (hW b (at256 j x) (vcol h a))

/-- The blocks of a batch entry and a head hold the sequences that the arguments hold. -/
theorem reads_of {Q K W : Seq} (hQ : Real3 (m ((c : Thread nD τ).loc main_arg0)) Q) (hK : Real3 (m ((c : Thread nD τ).loc main_arg1)) K)
    (hW : Real3 (m ((c : Thread nD τ).loc main_arg2)) W) (b h : Fin 4) : Reads (insOf m c b h) Q K W b h :=
  ⟨reads_q m c hQ b h, reads_k m c hK b h, reads_p m c b h, reads_v m c hW b h⟩

/-- The slope at a grid point is the head's. -/
theorem slope_at (t : Fin cfg0.N) : slopeOf (F := Ideal) (grid0.coords t) = (Soft.slope (hOf t) : EReal) := by
  have e : ∀ n : Fin 4, (Scalar.select (Scalar.cmpi .eq (BitVec.ofNat 32 n.val) 3#32) (Ideal.ofBits .f32 0x3B800000#32)
    (Scalar.select (Scalar.cmpi .eq (BitVec.ofNat 32 n.val) 2#32) (Ideal.ofBits .f32 0x3C800000#32)
      (Scalar.select (Scalar.cmpi .eq (BitVec.ofNat 32 n.val) 1#32) (Ideal.ofBits .f32 0x3D800000#32)
        (Ideal.ofBits .f32 0x3E800000#32)))) = (Soft.slope n : EReal) := by
    intro n
    fin_cases n
    · show Ideal.ofBits .f32 0x3E800000#32 = ((1 / 4 : ℝ) : EReal)
      simp [Ideal.ofBits, Ideal.ieee, -EReal.coe_mul]; norm_num
    · show Ideal.ofBits .f32 0x3D800000#32 = ((1 / 16 : ℝ) : EReal)
      simp [Ideal.ofBits, Ideal.ieee, -EReal.coe_mul]; norm_num
    · show Ideal.ofBits .f32 0x3C800000#32 = ((1 / 64 : ℝ) : EReal)
      simp [Ideal.ofBits, Ideal.ieee, -EReal.coe_mul]; norm_num
    · show Ideal.ofBits .f32 0x3B800000#32 = ((1 / 256 : ℝ) : EReal)
      simp [Ideal.ofBits, Ideal.ieee, -EReal.coe_mul]; norm_num
  unfold slopeOf
  exact e (hOf t)

/-! ## The grid points -/

/-- The second half of a head's work comes right after the first, and not first of all. -/
theorem second_pos : ∀ t : Fin cfg0.N, k0_cond1 (grid0.coords t) = 1#1 → t.val ≠ 0 := by decide +kernel

/-- The two halves of a head's work, one after the other, are of one batch entry and one head. -/
theorem second_after : ∀ t t' : Fin cfg0.N, t'.val + 1 = t.val → k0_cond1 (grid0.coords t) = 1#1 →
    k0_cond1 (grid0.coords t') ≠ 1#1 ∧ bOf t' = bOf t ∧ hOf t' = hOf t := by decide +kernel

/-- The block is written back after the second half only. -/
theorem flush_second : ∀ t : Fin cfg0.N, (cfg0.win 9).flush t = decide (k0_cond1 (grid0.coords t) = 1#1) := by decide +kernel

/-- What the run keeps: after the first half of a head's work the slots and the accumulator hold the query blocks left over and the output
    block the even ones; after the second half the output block holds every one. -/
def plan : Plan m where
  inv c n s mx a := ∀ t : Fin cfg0.N, t.val = n → k0_cond1 (grid0.coords t) = 1#1 → ∀ o,
    Has (insOf m c (bOf t) (hOf t)) (Soft.slope (hOf t) : EReal) midSlots (some 15) [] ⟨o, s, mx, a⟩
  out c t o := (k0_cond1 (grid0.coords t) = 1#1 → ∀ q, Out (insOf m c (bOf t) (hOf t)) (Soft.slope (hOf t) : EReal) o q)
    ∧ (k0_cond1 (grid0.coords t) ≠ 1#1 → ∀ q ∈ ([14, 12, 10, 8, 6, 4, 2, 0] : List (Fin 16)),
      Out (insOf m c (bOf t) (hOf t)) (Soft.slope (hOf t) : EReal) o q)
  start c s mx a t ht h := absurd ht (second_pos t h)
  step c t σ hi ho := by
    rw [insAt_eq]
    unfold runAt
    rw [slope_at]
    by_cases h : k0_cond1 (grid0.coords t) = 1#1
    · rw [if_pos h]
      refine ⟨fun t' ht' h' => absurd h (second_after t' t ht'.symm h').1, fun _ q => ?_, fun hn => absurd h hn⟩
      have hp : 0 < t.val := Nat.pos_of_ne_zero (second_pos t h)
      have ht : (⟨t.val - 1, by omega⟩ : Fin cfg0.N).val + 1 = t.val := by simp only; omega
      obtain ⟨hc, hb, hh⟩ := second_after t _ ht h
      have hO := (ho _ ht (by rw [flush_second]; exact decide_eq_false hc)).2 hc
      rw [hb, hh] at hO
      have hH := hi t rfl h σ.o
      exact runSecond_has ⟨hH.slot, hH.acc, hO⟩ q
    · rw [if_neg h]
      have hF := runFirst_has (insOf m c (bOf t) (hOf t)) (Soft.slope (hOf t) : EReal) σ
      generalize runFirst (insOf m c (bOf t) (hOf t)) (Soft.slope (hOf t) : EReal) σ = σ' at hF ⊢
      refine ⟨fun t' ht' h' o => ?_, fun hn => absurd hn h, fun _ q hq => hF.out q hq⟩
      obtain ⟨-, hb, hh⟩ := second_after t' t ht'.symm h'
      rw [← hb, ← hh]
      exact ⟨hF.slot, hF.acc, fun q hq => absurd hq List.not_mem_nil⟩

/-! ## The result -/

/-- A place of the sequence is a lane of a query block. -/
theorem at256_div (p : Fin 4096) : p = at256 ⟨p.val / 256, by omega⟩ ⟨p.val % 256, by omega⟩ :=
  Fin.ext (show p.val = 256 * (p.val / 256) + p.val % 256 by omega)

/-- The result after the run, given an array that holds what the body writes out. -/
theorem run_value (ρ : Dev nD → PrngReg) (G : Dev nD → S4x4096x512.Idx → EReal)
    (hG : ∀ c b h q x a, outOf (insOf m c b h) (Soft.slope h : EReal) q (ix3 0 x a) = G c (ix3 b (at256 q x) (vcol h a))) :
    θ_run defs (onTc (τ := τ) (main (F := Ideal))) (s₀ m ρ) (fun r => ∀ c : Dev nD,
      r.2.mem ((c.tc : Thread nD τ).loc main_v39) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨?_,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩)
    (run_main ρ (plan m))
  obtain ⟨after, hL, hA⟩ := Pipeline.RDat.FramePost.exists_exact h.1 c
  have hO : ∀ t : Fin cfg0.N, (cfg0.win 9).flush t = true → ∀ (q : Fin 16) (x : Fin 256) (a : Fin 128),
      after 9 t (ix3 0 (at256 q x) a) = G c (ix3 (bOf t) (at256 q x) (vcol (hOf t) a)) := fun t hf q x a => by
    have hP : (plan m).out c t (after 9 t) := (dats (plan m) 0 c).toRRel_leaves (by decide) (hL 9 t hf)
    rw [flush_second] at hf
    have e := congrFun (hP.1 (of_decide_eq_true hf) q) (ix3 0 x a)
    rw [part_rK] at e
    exact e.trans (hG c _ _ _ _ _)
  refine (hA 9).trans (((dats (plan m) 0 c).toRRel rel0 (relOf (plan m) c)).withAfter after |>.arrAt_eq_of_covers 9 (G c) (by decide +kernel) fun t hf y => ?_)
  have hp : (y 1).val < 4096 := (y 1).isLt
  have ha : (y 2).val < 128 := (y 2).isLt
  have e := hO t hf ⟨(y 1).val / 256, by omega⟩ ⟨(y 1).val % 256, by omega⟩ ⟨(y 2).val, ha⟩
  have hd := at256_div ⟨(y 1).val, hp⟩
  simp only at hd
  rw [← hd] at e
  blk_simp
  rw [Pipeline.RDat.withAfter_after]
  refine (congrArg (after 9 t) (ix3_zero (n := 4096) (k := 128) y)).trans (e.trans (congrArg (G c) (Eq.symm ?_)))
  unfold bOf hOf vcol
  blk_ext [index_9]

end Cert.KernelIdeal.Attn

end
-- ==== Proof.RefScores.lean ====
/-
  The reference program's softmax weights, at the ideal values: its scores are the real scores, masked, and each weight is
  the exponential of a score less the largest, over their sum. Each stage of the program is read at an index, from the
  arguments up.
-/
module

public import proofs.«01_k».proof.Proof.Soft
public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read
open Idealize.ShloMosaic
open Cert.Soft

/-- An argument of the shape of the queries holds a real sequence. -/
def Holds (x : (⟨S4x4096x512, .f32⟩ : BufTy).Contents (Elt Ideal)) (Q : Seq) : Prop :=
  ∀ i : S4x4096x512.Idx, x i = (Q (i 0) (i 1) (i 2) : EReal)

variable {x0 x1 x2 : (⟨S4x4096x512, .f32⟩ : BufTy).Contents (Elt Ideal)} {Q K W : Seq}

/-! ## The scores -/

/-- The word of an eighth. -/
theorem bits_eighth : Ideal.ofBits .f32 0x3E000000#32 = ((1 / 8 : ℝ) : EReal) := by
  simp [Ideal.ofBits, Ideal.ieee, -EReal.coe_mul]; norm_num

/-- The scaled queries, by half of a head. -/
theorem v15_val (hQ : Holds x0 Q) (i : S4x4x2x4096x64.Idx) :
    val_main_v15 (F := Ideal) x0 i = ((Q (i 0) (i 3) (hcol (i 1) (i 2) (i 4)) * (1 / 8) : ℝ) : EReal) := by
  have h0 : (i 0).val < 4 := (i 0).isLt
  have h1 : (i 1).val < 4 := (i 1).isLt
  have h2 : (i 2).val < 2 := (i 2).isLt
  have h3 : (i 3).val < 4096 := (i 3).isLt
  have h4 : (i 4).val < 64 := (i 4).isLt
  rw [val_main_v15_apply, val_main_v14_apply, val_main_v12_apply, val_main_v13_apply, val_main_cst_2_apply, hQ, EReal.coe_mul]
  refine congrArg₂ (fun a b : EReal => a * b) (congrArg _ ?_) bits_eighth
  refine congr (congr (congrArg Q (Fin.ext ?_)) (Fin.ext ?_)) (Fin.ext ?_)
  · show (((((i 0).val * 4096 + (i 3).val) * 4 + (i 1).val) * 2 + (i 2).val) * 64 + (i 4).val) / 2097152 = (i 0).val
    omega
  · show (((((i 0).val * 4096 + (i 3).val) * 4 + (i 1).val) * 2 + (i 2).val) * 64 + (i 4).val) / 512 % 4096 = (i 3).val
    omega
  · show (((((i 0).val * 4096 + (i 3).val) * 4 + (i 1).val) * 2 + (i 2).val) * 64 + (i 4).val) % 512
      = 128 * (i 1).val + 64 * (i 2).val + (i 4).val
    omega

/-- The keys, by half of a head. -/
theorem v17_val (hK : Holds x1 K) (i : S4x4x2x4096x64.Idx) :
    val_main_v17 (F := Ideal) x1 i = (K (i 0) (i 3) (hcol (i 1) (i 2) (i 4)) : EReal) := by
  have h0 : (i 0).val < 4 := (i 0).isLt
  have h1 : (i 1).val < 4 := (i 1).isLt
  have h2 : (i 2).val < 2 := (i 2).isLt
  have h3 : (i 3).val < 4096 := (i 3).isLt
  have h4 : (i 4).val < 64 := (i 4).isLt
  rw [val_main_v17_apply, val_main_v16_apply, hK]
  refine congrArg _ (congr (congr (congrArg K (Fin.ext ?_)) (Fin.ext ?_)) (Fin.ext ?_))
  · show (((((i 0).val * 4096 + (i 3).val) * 4 + (i 1).val) * 2 + (i 2).val) * 64 + (i 4).val) / 2097152 = (i 0).val
    omega
  · show (((((i 0).val * 4096 + (i 3).val) * 4 + (i 1).val) * 2 + (i 2).val) * 64 + (i 4).val) / 512 % 4096 = (i 3).val
    omega
  · show (((((i 0).val * 4096 + (i 3).val) * 4 + (i 1).val) * 2 + (i 2).val) * 64 + (i 4).val) % 512
      = 128 * (i 1).val + 64 * (i 2).val + (i 4).val
    omega

/-- The values, by head. -/
theorem v19_val (hW : Holds x2 W) (i : S4x4x4096x128.Idx) :
    val_main_v19 (F := Ideal) x2 i = (W (i 0) (i 2) (vcol (i 1) (i 3)) : EReal) := by
  have h0 : (i 0).val < 4 := (i 0).isLt
  have h1 : (i 1).val < 4 := (i 1).isLt
  have h2 : (i 2).val < 4096 := (i 2).isLt
  have h3 : (i 3).val < 128 := (i 3).isLt
  rw [val_main_v19_apply, val_main_v18_apply, hW]
  refine congrArg _ (congr (congr (congrArg W (Fin.ext ?_)) (Fin.ext ?_)) (Fin.ext ?_))
  · show ((((i 0).val * 4096 + (i 2).val) * 4 + (i 1).val) * 128 + (i 3).val) / 2097152 = (i 0).val
    omega
  · show ((((i 0).val * 4096 + (i 2).val) * 4 + (i 1).val) * 128 + (i 3).val) / 512 % 4096 = (i 2).val
    omega
  · show ((((i 0).val * 4096 + (i 2).val) * 4 + (i 1).val) * 128 + (i 3).val) % 512 = 128 * (i 1).val + (i 3).val
    omega

/-- The scaled inner products. -/
theorem v32_val (hQ : Holds x0 Q) (hK : Holds x1 K) (i : S4x4x2x4096x4096.Idx) :
    val_main_v32 (F := Ideal) x0 x1 i
      = ((∑ d : Fin 64, Q (i 0) (i 3) (hcol (i 1) (i 2) d) * (1 / 8) * K (i 0) (i 4) (hcol (i 1) (i 2) d) : ℝ) : EReal) := by
  rw [val_main_v32_apply, coe_sum Finset.univ]
  refine Finset.sum_congr rfl fun d _ => ?_
  rw [v15_val hQ, v17_val hK, ← EReal.coe_mul]
  rfl

/-- A small word, signed, is its number. -/
theorem toInt_small (n : ℕ) (h : n < 4096) : (BitVec.ofNat 32 n).toInt = (n : ℤ) := by
  have e : (BitVec.ofNat 32 n).toNat = n := by rw [BitVec.toNat_ofNat]; omega
  rw [BitVec.toInt_eq_toNat_of_lt (by omega), e]

/-- The distance of the key from the query. -/
theorem v38_val (i : S4096x4096.Idx) : val_main_v38 (F := Ideal) i = ((((i 0).val : ℝ) - ((i 1).val : ℝ) : ℝ) : EReal) := by
  have h0 : (i 0).val < 4096 := (i 0).isLt
  have h1 : (i 1).val < 4096 := (i 1).isLt
  have e : (BitVec.ofNat 32 (i 0).val - BitVec.ofNat 32 (i 1).val).toInt = ((i 0).val : ℤ) - ((i 1).val : ℤ) := by
    rw [BitVec.toInt_sub, toInt_small _ h0, toInt_small _ h1, Int.bmod_eq_of_le] <;> omega
  rw [val_main_v38_apply, val_main_v37_apply, val_main_v35_apply, val_main_v36_apply, val_main_v33_apply, val_main_v34_apply,
    val_main_v31_apply, val_main_v31_apply]
  show (((BitVec.ofNat 32 (i 0).val - BitVec.ofNat 32 (i 1).val).toInt : ℝ) : EReal) = _
  rw [e]
  push_cast
  rfl

/-- The words of the slopes' formula. -/
theorem bits_one : Ideal.ofBits .f32 0x3F800000#32 = ((1 : ℝ) : EReal) := by
  simp [Ideal.ofBits, Ideal.ieee, -EReal.coe_mul]; try norm_num

/-- The printed constant for 2. -/
theorem bits_two : Ideal.ofBits .f32 0x40000000#32 = ((2 : ℝ) : EReal) := by
  simp [Ideal.ofBits, Ideal.ieee, -EReal.coe_mul]; try norm_num

/-- The printed constant for 4. -/
theorem bits_four : Ideal.ofBits .f32 0x40800000#32 = ((4 : ℝ) : EReal) := by
  simp [Ideal.ofBits, Ideal.ieee, -EReal.coe_mul]; try norm_num

/-- The printed constant for minus 8. -/
theorem bits_neg_eight : Ideal.ofBits .f32 0xC1000000#32 = ((-8 : ℝ) : EReal) := by
  simp [Ideal.ofBits, Ideal.ieee, -EReal.coe_mul]; try norm_num

/-- The printed constant for minus infinity. -/
theorem bits_low : Ideal.ofBits .f32 0xFF800000#32 = ⊥ := by simp [Ideal.ofBits, Ideal.ieee]

/-- The printed constant for zero. -/
theorem bits_zero : Ideal.ofBits .f32 0x00000000#32 = 0 := by simp [Ideal.ofBits, Ideal.ieee]

/-- Two to the power of minus twice a head's number, counted from one, is the head's slope. -/
theorem pow_slope (i : Fin 4) : Real.rpow 2 (-8 * ((i.val : ℝ) + 1) * (1 / 4)) = Soft.slope i := by
  have e : (-8 * ((i.val : ℝ) + 1) * (1 / 4)) = -((2 * (i.val + 1) : ℕ) : ℝ) := by push_cast; ring
  rw [e]
  show (2 : ℝ) ^ (-((2 * (i.val + 1) : ℕ) : ℝ)) = _
  rw [Real.rpow_neg (by norm_num), Real.rpow_natCast]
  fin_cases i <;> simp [Soft.slope] <;> norm_num

/-- The slopes. -/
theorem v29_val (i : S4.Idx) : val_main_v29 (F := Ideal) i = (Soft.slope (i 0) : EReal) := by
  have h0 : (i 0).val < 4 := (i 0).isLt
  rw [val_main_v29_apply, val_main_v28_apply, val_main_v27_apply, val_main_v26_apply, val_main_v25_apply, val_main_v24_apply,
    val_main_v23_apply, val_main_v22_apply, val_main_v21_apply, val_main_v20_apply, val_main_cst_6_apply, val_main_cst_5_apply,
    val_main_cst_4_apply, val_main_cst_3_apply]
  show Ideal.pow (Ideal.ofBits .f32 0x40000000#32) (Ideal.div (Ideal.ofBits .f32 0xC1000000#32
    * ((((BitVec.ofNat 32 (i 0).val).toInt : ℝ) : EReal) + Ideal.ofBits .f32 0x3F800000#32)) (Ideal.ofBits .f32 0x40800000#32)) = _
  rw [bits_one, bits_two, bits_four, bits_neg_eight, toInt_small _ (by omega), ← EReal.coe_add, ← EReal.coe_mul,
    Ideal.div_coe (by norm_num), ← EReal.coe_mul]
  show ((Real.rpow 2 _ : ℝ) : EReal) = _
  exact congrArg _ (pow_slope (i 0))

/-- The penalty. -/
theorem v47_val (i : S4x4x2x4096x4096.Idx) :
    val_main_v47 (F := Ideal) i = ((Soft.slope (i 1) * (((i 3).val : ℝ) - ((i 4).val : ℝ)) : ℝ) : EReal) := by
  rw [val_main_v47_apply, val_main_v46_apply, val_main_v45_apply, val_main_v43_apply, val_main_v44_apply, val_main_v42_apply, v38_val,
    val_main_v41_apply, val_main_v30_apply, v29_val, EReal.coe_mul]
  rfl

/-- The masked scores. -/
theorem v49_val (hQ : Holds x0 Q) (hK : Holds x1 K) (i : S4x4x2x4096x4096.Idx) :
    val_main_v49 (F := Ideal) x0 x1 i
      = if (i 4 : Fin 4096) ≤ (i 3 : Fin 4096) then (sc Q K (i 0) (i 1) (i 2) (i 3) (i 4) : EReal) else ⊥ := by
  have e : val_main_call0_v1 (F := Ideal) i = if (i 4 : Fin 4096) ≤ (i 3 : Fin 4096) then 1#1 else 0#1 := by
    rw [val_main_call0_v1_apply, val_main_v40_apply, v38_val, val_main_v39_apply, val_main_cst_7_apply]
    show BitVec.ofBool (decide (Ideal.ofBits .f32 0x00000000#32 ≤ ((((i 3).val : ℝ) - ((i 4).val : ℝ) : ℝ) : EReal))) = _
    rw [bits_zero]
    have : ((0 : EReal) ≤ ((((i 3).val : ℝ) - ((i 4).val : ℝ) : ℝ) : EReal)) ↔ (i 4 : Fin 4096) ≤ (i 3 : Fin 4096) := by
      rw [EReal.coe_nonneg, sub_nonneg, Nat.cast_le]
      exact Iff.rfl
    by_cases h : (i 4 : Fin 4096) ≤ (i 3 : Fin 4096)
    · rw [if_pos h, decide_eq_true (this.mpr h)]; rfl
    · rw [if_neg h, decide_eq_false (fun hh => h (this.mp hh))]; rfl
  rw [val_main_v49_apply, e, val_main_v48_apply, v32_val hQ hK, v47_val, val_main_call0_v2_apply]
  by_cases h : (i 4 : Fin 4096) ≤ (i 3 : Fin 4096)
  · rw [if_pos h, if_pos h]
    exact (EReal.coe_sub _ _).symm
  · rw [if_neg h, if_neg h]
    exact bits_low

/-! ## The softmax -/

/-- The maximum over the keys of scores below infinity, one of them real, is real. -/
theorem max_keys (y : (⟨S4x4x2x4096x4096, .f32⟩ : BufTy).Contents (Elt Ideal)) (hy : ∀ i, y i < (⊤ : EReal))
    (hr : ∀ i : S4x4x2x4096x4096.Idx, i 4 = (0 : Fin 4096) → ∃ a : ℝ, y i = (a : EReal)) (b n : Fin 4) (h : Fin 2) (p : Fin 4096) :
    ∃ r : ℝ, Host.reduce (FloatOps.maximumf : Ideal .f32 → Ideal .f32 → Ideal .f32) y (val_main_cst_9 (F := Ideal))
      reducesTo_S4x4x2x4096x4096_S4x4x2x4096_d4 h_S_ (ix4 b n h p) = (r : EReal) := by
  pointwise
  refine fold_max_real Finset.univ _ _ ?_ (fun k _ => hy _) 0 (Finset.mem_univ _) (hr (ix5 b n h p 0) rfl).choose
    (le_of_eq (hr (ix5 b n h p 0) rfl).choose_spec.symm)
  show Ideal.ofBits .f32 0xFF800000#32 < ⊤
  rw [bits_low]
  exact bot_lt_top

/-- The maximum score of a query is real. -/
theorem v52_real (hQ : Holds x0 Q) (hK : Holds x1 K) (b n : Fin 4) (h : Fin 2) (p : Fin 4096) :
    ∃ M : ℝ, val_main_v52 (F := Ideal) x0 x1 (ix4 b n h p) = (M : EReal) := by
  rw [val_main_v52_apply, val_main_v51_apply, val_main_cst_10_apply]
  unfold val_main_v50
  obtain ⟨r, hr⟩ := max_keys (val_main_v49 (F := Ideal) x0 x1) (fun i => by
    rw [v49_val hQ hK]
    split
    · exact EReal.coe_lt_top _
    · exact bot_lt_top) (fun i hi => ⟨sc Q K (i 0) (i 1) (i 2) (i 3) (i 4), by
    rw [v49_val hQ hK, if_pos (show (i 4 : Fin 4096) ≤ (i 3 : Fin 4096) by rw [hi]; exact Fin.zero_le _)]⟩) b n h p
  rw [hr]
  show ∃ M : ℝ, max (Ideal.ofBits .f32 0xFF800000#32) (r : EReal) = (M : EReal)
  rw [bits_low]
  exact ⟨r, max_eq_right bot_le⟩

/-- The exponentials are the weights. -/
theorem v56_val (hQ : Holds x0 Q) (hK : Holds x1 K) (b n : Fin 4) (h : Fin 2) (p : Fin 4096) (M : ℝ)
    (hM : val_main_v52 (F := Ideal) x0 x1 (ix4 b n h p) = (M : EReal)) (k : Fin 4096) :
    val_main_v56 (F := Ideal) x0 x1 (ix5 b n h p k) = wgt (sc Q K b n h p) M p k := by
  have ei : idx_main_v53 (idx_main_v54 (ix5 b n h p k)) = ix4 b n h p := by
    funext a
    match a with | ⟨0, _⟩ => rfl | ⟨1, _⟩ => rfl | ⟨2, _⟩ => rfl | ⟨3, _⟩ => rfl
  rw [val_main_v56_apply, val_main_v55_apply, val_main_v54_apply, val_main_v53_apply, ei, hM, v49_val hQ hK]
  exact exp_masked (sc Q K b n h p) M p k

/-- Their sum. -/
theorem v57_val (hQ : Holds x0 Q) (hK : Holds x1 K) (b n : Fin 4) (h : Fin 2) (p : Fin 4096) (M : ℝ)
    (hM : val_main_v52 (F := Ideal) x0 x1 (ix4 b n h p) = (M : EReal)) :
    val_main_v57 (F := Ideal) x0 x1 (ix4 b n h p) = (wsum (fun k => sc Q K b n h p k - M) p (fun _ => 1) : EReal) := by
  have ei : ∀ k, idx_main_v57 (ix4 b n h p) k = ix5 b n h p k := fun k => by
    funext a
    match a with | ⟨0, _⟩ => rfl | ⟨1, _⟩ => rfl | ⟨2, _⟩ => rfl | ⟨3, _⟩ => rfl | ⟨4, _⟩ => rfl
  rw [val_main_v57_apply, val_main_cst_11_apply]
  show Ideal.ofBits .f32 0x00000000#32 + _ = _
  rw [bits_zero, zero_add, ← sum_wgt]
  refine Finset.sum_congr rfl fun k _ => ?_
  rw [ei]
  exact v56_val hQ hK b n h p M hM k

/-- The softmax weights. -/
theorem v60_val (hQ : Holds x0 Q) (hK : Holds x1 K) (b n : Fin 4) (h : Fin 2) (p : Fin 4096) (M : ℝ)
    (hM : val_main_v52 (F := Ideal) x0 x1 (ix4 b n h p) = (M : EReal)) (k : Fin 4096) :
    val_main_v60 (F := Ideal) x0 x1 (ix5 b n h p k)
      = Ideal.div (wgt (sc Q K b n h p) M p k) (wsum (fun k => sc Q K b n h p k - M) p (fun _ => 1) : EReal) := by
  have ei : idx_main_v58 (idx_main_v59 (ix5 b n h p k)) = ix4 b n h p := by
    funext a
    match a with | ⟨0, _⟩ => rfl | ⟨1, _⟩ => rfl | ⟨2, _⟩ => rfl | ⟨3, _⟩ => rfl
  rw [val_main_v60_apply, val_main_v59_apply, val_main_v58_apply, ei, v56_val hQ hK b n h p M hM, v57_val hQ hK b n h p M hM]
  rfl

end Cert.ReferenceIdeal.Attn

end
-- ==== Proof.RefValue.lean ====
/-
  What the reference program returns, at the ideal values: the same normalized difference of two softmax averages as in
  `Proof/Soft.lean`. Each stage of the program is read at an index, from the arguments up.
-/
module

public import proofs.«01_k».proof.Proof.RefScores

@[expose] public section

set_option maxRecDepth 16384

noncomputable section

namespace Cert.ReferenceIdeal.Attn

open Cert.ReferenceIdeal Cert.ReferenceIdeal.Gen Cert.ReferenceIdeal.Read
open Idealize.ShloMosaic
open Cert.Soft

variable {x0 x1 x2 : (⟨S4x4096x512, .f32⟩ : BufTy).Contents (Elt Ideal)} {Q K W : Seq}

/-- The first half's weights, without the half's axis. -/
theorem v62_idx (b n : Fin 4) (p k : Fin 4096) : idx_main_v61 (idx_main_v62 (ix4 b n p k)) = ix5 b n 0 p k := by
  have h0 := b.isLt
  have h1 := n.isLt
  have h2 := p.isLt
  have h3 := k.isLt
  funext a
  refine Fin.ext ?_
  match a with
  | ⟨0, _⟩ => show (((b.val * 4 + n.val) * 4096 + p.val) * 4096 + k.val) / 67108864 = b.val; omega
  | ⟨1, _⟩ => show (((b.val * 4 + n.val) * 4096 + p.val) * 4096 + k.val) / 16777216 % 4 = n.val; omega
  | ⟨2, _⟩ => rfl
  | ⟨3, _⟩ => show (((b.val * 4 + n.val) * 4096 + p.val) * 4096 + k.val) / 4096 % 4096 = p.val; omega
  | ⟨4, _⟩ => show (((b.val * 4 + n.val) * 4096 + p.val) * 4096 + k.val) % 4096 = k.val; omega

/-- The second half's. -/
theorem v64_idx (b n : Fin 4) (p k : Fin 4096) : idx_main_v63 (idx_main_v64 (ix4 b n p k)) = ix5 b n 1 p k := by
  have h0 := b.isLt
  have h1 := n.isLt
  have h2 := p.isLt
  have h3 := k.isLt
  funext a
  refine Fin.ext ?_
  match a with
  | ⟨0, _⟩ => show (((b.val * 4 + n.val) * 4096 + p.val) * 4096 + k.val) / 67108864 = b.val; omega
  | ⟨1, _⟩ => show (((b.val * 4 + n.val) * 4096 + p.val) * 4096 + k.val) / 16777216 % 4 = n.val; omega
  | ⟨2, _⟩ => rfl
  | ⟨3, _⟩ => show (((b.val * 4 + n.val) * 4096 + p.val) * 4096 + k.val) / 4096 % 4096 = p.val; omega
  | ⟨4, _⟩ => show (((b.val * 4 + n.val) * 4096 + p.val) * 4096 + k.val) % 4096 = k.val; omega

variable {x3 x4 x5 x6 : (⟨S1x64, .f32⟩ : BufTy).Contents (Elt Ideal)} {x7 : (⟨S1x128, .f32⟩ : BufTy).Contents (Elt Ideal)} {l : ℝ}

/-- The sum over a vector's indices is the sum over its coordinate. -/
theorem sum_idx (f : S64.Idx → EReal) : ∑ j, f j = ∑ d : Fin 64, f (ix1 d) :=
  Fintype.sum_equiv ⟨fun j => (j 0 : Fin 64), fun d => ix1 d, fun j => (eq_ix1 j).symm, fun _ => rfl⟩ _ _ fun j => congrArg f (eq_ix1 j)

/-- The weight of the second half. -/
theorem v11_val : val_main_v11 (F := Ideal) x3 x4 x5 x6 ix0
    = Ideal.exp (∑ d : Fin 64, x3 (ix2 0 d) * x4 (ix2 0 d)) - Ideal.exp (∑ d : Fin 64, x5 (ix2 0 d) * x6 (ix2 0 d))
      + Ideal.ofBits .f32 0x3E4CCCCD#32 := by
  have ei : ∀ d : Fin 64, idx_main_v0 (ix1 d) = ix2 0 d := fun d => by
    funext a
    refine Fin.ext ?_
    match a with
    | ⟨0, _⟩ => rfl
    | ⟨1, _⟩ => show d.val % 64 = d.val; omega
  rw [val_main_v11_apply, val_main_v10_apply, val_main_v4_apply, val_main_v9_apply, val_main_v3_apply, val_main_v8_apply, val_main_cst_1_apply,
    val_main_cst_apply, val_main_cst_0_apply, sum_idx, sum_idx]
  show Ideal.exp (Ideal.ofBits .f32 0x00000000#32 + _) - Ideal.exp (Ideal.ofBits .f32 0x00000000#32 + _) + Ideal.ofBits .f32 0x3E4CCCCD#32 = _
  rw [bits_zero, zero_add, zero_add]
  refine congrArg₂ (fun a b : EReal => Ideal.exp a - Ideal.exp b + Ideal.ofBits .f32 0x3E4CCCCD#32) ?_ ?_
  · refine Finset.sum_congr rfl fun d _ => ?_
    rw [val_main_v2_apply, val_main_v0_apply, val_main_v1_apply]
    exact congrArg₂ (fun a b : EReal => a * b) (congrArg x3 (ei d)) (congrArg x4 (ei d))
  · refine Finset.sum_congr rfl fun d _ => ?_
    rw [val_main_v7_apply, val_main_v5_apply, val_main_v6_apply]
    exact congrArg₂ (fun a b : EReal => a * b) (congrArg x5 (ei d)) (congrArg x6 (ei d))

/-- The difference of the two attentions. -/
theorem v68_val (hQ : Holds x0 Q) (hK : Holds x1 K) (hW : Holds x2 W) (hl : val_main_v11 (F := Ideal) x3 x4 x5 x6 ix0 = (l : EReal))
    (b n : Fin 4) (p : Fin 4096) (c : Fin 128) :
    val_main_v68 (F := Ideal) x0 x1 x2 x3 x4 x5 x6 (ix4 b n p c) = dif Q K W l b n p c := by
  obtain ⟨M, hM⟩ := v52_real hQ hK b n 0 p
  obtain ⟨M', hM'⟩ := v52_real hQ hK b n 1 p
  have ei : ∀ k, lidx_main_v68 (ix4 b n p c) k = ix4 b n p k := fun k => by
    funext a
    match a with | ⟨0, _⟩ => rfl | ⟨1, _⟩ => rfl | ⟨2, _⟩ => rfl | ⟨3, _⟩ => rfl
  rw [val_main_v68_apply]
  unfold dif
  rw [← sum_diff (sc Q K b n 0 p) (sc Q K b n 1 p) M M' l p]
  refine Finset.sum_congr rfl fun k _ => ?_
  rw [ei, val_main_v67_apply, val_main_v66_apply, val_main_v65_apply, val_main_v64_apply, val_main_v63_apply, val_main_v62_apply, val_main_v61_apply,
    v62_idx, v64_idx, v60_val hQ hK b n 0 p M hM, v60_val hQ hK b n 1 p M' hM', v19_val hW, show idx_main_v65 (ix4 b n p k) = ix0 from rfl, hl]
  rfl

/-- The same, with the heads' axis after the queries'. -/
theorem v69_val (hQ : Holds x0 Q) (hK : Holds x1 K) (hW : Holds x2 W) (hl : val_main_v11 (F := Ideal) x3 x4 x5 x6 ix0 = (l : EReal))
    (b : Fin 4) (p : Fin 4096) (n : Fin 4) (c : Fin 128) :
    val_main_v69 (F := Ideal) x0 x1 x2 x3 x4 x5 x6 (ix4 b p n c) = dif Q K W l b n p c := by
  have ei : idx_main_v69 (ix4 b p n c) = ix4 b n p c := by
    funext a
    match a with | ⟨0, _⟩ => rfl | ⟨1, _⟩ => rfl | ⟨2, _⟩ => rfl | ⟨3, _⟩ => rfl
  rw [val_main_v69_apply, ei]
  exact v68_val hQ hK hW hl b n p c

/-- The place of a result column among the heads' columns. -/
theorem idx86 (b : Fin 4) (p : Fin 4096) (n : Fin 4) (c : Fin 128) : idx_main_v86 (ix3 b p (vcol n c)) = ix4 b p n c := by
  have h0 := b.isLt
  have h1 := n.isLt
  have h2 := p.isLt
  have h3 := c.isLt
  have e : ∀ i : S4x4096x512.Idx, ((idx_main_v86 i 0).val = (((i 0).val * 4096 + (i 1).val) * 512 + (i 2).val) / 2097152)
      ∧ ((idx_main_v86 i 1).val = (((i 0).val * 4096 + (i 1).val) * 512 + (i 2).val) / 512 % 4096)
      ∧ ((idx_main_v86 i 2).val = (((i 0).val * 4096 + (i 1).val) * 512 + (i 2).val) / 128 % 4)
      ∧ ((idx_main_v86 i 3).val = (((i 0).val * 4096 + (i 1).val) * 512 + (i 2).val) % 128) := fun i => ⟨rfl, rfl, rfl, rfl⟩
  obtain ⟨e0, e1, e2, e3⟩ := e (ix3 b p (vcol n c))
  have a0 : (ix3 b p (vcol n c) 0).val = b.val := rfl
  have a1 : (ix3 b p (vcol n c) 1).val = p.val := rfl
  have a2 : (ix3 b p (vcol n c) 2).val = 128 * n.val + c.val := rfl
  rw [a0, a1, a2] at e0 e1 e2 e3
  funext a
  refine Fin.ext ?_
  match a with
  | ⟨0, _⟩ => exact e0.trans (show _ = b.val by omega)
  | ⟨1, _⟩ => exact e1.trans (show _ = p.val by omega)
  | ⟨2, _⟩ => exact e2.trans (show _ = n.val by omega)
  | ⟨3, _⟩ => exact e3.trans (show _ = c.val by omega)

/-- The reciprocal of the root mean square. -/
theorem v78_val (hQ : Holds x0 Q) (hK : Holds x1 K) (hW : Holds x2 W) (hl : val_main_v11 (F := Ideal) x3 x4 x5 x6 ix0 = (l : EReal))
    (b : Fin 4) (p : Fin 4096) (n : Fin 4) (c : Fin 128) :
    val_main_v78 (F := Ideal) x0 x1 x2 x3 x4 x5 x6 (ix4 b p n c)
      = Ideal.rsqrt (Ideal.div (∑ c', dif Q K W l b n p c' * dif Q K W l b n p c') (Ideal.ofBits .f32 0x43000000#32)
        + Ideal.ofBits .f32 0x358637BD#32) := by
  have e71 : ∀ c' : Fin 128, idx_main_v71 (idx_main_v72 (idx_main_v78 (ix4 b p n c))) c' = ix4 b p n c' := fun c' => by
    funext a
    match a with | ⟨0, _⟩ => rfl | ⟨1, _⟩ => rfl | ⟨2, _⟩ => rfl | ⟨3, _⟩ => rfl
  have es : (∑ c', val_main_v70 (F := Ideal) x0 x1 x2 x3 x4 x5 x6 (idx_main_v71 (idx_main_v72 (idx_main_v78 (ix4 b p n c))) c'))
      = ∑ c', dif Q K W l b n p c' * dif Q K W l b n p c' := Finset.sum_congr rfl fun c' _ => by
    rw [e71, val_main_v70_apply, v69_val hQ hK hW hl, Ideal.mulf_def]
  rw [val_main_v78_apply, val_main_v77_apply, val_main_v76_apply, val_main_v75_apply, val_main_cst_14_apply, val_main_v74_apply,
    val_main_v73_apply, val_main_cst_13_apply, val_main_v72_apply, val_main_v71_apply, val_main_cst_12_apply, es]
  generalize (∑ c', dif Q K W l b n p c' * dif Q K W l b n p c') = z
  show Ideal.rsqrt (Ideal.div (Ideal.ofBits .f32 0x00000000#32 + z) (Ideal.ofBits .f32 0x43000000#32)
    + Ideal.ofBits .f32 0x358637BD#32) = _
  rw [bits_zero, zero_add]

/-- The gain. -/
theorem v82_val (b : Fin 4) (p : Fin 4096) (n : Fin 4) (c : Fin 128) : val_main_v82 (F := Ideal) x7 (ix4 b p n c) = x7 (ix2 0 c) := by
  have e80 : idx_main_v80 (idx_main_v81 (idx_main_v82 (ix4 b p n c))) = ix2 0 c := by
    funext a
    refine Fin.ext ?_
    match a with
    | ⟨0, _⟩ => rfl
    | ⟨1, _⟩ => show c.val % 128 = c.val; omega
  rw [val_main_v82_apply, val_main_v81_apply, val_main_v80_apply, e80]

/-- What the reference returns. -/
theorem v87_val (hQ : Holds x0 Q) (hK : Holds x1 K) (hW : Holds x2 W) (hl : val_main_v11 (F := Ideal) x3 x4 x5 x6 ix0 = (l : EReal))
    (b n : Fin 4) (p : Fin 4096) (c : Fin 128) :
    val_main_v87 (F := Ideal) x0 x1 x2 x3 x4 x5 x6 x7 (ix3 b p (vcol n c)) = rms (dif Q K W l b n p) (fun c => x7 (ix2 0 c)) c := by
  rw [val_main_v87_apply, val_main_v86_apply, idx86, val_main_v85_apply, val_main_v84_apply, val_main_cst_15_apply, val_main_v83_apply,
    v82_val, val_main_v79_apply, v69_val hQ hK hW hl, v78_val hQ hK hW hl]
  unfold rms
  beta_reduce
  rw [← mul_assoc]
  generalize Ideal.rsqrt _ = r
  generalize dif Q K W l b n p c = o
  generalize x7 (ix2 0 c) = g
  rfl

end Cert.ReferenceIdeal.Attn

end
-- ==== Proof.Finite.lean ====
/-
  The precondition read: an argument whose elements are all smaller in magnitude than infinity holds real numbers.
-/
module

public import proofs.«01_k».proof.Defs
public import Idealize.ShloMosaic.Lib.Claim
public import Idealize.ShloMosaic.Lib.Pointwise

@[expose] public section

set_option maxRecDepth 16384

noncomputable section

namespace Cert.Finite

open Idealize.ShloMosaic Cert.Pre_finite

/-- The shape relations of the precondition. -/
theorem facts : Cert.Pre_finite.Facts := ⟨by decide, by decide, by decide, by decide⟩

attribute [local instance] facts

/-- The word of infinity. -/
theorem word_inf : Ideal.ofBits .f32 0x7F800000#32 = (⊤ : EReal) := by
  simp [Ideal.ofBits, Ideal.ieee]

/-- A bit that says that the magnitude is below infinity: the number is real. -/
theorem real_of_bit (x : Ideal .f32)
    (h : BitVec.ofBool (decide (FloatOps.absf x < Ideal.ofBits .f32 0x7F800000#32)) = 1#1) : ∃ r : ℝ, x = (r : EReal) := by
  rw [word_inf, Ideal.absf_def] at h
  have hx : max x (-x) < (⊤ : EReal) := by
    by_contra hn
    rw [decide_eq_false hn] at h
    exact absurd h (by decide)
  have h1 : (x : EReal) ≠ ⊤ := fun e => by rw [e] at hx; exact absurd hx (by simp)
  have h2 : (x : EReal) ≠ ⊥ := fun e => by rw [e] at hx; exact absurd hx (by simp)
  exact ⟨(x : EReal).toReal, (EReal.coe_toReal h1 h2).symm⟩

/-- A conjunction of two bits that is one: both are. -/
theorem bits_of_and {a b : BitVec 1} (h : IntOp.andi a b = 1#1) : a = 1#1 ∧ b = 1#1 := by
  revert a b; decide

variable (x0 x1 x2 : FVec Ideal S4x4096x512 .f32) (x3 x4 x5 x6 : FVec Ideal S1x64 .f32) (x7 : FVec Ideal S1x128 .f32)

/-- The precondition at one element: the elements it reads are real. -/
theorem real_at (h : Cert.Pre_finite.fn (F := Ideal) x0 x1 x2 x3 x4 x5 x6 x7 = fun _ => 1#1) (b : Fin 4) (p : Fin 4096) (n : Fin 8) (d : Fin 64) :
    (∃ r : ℝ, x0 (ix3 b p ⟨64 * n.val + d.val, by omega⟩) = (r : EReal)) ∧ (∃ r : ℝ, x1 (ix3 b p ⟨64 * n.val + d.val, by omega⟩) = (r : EReal))
    ∧ (∃ r : ℝ, x2 (ix3 b p ⟨64 * n.val + d.val, by omega⟩) = (r : EReal)) ∧ (∃ r : ℝ, x3 (ix2 0 d) = (r : EReal))
    ∧ (∃ r : ℝ, x4 (ix2 0 d) = (r : EReal)) ∧ (∃ r : ℝ, x5 (ix2 0 d) = (r : EReal)) ∧ (∃ r : ℝ, x6 (ix2 0 d) = (r : EReal)) := by
  have e := congrFun h (ix2 (⟨32768 * b.val + 8 * p.val + n.val, by omega⟩ : Fin 131072) d)
  unfold fn fn_part1 at e
  beta_reduce at e
  pointwise at e
  obtain ⟨e, e6⟩ := bits_of_and e
  obtain ⟨e, e5⟩ := bits_of_and e
  obtain ⟨e, e4⟩ := bits_of_and e
  obtain ⟨e, e3⟩ := bits_of_and e
  obtain ⟨e, e2⟩ := bits_of_and e
  obtain ⟨e0, e1⟩ := bits_of_and e
  have i0 : ∀ h2 : (32768 * b.val + 8 * p.val + n.val) % 8 * 64 + d.val < 512,
      (ix3 b p (⟨(32768 * b.val + 8 * p.val + n.val) % 8 * 64 + d.val, h2⟩ : Fin 512)) = ix3 b p (⟨64 * n.val + d.val, by omega⟩ : Fin 512) := by
    intro h2
    have a2 : (⟨(32768 * b.val + 8 * p.val + n.val) % 8 * 64 + d.val, h2⟩ : Fin 512) = ⟨64 * n.val + d.val, by omega⟩ := Fin.ext (by simp only; omega)
    rw [a2]
  rw [i0] at e0 e1 e2
  exact ⟨real_of_bit _ e0, real_of_bit _ e1, real_of_bit _ e2, real_of_bit _ e3, real_of_bit _ e4, real_of_bit _ e5, real_of_bit _ e6⟩

end Cert.Finite

end
-- ==== Proof.Meet.lean ====
/-
  The kernel's result is the reference's, at the ideal values, where the arguments are real.
-/
module

public import proofs.«01_k».proof.Proof.Value
public import proofs.«01_k».proof.Proof.RefValue
public import proofs.«01_k».proof.Proof.Finite

@[expose] public section

set_option maxRecDepth 16384

noncomputable section

namespace Cert.Meet

open Cert.Soft
open Idealize.ShloMosaic Idealize.ShloMosaic.TcCoe

/-! ## Real arguments -/

/-- The shape of the queries. -/
abbrev Q3 : Shape := ⟨3, ![4, 4096, 512]⟩
/-- The shape of a lambda vector. -/
abbrev L2 : Shape := ⟨2, ![1, 64]⟩

/-- An array whose elements are real holds a real sequence. -/
theorem seq_of (x : Q3.Idx → EReal)
    (h : ∀ (b : Fin 4) (p : Fin 4096) (n : Fin 8) (d : Fin 64), ∃ r : ℝ, x (ix3 b p ⟨64 * n.val + d.val, by omega⟩) = (r : EReal)) :
    ∃ Q : Seq, ∀ (b : Fin 4) (p : Fin 4096) (a : Fin 512), x (ix3 b p a) = (Q b p a : EReal) := by
  refine ⟨fun b p a => (x (ix3 b p a)).toReal, fun b p a => ?_⟩
  obtain ⟨r, hr⟩ := h b p ⟨a.val / 64, by omega⟩ ⟨a.val % 64, by omega⟩
  have ea : (⟨64 * (a.val / 64) + a.val % 64, by omega⟩ : Fin 512) = a := Fin.ext (by simp only; omega)
  rw [ea] at hr
  show x (ix3 b p a) = ((x (ix3 b p a)).toReal : EReal)
  rw [hr, EReal.toReal_coe]

/-- The second half's weight is real. -/
theorem weight_of (x3 x4 x5 x6 : L2.Idx → EReal) (h3 : ∀ d : Fin 64, ∃ r : ℝ, x3 (ix2 0 d) = (r : EReal))
    (h4 : ∀ d : Fin 64, ∃ r : ℝ, x4 (ix2 0 d) = (r : EReal)) (h5 : ∀ d : Fin 64, ∃ r : ℝ, x5 (ix2 0 d) = (r : EReal))
    (h6 : ∀ d : Fin 64, ∃ r : ℝ, x6 (ix2 0 d) = (r : EReal)) :
    ∃ l : ℝ, Ideal.exp (∑ d : Fin 64, x3 (ix2 0 d) * x4 (ix2 0 d)) - Ideal.exp (∑ d : Fin 64, x5 (ix2 0 d) * x6 (ix2 0 d))
      + Ideal.ofBits .f32 0x3E4CCCCD#32 = (l : EReal) := by
  choose r3 e3 using h3
  choose r4 e4 using h4
  choose r5 e5 using h5
  choose r6 e6 using h6
  obtain ⟨f, hf⟩ := bits_fifth
  refine ⟨Real.exp (∑ d, r3 d * r4 d) - Real.exp (∑ d, r5 d * r6 d) + f, ?_⟩
  simp only [e3, e4, e5, e6, ← EReal.coe_mul, ← coe_sum, Ideal.exp_coe, hf]
  rw [EReal.coe_add, EReal.coe_sub]

/-! ## The two results -/

variable (m : (ℓ : Loc Cert.KernelIdeal.nD Cert.KernelIdeal.τ Cert.KernelIdeal.sig) → Buf (Elt Ideal) ℓ)

/-- The reference's result of the kernel's arguments. -/
def want (c : Dev Cert.KernelIdeal.nD) : Q3.Idx → EReal :=
  Cert.ReferenceIdeal.Read.val_main_v87 (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))

set_option maxHeartbeats 4000000 in
open Cert.KernelIdeal.Attn in
/-- What the body writes out is the reference's result, where the arguments are real. -/
theorem writes_want (hpre : Cert.Pre_KernelIdeal_finite (hPre_finite := Cert.Finite.facts) m) (c : Dev Cert.KernelIdeal.nD) (b h : Fin 4)
    (q : Fin 16) (x : Fin 256) (a : Fin 128) :
    outOf (insOf m c b h) (Soft.slope h : EReal) q (ix3 0 x a) = want m c (ix3 b (at256 q x) (vcol h a)) := by
  have hr := Cert.Finite.real_at _ _ _ _ _ _ _ _ (hpre c)
  obtain ⟨Q, hQ⟩ := seq_of _ fun b p n d => (hr b p n d).1
  obtain ⟨K, hK⟩ := seq_of _ fun b p n d => (hr b p n d).2.1
  obtain ⟨W, hW⟩ := seq_of _ fun b p n d => (hr b p n d).2.2.1
  obtain ⟨l, hl⟩ := weight_of _ _ _ _ (fun d => (hr 0 0 0 d).2.2.2.1) (fun d => (hr 0 0 0 d).2.2.2.2.1) (fun d => (hr 0 0 0 d).2.2.2.2.2.1)
    (fun d => (hr 0 0 0 d).2.2.2.2.2.2)
  have e1 : ∀ d : Fin 64, (insOf m c b h).l1 (ix2 0 d) = m ((c.tc : Thread Cert.KernelIdeal.nD Cert.KernelIdeal.τ).loc Cert.KernelIdeal.main_arg3) (ix2 0 d) :=
    fun d => array_l1 m c d
  have e2 : ∀ d : Fin 64, (insOf m c b h).l2 (ix2 0 d) = m ((c.tc : Thread Cert.KernelIdeal.nD Cert.KernelIdeal.τ).loc Cert.KernelIdeal.main_arg4) (ix2 0 d) :=
    fun d => array_l2 m c d
  have e3 : ∀ d : Fin 64, (insOf m c b h).l3 (ix2 0 d) = m ((c.tc : Thread Cert.KernelIdeal.nD Cert.KernelIdeal.τ).loc Cert.KernelIdeal.main_arg5) (ix2 0 d) :=
    fun d => array_l3 m c d
  have e4 : ∀ d : Fin 64, (insOf m c b h).l4 (ix2 0 d) = m ((c.tc : Thread Cert.KernelIdeal.nD Cert.KernelIdeal.τ).loc Cert.KernelIdeal.main_arg6) (ix2 0 d) :=
    fun d => array_l4 m c d
  have eg : (fun a : Fin 128 => (insOf m c b h).g (ix2 0 a))
      = fun a => m ((c.tc : Thread Cert.KernelIdeal.nD Cert.KernelIdeal.τ).loc Cert.KernelIdeal.main_arg7) (ix2 0 a) :=
    funext fun a => array_g m c a
  have hk := out_val (reads_of m c hQ hK hW b h) l (by simp only [e1, e2, e3, e4]; exact hl) q x a
  rw [eg] at hk
  refine hk.trans (Eq.symm ?_)
  unfold want
  exact Cert.ReferenceIdeal.Attn.v87_val (fun i => (congrArg _ (eq_ix3 i)).trans (hQ _ _ _)) (fun i => (congrArg _ (eq_ix3 i)).trans (hK _ _ _))
    (fun i => (congrArg _ (eq_ix3 i)).trans (hW _ _ _)) (Cert.ReferenceIdeal.Attn.v11_val.trans hl) b h (at256 q x) a

end Cert.Meet

end
-- ==== Proof.MlpSpec.lean ====
/-
  What one group of 256 tokens of the output projection and the feed-forward layer is, as a function of its blocks; the
  kernel's two branches compute it, each in its own order of statements.
-/
module

public import proofs.«01_k».proof.Proof.Gen.Kernel2Ideal.Skeleton
public import Idealize.ShloMosaic.Lib.Writes
public import Idealize.ShloMosaic.Lib.VecWindow
public import Idealize.ShloMosaic.Lib.Pipeline.Value

@[expose] public section

set_option maxRecDepth 16384

noncomputable section

namespace Cert.Kernel2Ideal.Mlp

open Cert.Kernel2Ideal Cert.Kernel2Ideal.Gen
open Idealize.ShloMosaic

variable {F : FTy → Type} [FloatOps F]

/-- A product of 256 rows with a square matrix, accumulated in f32. -/
def dotW (h : FVec F S256x1024 .bf16) (w : FVec F S1024x1024 .bf16) : FVec F S256x1024 .f32 :=
  matmul dot_S256x1024_S1024x1024_S256x1024_1_0_0_1_n_n none h w (constant S256x1024 .f32 0x00000000#32)

/-- The residual: the input plus the output projection of the two branches' outputs side by side. -/
def resid (x : FVec F S256x1024 .f32) (a l : FVec F S256x512 .bf16) (wo : FVec F S1024x1024 .bf16) : FVec F S256x1024 .f32 :=
  addf (shapeCast S256x1024 x shapeCasts_S256x1024_S256x1024)
    (dotW (concatenate S256x1024 1 [⟨S256x512, shapeCast S256x512 a shapeCasts_S256x512_S256x512⟩,
      ⟨S256x512, shapeCast S256x512 l shapeCasts_S256x512_S256x512⟩] concatenates_S256x512_S256x512_S256x1024_d1) wo)

/-- The root-mean-square normalization of each row, times a gain. -/
def norm (v : FVec F S256x1024 .f32) (g : FVec F S1x1024 .f32) : FVec F S256x1024 .f32 :=
  mulf (mulf v (broadcastTo S256x1024 (rsqrt (addf (divf (shapeCast S256x1 (multiReduction .add [1] S256 (mulf v v) 0x00000000#32
    reduces_S256x1024_S256 (.inl rfl) rfl) shapeCasts_S256_S256x1) (broadcast S256x1 (Scalar.ofBits .f32 0x44800000#32)))
    (broadcast S256x1 (Scalar.ofBits .f32 0x358637BD#32)))) broadcasts_S256x1_S256x1024))
    (broadcastTo S256x1024 (shapeCast S1x1024 g shapeCasts_S1x1024_S1x1024) broadcasts_S1x1024_S256x1024)

/-- The hidden layer's chunk: the positive part of the product, squared. -/
def act (h : FVec F S256x1024 .bf16) (u : FVec F S1024x1024 .bf16) : FVec F S256x1024 .bf16 :=
  truncf .bf16 (mulf (maximumf (dotW h u) (broadcast S256x1024 (Scalar.ofBits .f32 0x00000000#32)))
    (maximumf (dotW h u) (broadcast S256x1024 (Scalar.ofBits .f32 0x00000000#32)))) bitsLt_bf16_f32

/-- The feed-forward layer, its hidden layer in four chunks. -/
def mlp (h : FVec F S256x1024 .bf16) (u0 u1 u2 u3 d0 d1 d2 d3 : FVec F S1024x1024 .bf16) : FVec F S256x1024 .f32 :=
  addf (addf (addf (addf (broadcast S256x1024 (Scalar.ofBits .f32 0x00000000#32)) (dotW (act h u0) d0)) (dotW (act h u1) d1))
    (dotW (act h u2) d2)) (dotW (act h u3) d3)

/-- What is written out for a group of 256 tokens. -/
def outRows (x : FVec F S256x1024 .f32) (a l : FVec F S256x512 .bf16) (wo : FVec F S1024x1024 .bf16) (gm gf : FVec F S1x1024 .f32)
    (u0 u1 u2 u3 d0 d1 d2 d3 : FVec F S1024x1024 .bf16) : FVec F S256x1024 .f32 :=
  norm (addf (resid x a l wo) (mlp (truncf .bf16 (norm (resid x a l wo) gm) bitsLt_bf16_f32) u0 u1 u2 u3 d0 d1 d2 d3)) gf

section Branches

variable (x : FVec F S256x1024 .f32) (a l : FVec F S256x512 .bf16) (wo : FVec F S1024x1024 .bf16) (gm gf : FVec F S1x1024 .f32)
  (u0 u1 u2 u3 d0 d1 d2 d3 : FVec F S1024x1024 .bf16)

/-- The first branch's first group. -/
theorem first_0 :
    k0_pay1 (k0_pay36 (k0_pay6 (k0_pay5 a) l x wo)
        (k0_pay30 (k0_pay23 (k0_pay17 k0_pay12 (k0_pay15 (k0_pay8 (k0_pay5 a) l x wo gm) u0) d0) (k0_pay20 (k0_pay8 (k0_pay5 a) l x wo gm) u1) d1)
          (k0_pay26 (k0_pay8 (k0_pay5 a) l x wo gm) u2) d2)
        (k0_pay33 (k0_pay8 (k0_pay5 a) l x wo gm) u3) d3)
      (k0_pay37 gf)
      (k0_pay38 (k0_pay6 (k0_pay5 a) l x wo)
        (k0_pay30 (k0_pay23 (k0_pay17 k0_pay12 (k0_pay15 (k0_pay8 (k0_pay5 a) l x wo gm) u0) d0) (k0_pay20 (k0_pay8 (k0_pay5 a) l x wo gm) u1) d1)
          (k0_pay26 (k0_pay8 (k0_pay5 a) l x wo gm) u2) d2)
        (k0_pay33 (k0_pay8 (k0_pay5 a) l x wo gm) u3) d3)
      = outRows x a l wo gm gf u0 u1 u2 u3 d0 d1 d2 d3 := rfl

/-- The first branch's second group. -/
theorem first_1 :
    k0_pay2 (k0_pay7 a l x wo)
      (k0_pay35 (k0_pay11 (k0_pay7 a l x wo) (k0_pay9 gm) (k0_pay10 a l x wo))
        (k0_pay31 (k0_pay24 (k0_pay18 (k0_pay11 (k0_pay7 a l x wo) (k0_pay9 gm) (k0_pay10 a l x wo)) k0_pay13 u0 d0)
          (k0_pay21 (k0_pay11 (k0_pay7 a l x wo) (k0_pay9 gm) (k0_pay10 a l x wo)) u1) d1)
          (k0_pay27 (k0_pay11 (k0_pay7 a l x wo) (k0_pay9 gm) (k0_pay10 a l x wo)) u2) d2) u3 d3) gf
      = outRows x a l wo gm gf u0 u1 u2 u3 d0 d1 d2 d3 := rfl

/-- The second branch's first group. -/
theorem second_0 :
    k0_pay48 (k0_pay39 a l x wo) (k0_pay41 a l x wo gm)
      (k0_pay46 (k0_pay41 a l x wo gm) (k0_pay43 (k0_pay41 a l x wo gm) u0 d0) (k0_pay45 (k0_pay41 a l x wo gm) u1)
        (Scalar.ofBits .f32 0x00000000#32) d1 u2 d2) u3 d3 gf
      = outRows x a l wo gm gf u0 u1 u2 u3 d0 d1 d2 d3 := rfl

/-- The second branch's second group. -/
theorem second_1 :
    k0_pay3 (k0_pay49 (k0_pay40 a l x wo) (k0_pay42 (k0_pay40 a l x wo) gm)
        (k0_pay47 (k0_pay42 (k0_pay40 a l x wo) gm) (k0_pay44 (k0_pay40 a l x wo) gm u0 d0) u1 d1 u2 d2) u3 d3)
      (k0_pay50 gf)
      (k0_pay51 (k0_pay40 a l x wo) (k0_pay42 (k0_pay40 a l x wo) gm)
        (k0_pay47 (k0_pay42 (k0_pay40 a l x wo) gm) (k0_pay44 (k0_pay40 a l x wo) gm u0 d0) u1 d1 u2 d2) u3 d3)
      = outRows x a l wo gm gf u0 u1 u2 u3 d0 d1 d2 d3 := rfl

end Branches

/-! ## Blocks of the operands -/

/-- A rectangle's part of an array. -/
def cut {s : Shape} {α : Type} (r : Rect s) (X : s.Idx → α) : r.shape.Idx → α := fun j => X (r.emb j)

/-- The first group's rows of a block of 1024 columns. -/
abbrev r0 : Rect S512x1024 := Rect.unit (s := S512x1024) ![0, 0] S256x1024.size inb_S512x1024_S256x1024_0_0
/-- The second group's rows of such a block. -/
abbrev r1 : Rect S512x1024 := Rect.unit (s := S512x1024) ![256, 0] S256x1024.size inb_S512x1024_S256x1024_256_0
/-- The first group's rows of a block of 512 columns. -/
abbrev q0 : Rect S512x512 := Rect.unit (s := S512x512) ![0, 0] S256x512.size inb_S512x512_S256x512_0_0
/-- The second group's rows of a block of 512 columns. -/
abbrev q1 : Rect S512x512 := Rect.unit (s := S512x512) ![256, 0] S256x512.size inb_S512x512_S256x512_256_0
/-- Column block 0 of the first matrix. -/
abbrev c0 : Rect S1024x4096 := Rect.unit (s := S1024x4096) ![0, 0] S1024x1024.size inb_S1024x4096_S1024x1024_0_0
/-- Column block 1 of the first matrix. -/
abbrev c1 : Rect S1024x4096 := Rect.unit (s := S1024x4096) ![0, 1024] S1024x1024.size inb_S1024x4096_S1024x1024_0_1024
/-- Column block 2 of the first matrix. -/
abbrev c2 : Rect S1024x4096 := Rect.unit (s := S1024x4096) ![0, 2048] S1024x1024.size inb_S1024x4096_S1024x1024_0_2048
/-- Column block 3 of the first matrix. -/
abbrev c3 : Rect S1024x4096 := Rect.unit (s := S1024x4096) ![0, 3072] S1024x1024.size inb_S1024x4096_S1024x1024_0_3072
/-- Row block 0 of the second matrix. -/
abbrev p0 : Rect S4096x1024 := Rect.unit (s := S4096x1024) ![0, 0] S1024x1024.size inb_S4096x1024_S1024x1024_0_0
/-- Row block 1 of the second matrix. -/
abbrev p1 : Rect S4096x1024 := Rect.unit (s := S4096x1024) ![1024, 0] S1024x1024.size inb_S4096x1024_S1024x1024_1024_0
/-- Row block 2 of the second matrix. -/
abbrev p2 : Rect S4096x1024 := Rect.unit (s := S4096x1024) ![2048, 0] S1024x1024.size inb_S4096x1024_S1024x1024_2048_0
/-- Row block 3 of the second matrix. -/
abbrev p3 : Rect S4096x1024 := Rect.unit (s := S4096x1024) ![3072, 0] S1024x1024.size inb_S4096x1024_S1024x1024_3072_0

/-- A group's rows from the blocks and the weights as they stand in bf16. -/
def groupRows (r : FVec F S256x1024 .f32) (a l : FVec F S256x512 .bf16) (Wo : S1024x1024.Idx → F .bf16) (Gm Gf : S1x1024.Idx → F .f32)
    (Wu : S1024x4096.Idx → F .bf16) (Wd : S4096x1024.Idx → F .bf16) : FVec F S256x1024 .f32 :=
  outRows r a l Wo Gm Gf (cut c0 Wu) (cut c1 Wu) (cut c2 Wu) (cut c3 Wu) (cut p0 Wd) (cut p1 Wd) (cut p2 Wd) (cut p3 Wd)

/-- What the body writes to the output block. -/
def outBlk (X : S512x1024.Idx → F .f32) (A L : S512x512.Idx → F .bf16) (Wo : S1024x1024.Idx → F .bf16) (Gm Gf : S1x1024.Idx → F .f32)
    (Wu : S1024x4096.Idx → F .bf16) (Wd : S4096x1024.Idx → F .bf16) : S512x1024.Idx → F .f32 := fun y =>
  if h : (y 0).val < 256 then
    groupRows (cut r0 X) (cut q0 A) (cut q0 L) Wo Gm Gf Wu Wd (fun k => match k with | ⟨0, _⟩ => ⟨(y 0).val, h⟩ | ⟨1, _⟩ => y 1)
  else
    groupRows (cut r1 X) (cut q1 A) (cut q1 L) Wo Gm Gf Wu Wd
      (fun k => match k with | ⟨0, _⟩ => ⟨(y 0).val - 256, by have : (y 0).val < 512 := (y 0).isLt; show _ < 256; omega⟩ | ⟨1, _⟩ => y 1)

section OutBlk

variable (X : S512x1024.Idx → F .f32) (A L : S512x512.Idx → F .bf16) (Wo : S1024x1024.Idx → F .bf16) (Gm Gf : S1x1024.Idx → F .f32)
    (Wu : S1024x4096.Idx → F .bf16) (Wd : S4096x1024.Idx → F .bf16)

/-- The first group's rows of the output block. -/
theorem outBlk_0 (x : S256x1024.Idx) : outBlk X A L Wo Gm Gf Wu Wd (r0.emb x) = groupRows (cut r0 X) (cut q0 A) (cut q0 L) Wo Gm Gf Wu Wd x := by
  have h0 : ((r0.emb x) 0).val = 0 + 1 * (x 0).val := rfl
  have h1 : ((r0.emb x) 1).val = 0 + 1 * (x 1).val := rfl
  have hx : (x 0).val < 256 := (x 0).isLt
  unfold outBlk
  rw [dif_pos (by omega)]
  refine congrArg _ (funext fun k => Fin.ext ?_)
  match k with
  | ⟨0, _⟩ => show ((r0.emb x) 0).val = (x 0).val; omega
  | ⟨1, _⟩ => show ((r0.emb x) 1).val = (x 1).val; omega

/-- The second group's rows of the output block. -/
theorem outBlk_1 (x : S256x1024.Idx) : outBlk X A L Wo Gm Gf Wu Wd (r1.emb x) = groupRows (cut r1 X) (cut q1 A) (cut q1 L) Wo Gm Gf Wu Wd x := by
  have h0 : ((r1.emb x) 0).val = 256 + 1 * (x 0).val := rfl
  have h1 : ((r1.emb x) 1).val = 0 + 1 * (x 1).val := rfl
  unfold outBlk
  rw [dif_neg (by omega)]
  refine congrArg _ (funext fun k => Fin.ext ?_)
  match k with
  | ⟨0, _⟩ => show ((r1.emb x) 0).val - 256 = (x 0).val; omega
  | ⟨1, _⟩ => show ((r1.emb x) 1).val = (x 1).val; omega

end OutBlk

/-- The cast to bf16, entry by entry. -/
def bf {s : Shape} (X : s.Idx → F .f32) : s.Idx → F .bf16 := truncf (s := s) .bf16 X bitsLt_bf16_f32

end Cert.Kernel2Ideal.Mlp

end
-- ==== Proof.MlpRun.lean ====
/-
  The body's run at a grid point. The first point stages the weights through a two-slot buffer by transfers of its own,
  casts them into scratch, and computes its block from them; every later point computes its block from the scratch.
-/
module

public import proofs.«01_k».proof.Proof.Gen.Kernel2Ideal.Skeleton
public import proofs.«01_k».proof.Proof.Gen.Kernel2Ideal.Launch
public import Idealize.ShloMosaic.Lib.Writes
public import Idealize.ShloMosaic.Lib.Pipeline.Frame
public import Idealize.ShloMosaic.Lib.Tactic
public import proofs.«01_k».proof.Proof.MlpSpec

@[expose] public section

set_option maxRecDepth 16384

noncomputable section

namespace Cert.Kernel2Ideal.Mlp

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The contents of the array that a memref stands on. -/
abbrev Bf (c : Dev nD) {sp : Space} {S : Shape} {e : EltTy} (M : Memref sig .tc sp S e) : Type := Buf (Elt F) (M.view.loc (c : Thread nD τ))
/-- The array that a memref stands on, held whole. -/
abbrev pt (c : Dev nD) {sp : Space} {S : Shape} {e : EltTy} (M : Memref sig .tc sp S e) (f : Bf (F := F) c M) : sProp 𝕄 :=
  M.view.loc (c : Thread nD τ) ↦{fullShare} f

/-- Slot 0 of the stage. -/
def slot0 : Memref sig .tc .vmem S1024x1024 .f32 :=
  ((Memref.whole cc0_scratch3 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024
/-- Slot 1 of the stage. -/
def slot1 : Memref sig .tc .vmem S1024x1024 .f32 :=
  ((Memref.whole cc0_scratch3 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024

/-- The slice and squeeze that the body writes for slot 0 is slot 0. -/
@[sl_canon] theorem slot0_eq (h hs) :
    ((Memref.whole cc0_scratch3 : Memref sig .tc .vmem S2x1024x1024 .f32).slice (Rect.unit (s := S2x1024x1024) ![0, 0, 0] S1x1024x1024.size h) hs).squeeze S1024x1024 squeezes_S1x1024x1024_S1024x1024 = slot0 := rfl
/-- The slice and squeeze that the body writes for slot 1 is slot 1. -/
@[sl_canon] theorem slot1_eq (h hs) :
    ((Memref.whole cc0_scratch3 : Memref sig .tc .vmem S2x1024x1024 .f32).slice (Rect.unit (s := S2x1024x1024) ![1, 0, 0] S1x1024x1024.size h) hs).squeeze S1024x1024 squeezes_S1x1024x1024_S1024x1024 = slot1 := rfl

/-- What was last sent to slot 0 is what a load of its rows of the stage reads. -/
theorem stage0 (w : S1024x1024.Idx → F .f32) (L : List (View.Piece (Elt F) S1024x1024 .f32)) (hb hc hd) :
    shapeCast S1024x1024 (truncf (F := F) .bf16 (shapeCast S1024x1024 ((Memref.whole cc0_scratch3 : Memref sig .tc .vmem S2x1024x1024 .f32).view.readAt (Elt F)
      (Rect.unit (s := S2x1024x1024) ![0, 0, 0] S1x1024x1024.size inb_S2x1024x1024_S1x1024x1024_0_0_0).toLoadRect
      (slot0.view.writes (Elt F) slot0.view.junk (⟨Rect.whole S1024x1024, w⟩ :: L))) hb) hc) hd = bf w := by
  rw [shapeCast_self]
  refine congrArg bf ?_
  funext y
  have h := View.read_writes_cons_emb (Val := Elt F) slot0.view slot0.view.junk (Rect.whole S1024x1024) w L y
  rw [Rect.emb_whole_apply] at h
  exact Eq.trans rfl h

/-- What was last sent to slot 1 is what a load of its rows of the stage reads. -/
theorem stage1 (w : S1024x1024.Idx → F .f32) (L : List (View.Piece (Elt F) S1024x1024 .f32)) (hb hc hd) :
    shapeCast S1024x1024 (truncf (F := F) .bf16 (shapeCast S1024x1024 ((Memref.whole cc0_scratch3 : Memref sig .tc .vmem S2x1024x1024 .f32).view.readAt (Elt F)
      (Rect.unit (s := S2x1024x1024) ![1, 0, 0] S1x1024x1024.size inb_S2x1024x1024_S1x1024x1024_1_0_0).toLoadRect
      (slot1.view.writes (Elt F) slot1.view.junk (⟨Rect.whole S1024x1024, w⟩ :: L))) hb) hc) hd = bf w := by
  rw [shapeCast_self]
  refine congrArg bf ?_
  funext y
  have h := View.read_writes_cons_emb (Val := Elt F) slot1.view slot1.view.junk (Rect.whole S1024x1024) w L y
  rw [Rect.emb_whole_apply] at h
  exact Eq.trans rfl h

/-- A load of the block stored last reads what was stored. -/
theorem cov_head {κ : Kind} {sp : Space} {s : Shape} {e : EltTy} (v : View sig κ sp s e) (r : Rect s) (w : r.shape.Idx → Elt F e) (L : List (View.Piece (Elt F) s e)) :
    v.readCov (⟨r, w⟩ :: L) r.toLoadRect = w :=
  funext fun j => View.read_writes_cons_emb v v.junk r w L j

/-- Equal operands, equal rows. -/
theorem outRows_congr {x x' : FVec F S256x1024 .f32} {a a' l l' : FVec F S256x512 .bf16} {wo wo' : FVec F S1024x1024 .bf16} {gm gm' gf gf' : FVec F S1x1024 .f32}
    {u0 u1 u2 u3 d0 d1 d2 d3 u0' u1' u2' u3' d0' d1' d2' d3' : FVec F S1024x1024 .bf16}
    (e1 : x = x') (e2 : a = a') (e3 : l = l') (e4 : wo = wo') (e5 : gm = gm') (e6 : gf = gf') (e7 : u0 = u0') (e8 : u1 = u1') (e9 : u2 = u2') (e10 : u3 = u3')
    (e11 : d0 = d0') (e12 : d1 = d1') (e13 : d2 = d2') (e14 : d3 = d3') :
    outRows x a l wo gm gf u0 u1 u2 u3 d0 d1 d2 d3 = outRows x' a' l' wo' gm' gf' u0' u1' u2' u3' d0' d1' d2' d3' := by
  subst e1 e2 e3 e4 e5 e6 e7 e8 e9 e10 e11 e12 e13 e14; rfl

/-- What the body leaves: its operands as they were, its block computed, the weights in scratch as named, its slots and counters free. -/
def Left (c : Dev nD) (a1 : Memref sig .tc .vmem S512x1024 .f32) (a2 a3 : Memref sig .tc .vmem S512x512 .bf16)
    (a5 a8 : Memref sig .tc .vmem S1x1024 .f32) (a9 : Memref sig .tc .vmem S512x1024 .f32)
    (f1 : Bf (F := F) c a1) (f2 : Bf (F := F) c a2) (f3 : Bf (F := F) c a3) (f5 : Bf (F := F) c a5) (f8 : Bf (F := F) c a8)
    (f4 : Bf (F := F) c (Memref.whole main_v2)) (f6 : Bf (F := F) c (Memref.whole main_v5)) (f7 : Bf (F := F) c (Memref.whole main_v6))
    (Wo : S1024x1024.Idx → F .bf16) (Wu : S1024x4096.Idx → F .bf16) (Wd : S4096x1024.Idx → F .bf16) : sProp 𝕄 :=
  iprop(pt c a1 f1 ∗ pt c a2 f2 ∗ pt c a3 f3 ∗ pt c (Memref.whole main_v2) f4 ∗ pt c a5 f5
      ∗ pt c (Memref.whole main_v5) f6 ∗ pt c (Memref.whole main_v6) f7 ∗ pt c a8 f8
      ∗ (∃ g, ⌜a9.view.read (Elt F) g = outBlk (a1.view.read (Elt F) f1) (a2.view.read (Elt F) f2) (a3.view.read (Elt F) f3) Wo
          (a5.view.read (Elt F) f5) (a8.view.read (Elt F) f8) Wu Wd⌝ ∗ pt c a9 g)
      ∗ (∃ g, ⌜(Memref.whole cc0_scratch0 : Memref sig .tc .vmem S1024x1024 .bf16).view.read (Elt F) g = Wo⌝ ∗ pt c (Memref.whole cc0_scratch0) g)
      ∗ (∃ g, ⌜(Memref.whole cc0_scratch1 : Memref sig .tc .vmem S1024x4096 .bf16).view.read (Elt F) g = Wu⌝ ∗ pt c (Memref.whole cc0_scratch1) g)
      ∗ (∃ g, ⌜(Memref.whole cc0_scratch2 : Memref sig .tc .vmem S4096x1024 .bf16).view.read (Elt F) g = Wd⌝ ∗ pt c (Memref.whole cc0_scratch2) g)
      ∗ (∃ g, slot0.view.loc (c : Thread nD τ) ↦[slot0.view.set]{fullShare} g)
      ∗ (∃ g, slot1.view.loc (c : Thread nD τ) ↦[slot1.view.set]{fullShare} g)
      ∗ semVal ((c : Thread nD τ), SemLoc.dma 10) 0 ∗ semVal ((c : Thread nD τ), SemLoc.dma 11) 0 ∗ ∃ W', owes (c : Thread nD τ) 0 W')

/-- Two stores that cover the output block leave it computed. -/
theorem block_of_pieces (a9 : Memref sig .tc .vmem S512x1024 .f32) (f9 : a9.view.ty.Contents (Elt F)) (G : S512x1024.Idx → F .f32)
    (w0 : r0.shape.Idx → F .f32) (w1 : r1.shape.Idx → F .f32) (e0 : ∀ x, w0 x = G (r0.emb x)) (e1 : ∀ x, w1 x = G (r1.emb x)) :
    a9.view.read (Elt F) (a9.view.writes (Elt F) f9 [⟨r1, w1⟩, ⟨r0, w0⟩]) = G := by
  funext y
  refine View.read_writes_apply_of_pieces (Val := Elt F) a9.view f9 G _ ?_ y ?_
  · simp only [List.forall_mem_cons]
    exact ⟨e1, e0, fun _ h => absurd h List.not_mem_nil⟩
  · exact View.cover_of_tiled _ ![256, 1024] (by sl_kernel_rfl) y

/-- Four stores of column blocks leave the whole. -/
theorem cols_of_pieces (f : (Memref.whole cc0_scratch1 : Memref sig .tc .vmem S1024x4096 .bf16).view.ty.Contents (Elt F)) (G : S1024x4096.Idx → F .bf16)
    (w0 w1 w2 w3 : S1024x1024.Idx → F .bf16) (e0 : w0 = cut c0 G) (e1 : w1 = cut c1 G) (e2 : w2 = cut c2 G) (e3 : w3 = cut c3 G) :
    (Memref.whole cc0_scratch1 : Memref sig .tc .vmem S1024x4096 .bf16).view.read (Elt F)
      ((Memref.whole cc0_scratch1 : Memref sig .tc .vmem S1024x4096 .bf16).view.writes (Elt F) f [⟨c3, w3⟩, ⟨c2, w2⟩, ⟨c1, w1⟩, ⟨c0, w0⟩]) = G := by
  subst e0 e1 e2 e3
  funext y
  refine View.read_writes_apply_of_pieces (Val := Elt F) _ f G _ ?_ y ?_
  · simp only [List.forall_mem_cons]
    exact ⟨fun _ => rfl, fun _ => rfl, fun _ => rfl, fun _ => rfl, fun _ h => absurd h List.not_mem_nil⟩
  · exact View.cover_of_tiled _ ![1024, 1024] (by sl_kernel_rfl) y

/-- Four stores of row blocks leave the whole. -/
theorem rows_of_pieces (f : (Memref.whole cc0_scratch2 : Memref sig .tc .vmem S4096x1024 .bf16).view.ty.Contents (Elt F)) (G : S4096x1024.Idx → F .bf16)
    (w0 w1 w2 w3 : S1024x1024.Idx → F .bf16) (e0 : w0 = cut p0 G) (e1 : w1 = cut p1 G) (e2 : w2 = cut p2 G) (e3 : w3 = cut p3 G) :
    (Memref.whole cc0_scratch2 : Memref sig .tc .vmem S4096x1024 .bf16).view.read (Elt F)
      ((Memref.whole cc0_scratch2 : Memref sig .tc .vmem S4096x1024 .bf16).view.writes (Elt F) f [⟨p3, w3⟩, ⟨p2, w2⟩, ⟨p1, w1⟩, ⟨p0, w0⟩]) = G := by
  subst e0 e1 e2 e3
  funext y
  refine View.read_writes_apply_of_pieces (Val := Elt F) _ f G _ ?_ y ?_
  · simp only [List.forall_mem_cons]
    exact ⟨fun _ => rfl, fun _ => rfl, fun _ => rfl, fun _ => rfl, fun _ h => absurd h List.not_mem_nil⟩
  · exact View.cover_of_tiled _ ![1024, 1024] (by sl_kernel_rfl) y

set_option maxHeartbeats 4000000 in
set_option sl_open_parts.maxParts 16 in
/-- The first grid point. -/
theorem run1 (c : Dev nD) (i : grid0.Coords) (hi : k0_cond1 i = 1#1) (hj : ¬ k0_cond2 i = 1#1)
    (a1 : Memref sig .tc .vmem S512x1024 .f32) (h1 : a1.IsWhole) (a2 : Memref sig .tc .vmem S512x512 .bf16) (h2 : a2.IsWhole)
    (a3 : Memref sig .tc .vmem S512x512 .bf16) (h3 : a3.IsWhole)
    (a5 : Memref sig .tc .vmem S1x1024 .f32) (h5 : a5.IsWhole)
    (a8 : Memref sig .tc .vmem S1x1024 .f32) (h8 : a8.IsWhole) (a9 : Memref sig .tc .vmem S512x1024 .f32) (h9 : a9.IsWhole)
    (f1 : Bf (F := F) c a1) (f2 : Bf (F := F) c a2) (f3 : Bf (F := F) c a3) (f5 : Bf (F := F) c a5)
    (f8 : Bf (F := F) c a8) (f9 : Bf (F := F) c a9)
    (f4 : Bf (F := F) c (Memref.whole main_v2)) (f6 : Bf (F := F) c (Memref.whole main_v5)) (f7 : Bf (F := F) c (Memref.whole main_v6))
    (f10 : Bf (F := F) c (Memref.whole cc0_scratch0)) (f11 : Bf (F := F) c (Memref.whole cc0_scratch1))
    (f12 : Bf (F := F) c (Memref.whole cc0_scratch2)) (f13 : Bf (F := F) c slot0) (f14 : Bf (F := F) c slot1)
    (W : Waits sig Unit) (Q : PUnit → sProp 𝕄) :
    iprop(pt c a1 f1 ∗ pt c a2 f2 ∗ pt c a3 f3 ∗ pt c (Memref.whole main_v2) f4 ∗ pt c a5 f5
      ∗ pt c (Memref.whole main_v5) f6 ∗ pt c (Memref.whole main_v6) f7 ∗ pt c a8 f8 ∗ pt c a9 f9
      ∗ pt c (Memref.whole cc0_scratch0) f10 ∗ pt c (Memref.whole cc0_scratch1) f11 ∗ pt c (Memref.whole cc0_scratch2) f12
      ∗ (slot0.view.loc (c : Thread nD τ) ↦[slot0.view.set]{fullShare} f13)
      ∗ (slot1.view.loc (c : Thread nD τ) ↦[slot1.view.set]{fullShare} f14)
      ∗ semVal ((c : Thread nD τ), SemLoc.dma 10) 0 ∗ semVal ((c : Thread nD τ), SemLoc.dma 11) 0 ∗ owes (c : Thread nD τ) 0 W
      ∗ ((Left c a1 a2 a3 a5 a8 a9 f1 f2 f3 f5 f8 f4 f6 f7 (bf ((Memref.whole main_v2 : Memref sig .tc .hbm S1024x1024 .f32).view.read (Elt F) f4)) (bf ((Memref.whole main_v5 : Memref sig .tc .hbm S1024x4096 .f32).view.read (Elt F) f6)) (bf ((Memref.whole main_v6 : Memref sig .tc .hbm S4096x1024 .f32).view.read (Elt F) f7))) -∗ Q ⟨⟩))
    ⊢ wp frame (wpE (defs₀ (F := F)) Variants.none c none) Set.univ
        (cc0_out_mlp i a1 h1 a2 h2 a3 h3 (Memref.whole main_v2) (Memref.isWhole_whole _) a5 h5 (Memref.whole main_v5) (Memref.isWhole_whole _)
          (Memref.whole main_v6) (Memref.isWhole_whole _) a8 h8 a9 h9
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4) Q := by
  iintro ⟨H1, H2, H3, H4, H5, H6, H7, H8, H9, H10, H11, H12, H13, H14, Hd0, Hd1, HO, Hk⟩
  simp only [cc0_out_mlp_eq_skeleton]
  unfold cc0_out_mlp_skel
  rw [dif_pos hi, dif_neg hj]
  sl_open_parts
  sl_exec
  sl_step
  iapply Hk
  unfold Left
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr
    swap; · iexact H9
    ipureintro
    refine block_of_pieces a9 f9 _ _ _ ?_ ?_
    · intro x
      rw [outBlk_0, first_0]
      refine congrFun (outRows_congr ?_ ?_ ?_ ?_ ?_ ?_ ?_ ?_ ?_ ?_ ?_ ?_ ?_ ?_) x
      · rfl
      · rfl
      · rfl
      · exact (cov_head _ _ _ _).trans (stage0 _ _ _ _ _)
      · exact View.readAt_full _ _ _
      · exact View.readAt_full _ _ _
      · exact (cov_head _ _ _ _).trans (stage1 _ _ _ _ _)
      · exact (cov_head _ _ _ _).trans (stage1 _ _ _ _ _)
      · exact (cov_head _ _ _ _).trans (stage1 _ _ _ _ _)
      · exact (cov_head _ _ _ _).trans (stage1 _ _ _ _ _)
      · exact (cov_head _ _ _ _).trans (stage0 _ _ _ _ _)
      · exact (cov_head _ _ _ _).trans (stage0 _ _ _ _ _)
      · exact (cov_head _ _ _ _).trans (stage0 _ _ _ _ _)
      · exact (cov_head _ _ _ _).trans (stage0 _ _ _ _ _)
    · intro x
      rw [outBlk_1, first_1]
      refine congrFun (outRows_congr ?_ ?_ ?_ ?_ ?_ ?_ ?_ ?_ ?_ ?_ ?_ ?_ ?_ ?_) x
      · rfl
      · rfl
      · rfl
      · exact (cov_head _ _ _ _).trans (stage0 _ _ _ _ _)
      · exact View.readAt_full _ _ _
      · exact View.readAt_full _ _ _
      · exact (cov_head _ _ _ _).trans (stage1 _ _ _ _ _)
      · exact (cov_head _ _ _ _).trans (stage1 _ _ _ _ _)
      · exact (cov_head _ _ _ _).trans (stage1 _ _ _ _ _)
      · exact (cov_head _ _ _ _).trans (stage1 _ _ _ _ _)
      · exact (cov_head _ _ _ _).trans (stage0 _ _ _ _ _)
      · exact (cov_head _ _ _ _).trans (stage0 _ _ _ _ _)
      · exact (cov_head _ _ _ _).trans (stage0 _ _ _ _ _)
      · exact (cov_head _ _ _ _).trans (stage0 _ _ _ _ _)
  isplitl [H10]
  · iexists _; isplitr
    swap; · iexact H10
    ipureintro
    exact (View.read_writes_full _ _ _ _ _).trans (stage0 _ _ _ _ _)
  isplitl [H11]
  · iexists _; isplitr
    swap; · iexact H11
    ipureintro
    exact cols_of_pieces _ _ _ _ _ _ (stage1 _ _ _ _ _) (stage1 _ _ _ _ _) (stage1 _ _ _ _ _) (stage1 _ _ _ _ _)
  isplitl [H12]
  · iexists _; isplitr
    swap; · iexact H12
    ipureintro
    exact rows_of_pieces _ _ _ _ _ _ (stage0 _ _ _ _ _) (stage0 _ _ _ _ _) (stage0 _ _ _ _ _) (stage0 _ _ _ _ _)
  isplitl [H13]; · iexists _; iexact H13
  isplitl [H14]; · iexists _; iexact H14
  isplitl [Hd0]; · iexact Hd0
  isplitl [Hd1]; · iexact Hd1
  iexists _; iexact HO

set_option maxHeartbeats 4000000 in
set_option sl_open_parts.maxParts 16 in
/-- A later grid point. -/
theorem run2 (c : Dev nD) (i : grid0.Coords) (hi : ¬ k0_cond1 i = 1#1) (hj : k0_cond2 i = 1#1)
    (a1 : Memref sig .tc .vmem S512x1024 .f32) (h1 : a1.IsWhole) (a2 : Memref sig .tc .vmem S512x512 .bf16) (h2 : a2.IsWhole)
    (a3 : Memref sig .tc .vmem S512x512 .bf16) (h3 : a3.IsWhole)
    (a5 : Memref sig .tc .vmem S1x1024 .f32) (h5 : a5.IsWhole)
    (a8 : Memref sig .tc .vmem S1x1024 .f32) (h8 : a8.IsWhole) (a9 : Memref sig .tc .vmem S512x1024 .f32) (h9 : a9.IsWhole)
    (f1 : Bf (F := F) c a1) (f2 : Bf (F := F) c a2) (f3 : Bf (F := F) c a3) (f5 : Bf (F := F) c a5)
    (f8 : Bf (F := F) c a8) (f9 : Bf (F := F) c a9)
    (f4 : Bf (F := F) c (Memref.whole main_v2)) (f6 : Bf (F := F) c (Memref.whole main_v5)) (f7 : Bf (F := F) c (Memref.whole main_v6))
    (f10 : Bf (F := F) c (Memref.whole cc0_scratch0)) (f11 : Bf (F := F) c (Memref.whole cc0_scratch1))
    (f12 : Bf (F := F) c (Memref.whole cc0_scratch2)) (f13 : Bf (F := F) c slot0) (f14 : Bf (F := F) c slot1)
    (W : Waits sig Unit) (Q : PUnit → sProp 𝕄) :
    iprop(pt c a1 f1 ∗ pt c a2 f2 ∗ pt c a3 f3 ∗ pt c (Memref.whole main_v2) f4 ∗ pt c a5 f5
      ∗ pt c (Memref.whole main_v5) f6 ∗ pt c (Memref.whole main_v6) f7 ∗ pt c a8 f8 ∗ pt c a9 f9
      ∗ pt c (Memref.whole cc0_scratch0) f10 ∗ pt c (Memref.whole cc0_scratch1) f11 ∗ pt c (Memref.whole cc0_scratch2) f12
      ∗ (slot0.view.loc (c : Thread nD τ) ↦[slot0.view.set]{fullShare} f13)
      ∗ (slot1.view.loc (c : Thread nD τ) ↦[slot1.view.set]{fullShare} f14)
      ∗ semVal ((c : Thread nD τ), SemLoc.dma 10) 0 ∗ semVal ((c : Thread nD τ), SemLoc.dma 11) 0 ∗ owes (c : Thread nD τ) 0 W
      ∗ ((Left c a1 a2 a3 a5 a8 a9 f1 f2 f3 f5 f8 f4 f6 f7 ((Memref.whole cc0_scratch0 : Memref sig .tc .vmem S1024x1024 .bf16).view.read (Elt F) f10) ((Memref.whole cc0_scratch1 : Memref sig .tc .vmem S1024x4096 .bf16).view.read (Elt F) f11) ((Memref.whole cc0_scratch2 : Memref sig .tc .vmem S4096x1024 .bf16).view.read (Elt F) f12)) -∗ Q ⟨⟩))
    ⊢ wp frame (wpE (defs₀ (F := F)) Variants.none c none) Set.univ
        (cc0_out_mlp i a1 h1 a2 h2 a3 h3 (Memref.whole main_v2) (Memref.isWhole_whole _) a5 h5 (Memref.whole main_v5) (Memref.isWhole_whole _)
          (Memref.whole main_v6) (Memref.isWhole_whole _) a8 h8 a9 h9
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4) Q := by
  iintro ⟨H1, H2, H3, H4, H5, H6, H7, H8, H9, H10, H11, H12, H13, H14, Hd0, Hd1, HO, Hk⟩
  simp only [cc0_out_mlp_eq_skeleton]
  unfold cc0_out_mlp_skel
  rw [dif_neg hi, dif_pos hj]
  sl_open_parts
  sl_exec
  sl_step
  iapply Hk
  unfold Left
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr
    swap; · iexact H9
    ipureintro
    refine block_of_pieces a9 f9 _ _ _ ?_ ?_
    · intro x
      rw [outBlk_0, second_0]
      refine congrFun (outRows_congr ?_ ?_ ?_ ?_ ?_ ?_ ?_ ?_ ?_ ?_ ?_ ?_ ?_ ?_) x
      · rfl
      · rfl
      · rfl
      · exact View.readAt_full _ _ _
      · exact View.readAt_full _ _ _
      · exact View.readAt_full _ _ _
      · rfl
      · rfl
      · rfl
      · rfl
      · rfl
      · rfl
      · rfl
      · rfl
    · intro x
      rw [outBlk_1, second_1]
      refine congrFun (outRows_congr ?_ ?_ ?_ ?_ ?_ ?_ ?_ ?_ ?_ ?_ ?_ ?_ ?_ ?_) x
      · rfl
      · rfl
      · rfl
      · exact View.readAt_full _ _ _
      · exact View.readAt_full _ _ _
      · exact View.readAt_full _ _ _
      · rfl
      · rfl
      · rfl
      · rfl
      · rfl
      · rfl
      · rfl
      · rfl
  isplitl [H10]
  · iexists _; isplitr
    swap; · iexact H10
    ipureintro
    rfl
  isplitl [H11]
  · iexists _; isplitr
    swap; · iexact H11
    ipureintro
    rfl
  isplitl [H12]
  · iexists _; isplitr
    swap; · iexact H12
    ipureintro
    rfl
  isplitl [H13]; · iexists _; iexact H13
  isplitl [H14]; · iexists _; iexact H14
  isplitl [Hd0]; · iexact Hd0
  isplitl [Hd1]; · iexact Hd1
  iexists _; iexact HO

end Cert.Kernel2Ideal.Mlp

end
-- ==== Proof.MlpLaunch.lean ====
/-
  The launch of the output projection and the feed-forward layer. Between grid points the scratch holds the weights cast
  to bf16, from the first point on; the run concludes the pipeline's post at the blocks the body computes.
-/
module

public import proofs.«01_k».proof.Proof.MlpRun
public import proofs.«01_k».proof.Proof.Gen.Kernel2Ideal.Points
public import proofs.«01_k».proof.Proof.Gen.Kernel2Ideal.Frame
public import Idealize.ShloMosaic.Lib.Ring
public import Idealize.ShloMosaic.Lib.Pipeline.FrameBody

@[expose] public section

set_option maxRecDepth 16384

noncomputable section

namespace Cert.Kernel2Ideal.Mlp

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## The stage as its two slots -/

/-- The elements of each slot. -/
def slotSet (s : Fin 2) : Finset S2x1024x1024.Idx :=
  (Rect.unit (s := S2x1024x1024) (![![0, 0, 0], ![1, 0, 0]] s) S1x1024x1024.size (by revert s; decide)).set

/-- An element is a slot's where its first index says so. -/
theorem mem_slotSet (s : Fin 2) (y : S2x1024x1024.Idx) : y ∈ slotSet s ↔ (y 0).val = s.val := by
  unfold slotSet
  rw [Rect.mem_set_unit]
  have h1 : (y 1).val < 1024 := (y 1).isLt
  have h2 : (y 2).val < 1024 := (y 2).isLt
  fin_cases s
  · constructor
    · intro H; have a0 : 0 ≤ (y 0).val ∧ (y 0).val < 0 + 1 := H 0; show (y 0).val = 0; omega
    · intro H i; have H' : (y 0).val = 0 := H
      fin_cases i
      · show 0 ≤ (y 0).val ∧ (y 0).val < 0 + 1; omega
      · show 0 ≤ (y 1).val ∧ (y 1).val < 0 + 1024; omega
      · show 0 ≤ (y 2).val ∧ (y 2).val < 0 + 1024; omega
  · constructor
    · intro H; have a0 : 1 ≤ (y 0).val ∧ (y 0).val < 1 + 1 := H 0; show (y 0).val = 1; omega
    · intro H i; have H' : (y 0).val = 1 := H
      fin_cases i
      · show 1 ≤ (y 0).val ∧ (y 0).val < 1 + 1; omega
      · show 0 ≤ (y 1).val ∧ (y 1).val < 0 + 1024; omega
      · show 0 ≤ (y 2).val ∧ (y 2).val < 0 + 1024; omega

/-- The two slots have no element in common. -/
theorem slotSet_disjoint : ∀ s s' : Fin 2, s ≠ s' → Disjoint (slotSet s) (slotSet s') := by
  intro s s' hne; rw [Finset.disjoint_left]; intro y hy hy'
  rw [mem_slotSet] at hy hy'; exact hne (Fin.ext (hy.symm.trans hy'))

/-- The two slots are the whole stage. -/
theorem slotSet_cover : (Finset.univ : Finset (Fin 2)).biUnion slotSet = Finset.univ := by
  ext y; simp only [Finset.mem_biUnion, Finset.mem_univ, true_and, iff_true]
  exact ⟨⟨(y 0).val, (y 0).isLt⟩, by rw [mem_slotSet]⟩

/-- Slot 0's elements. -/
theorem slot0_set : slot0.view.set = slotSet 0 := by
  unfold slot0; rw [Memref.set_view_squeeze]; exact View.set_slice_whole _ _
/-- Slot 1's elements. -/
theorem slot1_set : slot1.view.set = slotSet 1 := by
  unfold slot1; rw [Memref.set_view_squeeze]; exact View.set_slice_whole _ _

/-- A slot held at contents. -/
abbrev held0 (c : Dev nD) (f : Buf (Elt F) ((c : Thread nD τ).loc cc0_scratch3)) : sProp 𝕄 :=
  slot0.view.loc (c : Thread nD τ) ↦[slot0.view.set]{fullShare} f
/-- The other slot held at contents. -/
abbrev held1 (c : Dev nD) (f : Buf (Elt F) ((c : Thread nD τ).loc cc0_scratch3)) : sProp 𝕄 :=
  slot1.view.loc (c : Thread nD τ) ↦[slot1.view.set]{fullShare} f

/-- Slot 0 held is its part of the stage held. -/
theorem held0_eq (c : Dev nD) (f) : held0 (F := F) c f = (((c : Thread nD τ).loc cc0_scratch3) ↦[slotSet 0]{fullShare} f : sProp 𝕄) :=
  congrArg (fun S => (_ ↦[S]{fullShare} f : sProp 𝕄)) slot0_set
/-- Slot 1 held is its part of the stage held. -/
theorem held1_eq (c : Dev nD) (f) : held1 (F := F) c f = (((c : Thread nD τ).loc cc0_scratch3) ↦[slotSet 1]{fullShare} f : sProp 𝕄) :=
  congrArg (fun S => (_ ↦[S]{fullShare} f : sProp 𝕄)) slot1_set

/-- The stage splits into its slots. -/
theorem stage_split (c : Dev nD) :
    iprop(∃ f : Buf (Elt F) ((c : Thread nD τ).loc cc0_scratch3), ((c : Thread nD τ).loc cc0_scratch3) ↦{fullShare} f)
      ⊢ (iprop((∃ f, held0 c f) ∗ ∃ f, held1 c f) : sProp 𝕄) :=
  Ring.slots2_split (ℓ := (c : Thread nD τ).loc cc0_scratch3) (q := fullShare) slotSet slotSet_disjoint slotSet_cover (held0 c) (held1 c) (held0_eq c) (held1_eq c)

/-- and the slots join back. -/
theorem stage_join (c : Dev nD) :
    iprop((∃ f, held0 c f) ∗ ∃ f, held1 c f)
      ⊢ (iprop(∃ f : Buf (Elt F) ((c : Thread nD τ).loc cc0_scratch3), ((c : Thread nD τ).loc cc0_scratch3) ↦{fullShare} f) : sProp 𝕄) :=
  Ring.slots2_join (ℓ := (c : Thread nD τ).loc cc0_scratch3) (q := fullShare) slotSet slotSet_disjoint slotSet_cover (held0 c) (held1 c) (held0_eq c) (held1_eq c)

/-! ## The body at a point -/

/-- A whole memref's ownership is its buffer's, at contents it reads as named. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

/-- The cast of what the output projection's array holds. -/
abbrev woOf (c : Dev nD) (f4 : Bf (F := F) c (Memref.whole main_v2)) : S1024x1024.Idx → F .bf16 :=
  bf ((Memref.whole main_v2 : Memref sig .tc .hbm S1024x1024 .f32).view.read (Elt F) f4)
/-- The cast of what the first matrix's array holds. -/
abbrev wuOf (c : Dev nD) (f6 : Bf (F := F) c (Memref.whole main_v5)) : S1024x4096.Idx → F .bf16 :=
  bf ((Memref.whole main_v5 : Memref sig .tc .hbm S1024x4096 .f32).view.read (Elt F) f6)
/-- The cast of what the second matrix's array holds. -/
abbrev wdOf (c : Dev nD) (f7 : Bf (F := F) c (Memref.whole main_v6)) : S4096x1024.Idx → F .bf16 :=
  bf ((Memref.whole main_v6 : Memref sig .tc .hbm S4096x1024 .f32).view.read (Elt F) f7)

/-- What the body keeps between points: the weights' arrays, the scratch — the cast weights where `named` says so —, the
    stage's slots and the transfers' counters. -/
def Kept (c : Dev nD) (named : Prop) (f4 : Bf (F := F) c (Memref.whole main_v2)) (f6 : Bf (F := F) c (Memref.whole main_v5))
    (f7 : Bf (F := F) c (Memref.whole main_v6)) : sProp 𝕄 :=
  iprop((∃ g0, ∃ g1, ∃ g2, ⌜named → (Memref.whole cc0_scratch0 : Memref sig .tc .vmem S1024x1024 .bf16).view.read (Elt F) g0 = woOf c f4
        ∧ (Memref.whole cc0_scratch1 : Memref sig .tc .vmem S1024x4096 .bf16).view.read (Elt F) g1 = wuOf c f6
        ∧ (Memref.whole cc0_scratch2 : Memref sig .tc .vmem S4096x1024 .bf16).view.read (Elt F) g2 = wdOf c f7⌝
      ∗ pt c (Memref.whole cc0_scratch0) g0 ∗ pt c (Memref.whole cc0_scratch1) g1 ∗ pt c (Memref.whole cc0_scratch2) g2)
    ∗ ((∃ g, held0 c g) ∗ (∃ g, held1 c g))
    ∗ (semVal ((c : Thread nD τ), SemLoc.dma 10) 0 ∗ semVal ((c : Thread nD τ), SemLoc.dma 11) 0)
    ∗ (pt c (Memref.whole main_v2) f4 ∗ pt c (Memref.whole main_v5) f6 ∗ pt c (Memref.whole main_v6) f7))

set_option maxHeartbeats 2000000 in
/-- The body at a point: from what is kept and its blocks to its output block. -/
theorem body_run (c : Dev nD) (i : grid0.Coords) (hi : k0_cond1 i = 1#1 ↔ ¬ k0_cond2 i = 1#1)
    (a1 : Memref sig .tc .vmem S512x1024 .f32) (h1 : a1.IsWhole) (a2 : Memref sig .tc .vmem S512x512 .bf16) (h2 : a2.IsWhole)
    (a3 : Memref sig .tc .vmem S512x512 .bf16) (h3 : a3.IsWhole)
    (a5 : Memref sig .tc .vmem S1x1024 .f32) (h5 : a5.IsWhole)
    (a8 : Memref sig .tc .vmem S1x1024 .f32) (h8 : a8.IsWhole) (a9 : Memref sig .tc .vmem S512x1024 .f32) (h9 : a9.IsWhole)
    (X1 : S512x1024.Idx → F .f32) (X2 X3 : S512x512.Idx → F .bf16) (X5 X8 : S1x1024.Idx → F .f32) (Y : S512x1024.Idx → F .f32)
    (f4 : Bf (F := F) c (Memref.whole main_v2)) (f6 : Bf (F := F) c (Memref.whole main_v5)) (f7 : Bf (F := F) c (Memref.whole main_v6))
    (W : Waits sig Unit) (Q : PUnit → sProp 𝕄) :
    iprop(Kept c (k0_cond2 i = 1#1) f4 f6 f7 ∗ owes (c : Thread nD τ) 0 W
      ∗ owns (c : Thread nD τ) a1 fullShare X1 ∗ owns (c : Thread nD τ) a2 fullShare X2 ∗ owns (c : Thread nD τ) a3 fullShare X3
      ∗ owns (c : Thread nD τ) a5 fullShare X5 ∗ owns (c : Thread nD τ) a8 fullShare X8 ∗ owns (c : Thread nD τ) a9 fullShare Y
      ∗ (iprop(Kept c True f4 f6 f7 ∗ (∃ W', owes (c : Thread nD τ) 0 W')
        ∗ owns (c : Thread nD τ) a1 fullShare X1 ∗ owns (c : Thread nD τ) a2 fullShare X2 ∗ owns (c : Thread nD τ) a3 fullShare X3
        ∗ owns (c : Thread nD τ) a5 fullShare X5 ∗ owns (c : Thread nD τ) a8 fullShare X8
        ∗ owns (c : Thread nD τ) a9 fullShare (outBlk X1 X2 X3 (woOf c f4) X5 X8 (wuOf c f6) (wdOf c f7))) -∗ Q ⟨⟩))
    ⊢ wp frame (wpE (defs₀ (F := F)) Variants.none c none) Set.univ
        (cc0_out_mlp i a1 h1 a2 h2 a3 h3 (Memref.whole main_v2) (Memref.isWhole_whole _) a5 h5 (Memref.whole main_v5) (Memref.isWhole_whole _)
          (Memref.whole main_v6) (Memref.isWhole_whole _) a8 h8 a9 h9
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4) Q := by
  rw [owns_pt c a1 h1, owns_pt c a2 h2, owns_pt c a3 h3, owns_pt c a5 h5, owns_pt c a8 h8, owns_pt c a9 h9, owns_pt c a9 h9]
  unfold Kept
  iintro ⟨⟨⟨%g0, %g1, %g2, %hn, HS0, HS1, HS2⟩, ⟨⟨%s0, Hh0⟩, ⟨%s1, Hh1⟩⟩, ⟨Hd0, Hd1⟩, ⟨H4, H6, H7⟩⟩, HO,
    ⟨%f1, %e1, H1⟩, ⟨%f2, %e2, H2⟩, ⟨%f3, %e3, H3⟩, ⟨%f5, %e5, H5⟩, ⟨%f8, %e8, H8⟩, ⟨%f9, %e9, H9⟩, Hk⟩
  by_cases hj : k0_cond2 i = 1#1
  · have hi' : ¬ k0_cond1 i = 1#1 := fun h => (hi.1 h) hj
    obtain ⟨n0, n1, n2⟩ := hn hj
    iapply (run2 c i hi' hj a1 h1 a2 h2 a3 h3 a5 h5 a8 h8 a9 h9 f1 f2 f3 f5 f8 f9 f4 f6 f7 g0 g1 g2 s0 s1 W Q)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [Hh0]; · iexact Hh0
    isplitl [Hh1]; · iexact Hh1
    isplitl [Hd0]; · iexact Hd0
    isplitl [Hd1]; · iexact Hd1
    isplitl [HO]; · iexact HO
    unfold Left
    iintro ⟨H1, H2, H3, H4, H5, H6, H7, H8, ⟨%o9, %w9, H9⟩, ⟨%o0, %w0, HS0⟩, ⟨%o1, %w1, HS1⟩, ⟨%o2, %w2, HS2⟩, Hh0, Hh1, Hd0, Hd1, HO⟩
    iapply Hk
    isplitl [HS0 HS1 HS2 Hh0 Hh1 Hd0 Hd1 H4 H6 H7]
    · isplitl [HS0 HS1 HS2]
      · iexists o0, o1, o2
        isplitr; · ipureintro; exact fun _ => ⟨w0.trans n0, w1.trans n1, w2.trans n2⟩
        isplitl [HS0]; · iexact HS0
        isplitl [HS1]; · iexact HS1
        iexact HS2
      isplitl [Hh0 Hh1]
      · isplitl [Hh0]; · iexact Hh0
        iexact Hh1
      isplitl [Hd0 Hd1]
      · isplitl [Hd0]; · iexact Hd0
        iexact Hd1
      isplitl [H4]; · iexact H4
      isplitl [H6]; · iexact H6
      iexact H7
    isplitl [HO]; · iexact HO
    isplitl [H1]
    · iexists f1; isplitr; swap; · iexact H1
      ipureintro; exact e1
    isplitl [H2]
    · iexists f2; isplitr; swap; · iexact H2
      ipureintro; exact e2
    isplitl [H3]
    · iexists f3; isplitr; swap; · iexact H3
      ipureintro; exact e3
    isplitl [H5]
    · iexists f5; isplitr; swap; · iexact H5
      ipureintro; exact e5
    isplitl [H8]
    · iexists f8; isplitr; swap; · iexact H8
      ipureintro; exact e8
    iexists o9; isplitr; swap; · iexact H9
    ipureintro; exact (by rw [w9, e1, e2, e3, e5, e8, n0, n1, n2])
  · have hi' : k0_cond1 i = 1#1 := hi.2 hj
    iapply (run1 c i hi' hj a1 h1 a2 h2 a3 h3 a5 h5 a8 h8 a9 h9 f1 f2 f3 f5 f8 f9 f4 f6 f7 g0 g1 g2 s0 s1 W Q)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [Hh0]; · iexact Hh0
    isplitl [Hh1]; · iexact Hh1
    isplitl [Hd0]; · iexact Hd0
    isplitl [Hd1]; · iexact Hd1
    isplitl [HO]; · iexact HO
    unfold Left
    iintro ⟨H1, H2, H3, H4, H5, H6, H7, H8, ⟨%o9, %w9, H9⟩, ⟨%o0, %w0, HS0⟩, ⟨%o1, %w1, HS1⟩, ⟨%o2, %w2, HS2⟩, Hh0, Hh1, Hd0, Hd1, HO⟩
    iapply Hk
    isplitl [HS0 HS1 HS2 Hh0 Hh1 Hd0 Hd1 H4 H6 H7]
    · isplitl [HS0 HS1 HS2]
      · iexists o0, o1, o2
        isplitr; · ipureintro; exact fun _ => ⟨w0, w1, w2⟩
        isplitl [HS0]; · iexact HS0
        isplitl [HS1]; · iexact HS1
        iexact HS2
      isplitl [Hh0 Hh1]
      · isplitl [Hh0]; · iexact Hh0
        iexact Hh1
      isplitl [Hd0 Hd1]
      · isplitl [Hd0]; · iexact Hd0
        iexact Hd1
      isplitl [H4]; · iexact H4
      isplitl [H6]; · iexact H6
      iexact H7
    isplitl [HO]; · iexact HO
    isplitl [H1]
    · iexists f1; isplitr; swap; · iexact H1
      ipureintro; exact e1
    isplitl [H2]
    · iexists f2; isplitr; swap; · iexact H2
      ipureintro; exact e2
    isplitl [H3]
    · iexists f3; isplitr; swap; · iexact H3
      ipureintro; exact e3
    isplitl [H5]
    · iexists f5; isplitr; swap; · iexact H5
      ipureintro; exact e5
    isplitl [H8]
    · iexists f8; isplitr; swap; · iexact H8
      ipureintro; exact e8
    iexists o9; isplitr; swap; · iexact H9
    ipureintro; exact (by rw [w9, e1, e2, e3, e5, e8])

variable (m : (ℓ : Loc nD τ sig) → Buf (Elt F) ℓ) (ρ : Dev nD → PrngReg)

/-! ## The launch's data -/

/-- The program up to the call, with the transfers' counters in the algebra. -/
theorem enters (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The transfers' counters. -/
abbrev osem : Fin 2 → SemLoc sig := fun j => (![SemLoc.dma 10, SemLoc.dma 11] : Fin 2 → SemLoc sig) j
/-- The transfers' counters are the body's own. -/
theorem osem_facts : Pipeline.OwnSemFacts spec0 osem := by decide
/-- The transfers' counters held, one by one. -/
theorem osem_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 10) 0 ∗ semVal ((c : Thread nD τ), SemLoc.dma 11) 0) := by
  rw [Pipeline.ownSems0_eq_of_list c osem [0, 1] (by decide) (by decide)]; rfl

/-- The weights' arrays, which the body reads itself. -/
def hbms : Finset (Ref sig .tc) := {main_v2, main_v5, main_v6}
/-- The weights' arrays are no window's. -/
theorem hbms_sub : hbms ⊆ Pipeline.restRefs sig spec0 := by decide
/-- The weights' arrays held, one by one. -/
theorem hbms_eq (c : Dev nD) :
    (bigSep hbms (fun b => ((c : Thread nD τ).loc b) ↦{fullShare} V m c b) : sProp 𝕄)
      = iprop(pt c (Memref.whole main_v2) (V m c main_v2) ∗ pt c (Memref.whole main_v5) (V m c main_v5) ∗ pt c (Memref.whole main_v6) (V m c main_v6)) := by
  rw [BI.bigSep_eq_bigSepL_of_eq [main_v2, main_v5, main_v6] (by decide) (by decide)]; rfl

/-- What holds between grid points. -/
def inv (c : Dev nD) (n : ℕ) : sProp 𝕄 :=
  iprop(Kept c (n ≠ 0) (V m c main_v2) (V m c main_v5) (V m c main_v6) ∗ ∃ r, prngReg c r)

/-- The output block of a point. -/
def outAt (c : Dev nD) (t : Fin cfg0.N) : S512x1024.Idx → F .f32 :=
  outBlk (iblk m c 0 t) (iblk m c 1 t) (iblk m c 2 t) (woOf c (V m c main_v2)) (iblk m c 3 t) (iblk m c 4 t) (wuOf c (V m c main_v5)) (wdOf c (V m c main_v6))

/-- The proof data: the arrays as the call finds them, the input blocks left in place, the output block computed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := inv m c t.val
  q _ := fullShare
  owed _ := 0

/-- The proof data's arrays are the ones the call finds. -/
theorem A_eq (c : Dev nD) (w : Fin cfg0.W) : (dats m 0 c).A w = V m c (Pipeline.arrRef spec0 w) := by dsimp only [dats]

/-- Before a point, input window 0 holds its block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [show (dats m 0 c).after 0 t = iblk m c 0 t from rfl]; unfold Dat.blockOf iblk; rw [A_eq]; try rfl) t d).trans
    (by unfold Dat.fetched Dat.blockOf iblk; rw [A_eq]; try rfl)
/-- Before a point, input window 1 holds its block. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [show (dats m 0 c).after 1 t = iblk m c 1 t from rfl]; unfold Dat.blockOf iblk; rw [A_eq]; try rfl) t d).trans
    (by unfold Dat.fetched Dat.blockOf iblk; rw [A_eq]; try rfl)
/-- Before a point, input window 2 holds its block. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [show (dats m 0 c).after 2 t = iblk m c 2 t from rfl]; unfold Dat.blockOf iblk; rw [A_eq]; try rfl) t d).trans
    (by unfold Dat.fetched Dat.blockOf iblk; rw [A_eq]; try rfl)
/-- Before a point, input window 3 holds its block. -/
theorem before_3 (c : Dev nD) (t : Fin cfg0.N) (d) : (dats m 0 c).before 3 t d = iblk m c 3 t :=
  ((dats m 0 c).before_in_eq_fetched 3 rfl (fun _ => rfl) (fun _ _ _ => rfl) (fun t => by rw [show (dats m 0 c).after 3 t = iblk m c 3 t from rfl]; unfold Dat.blockOf iblk; rw [A_eq]; try rfl) t d).trans
    (by unfold Dat.fetched Dat.blockOf iblk; rw [A_eq]; try rfl)
/-- Before a point, input window 4 holds its block. -/
theorem before_4 (c : Dev nD) (t : Fin cfg0.N) (d) : (dats m 0 c).before 4 t d = iblk m c 4 t :=
  ((dats m 0 c).before_in_eq_fetched 4 rfl (fun _ => rfl) (fun _ _ _ => rfl) (fun t => by rw [show (dats m 0 c).after 4 t = iblk m c 4 t from rfl]; unfold Dat.blockOf iblk; rw [A_eq]; try rfl) t d).trans
    (by unfold Dat.fetched Dat.blockOf iblk; rw [A_eq]; try rfl)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The two branches are the first point and the later ones. -/
theorem conds : ∀ t : Fin cfg0.N, (k0_cond1 (grid0.coords t) = 1#1 ↔ ¬ k0_cond2 (grid0.coords t) = 1#1)
    ∧ (k0_cond2 (grid0.coords t) = 1#1 → t.val ≠ 0) := by decide +kernel

/-- Less may be named. -/
theorem kept_mono (c : Dev nD) (P P' : Prop) (h : P' → P) (f4 : Bf (F := F) c (Memref.whole main_v2)) (f6 : Bf (F := F) c (Memref.whole main_v5))
    (f7 : Bf (F := F) c (Memref.whole main_v6)) : Kept c P f4 f6 f7 ⊢ Kept c P' f4 f6 f7 := by
  unfold Kept
  iintro ⟨⟨%g0, %g1, %g2, %hn, HS0, HS1, HS2⟩, HR⟩
  isplitr [HR]
  · iexists g0, g1, g2
    isplitr; · ipureintro; exact fun p => hn (h p)
    isplitl [HS0]; · iexact HS0
    isplitl [HS1]; · iexact HS1
    iexact HS2
  iexact HR

set_option maxHeartbeats 1000000 in
/-- The body at a point: what it is called with is enough for what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = inv m c t.val from rfl, show (dats m 0 c).Φ t.succ = inv m c (t.val + 1) from rfl,
    show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl,
    show (dats m 0 c).after 5 t = outAt m c t from rfl]
  simp only [before_0, before_1, before_2, before_3, before_4]
  unfold Dat.owesAt Pipeline.owesWithin
  rw [show (dats m 0 c).owed t.castSucc = 0 from rfl, show (dats m 0 c).owed t.succ = 0 from rfl]
  unfold inv
  iintro ⟨⟨HK, HP⟩, ⟨%W, -, HW⟩, ⟨%d0, H0⟩, ⟨%d1, H1⟩, ⟨%d2, H2⟩, ⟨%d3, H3⟩, ⟨%d4, H4⟩, ⟨%d5, H5⟩⟩
  iapply (body_run c (grid0.coords t) (conds t).1 _ _ _ _ _ _ _ _ _ _ _ _ (iblk m c 0 t) (iblk m c 1 t) (iblk m c 2 t) (iblk m c 3 t) (iblk m c 4 t)
    ((dats m 0 c).before 5 t d5) (V m c main_v2) (V m c main_v5) (V m c main_v6) W)
  isplitl [HK]; · iapply (kept_mono c _ _ (conds t).2 _ _ _); iexact HK
  isplitl [HW]; · iexact HW
  isplitl [H0]; · iexact H0
  isplitl [H1]; · iexact H1
  isplitl [H2]; · iexact H2
  isplitl [H3]; · iexact H3
  isplitl [H4]; · iexact H4
  isplitl [H5]; · iexact H5
  iintro ⟨HK, ⟨%W', HW⟩, H0, H1, H2, H3, H4, H5⟩
  isplitl [HK HP]
  · isplitl [HK]; · iapply (kept_mono c _ _ (fun _ => trivial) _ _ _); iexact HK
    iexact HP
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  unfold outAt
  iexact H5

/-- The body table's row at a point. -/
theorem defs₀_row (t : Fin cfg0.N) : defs₀ (F := F) .tc cfg0.body (cfg0.bodyArgs t (cfg0.slots t)) = bodyAt0 t := by
  unfold defs₀; rw [Defs.onTc_tc]

/-- The output window is written at every point. -/
theorem busy_5 : ∀ t : Fin cfg0.N, cfg0.idle 5 (cfg0.grid.coords t) = false := by decide +kernel

set_option maxHeartbeats 1000000 in
/-- The pipeline's body obligation. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  rw [busy_5 t]
  change bodyPost m c t ⊢ bodyPost m c t
  exact .rfl

/-- What the launch hands over is what holds before the first point. -/
theorem inv_start (c : Dev nD) : (Pipeline.ΦD osem spec0 hbms (V m) c : sProp 𝕄) ⊢ inv m c 0 := by
  rw [Pipeline.ΦD_eq, scopedRest0_eq, osem_eq, hbms_eq]
  unfold inv Kept
  iintro ⟨⟨⟨%g0, H0⟩, ⟨%g1, H1⟩, ⟨%g2, H2⟩, H3⟩, HP, HD, HH⟩
  ihave HS := (stage_split c) $$ H3
  isplitr [HP]
  · isplitl [H0 H1 H2]
    · iexists g0, g1, g2
      isplitr; · ipureintro; exact fun h => absurd rfl h
      isplitl [H0]; · iexact H0
      isplitl [H1]; · iexact H1
      iexact H2
    isplitl [HS]; · iexact HS
    isplitl [HD]; · iexact HD
    iexact HH
  iexact HP

/-- What holds after the last point gives the launch its own back. -/
theorem inv_end (c : Dev nD) (n : ℕ) : inv m c n ⊢ (Pipeline.ΦD osem spec0 hbms (V m) c : sProp 𝕄) := by
  rw [Pipeline.ΦD_eq, scopedRest0_eq, osem_eq, hbms_eq]
  unfold inv Kept
  iintro ⟨⟨⟨%g0, %g1, %g2, -, H0, H1, H2⟩, HS, HD, HH⟩, HP⟩
  ihave H3 := (stage_join c) $$ HS
  isplitl [H0 H1 H2 H3]
  · isplitl [H0]; · iexists g0; iexact H0
    isplitl [H1]; · iexists g1; iexact H1
    isplitl [H2]; · iexists g2; iexact H2
    iexact H3
  isplitl [HP]; · iexact HP
  isplitl [HD]; · iexact HD
  iexact HH

set_option backward.isDefEq.respectTransparency.types false in
/-- From any memory with zero counters every weakly fair execution terminates, the arrays at the pipeline's post and every
    counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none osem_facts hbms hbms_sub m ρ main
    (hbody := fun c => (body_obligation m c).loose) (hshare := fun c => (dats m 0 c).share_full fun _ => rfl)
    (howed := fun _ _ => rfl) (V := V m) (hmain := enters m Variants.none) (hA := A_eq m)
    (hin := fun c => inv_start m c) (hout := fun c => inv_end m c _)

/-- The arguments are as launched after the run, and the counters at zero. -/
theorem run_frame :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)
    (run_main m ρ)

end Cert.Kernel2Ideal.Mlp

end
-- ==== Proof.MlpRow.lean ====
/-
  One token's row through the output projection and the feed-forward layer, over the extended reals: the residual, the two
  root-mean-square normalizations, and the hidden layer of squared positive parts.
-/
module

public import Idealize.ShloMosaic.PureOps.Ideal.Laws
public import Idealize.ShloMosaic.Lib.ValueIdxCore

@[expose] public section

noncomputable section

namespace Cert.Row

open Idealize.ShloMosaic
open scoped BigOperators

/-- The two branches' outputs side by side. -/
def mix (a l : Fin 512 → EReal) : Fin 1024 → EReal := fun k =>
  if h : k.val < 512 then a ⟨k.val, h⟩ else l ⟨k.val - 512, by have := k.isLt; omega⟩

/-- The residual: the input plus the output projection. -/
def res (x : Fin 1024 → EReal) (a l : Fin 512 → EReal) (wo : Fin 1024 → Fin 1024 → EReal) : Fin 1024 → EReal := fun j =>
  x j + ∑ k, mix a l k * wo k j

/-- The root-mean-square normalization, times a gain. -/
def nrm (v g : Fin 1024 → EReal) : Fin 1024 → EReal := fun j =>
  v j * Ideal.rsqrt (Ideal.div (∑ k, v k * v k) (Ideal.ofBits .f32 0x44800000#32) + Ideal.ofBits .f32 0x358637BD#32) * g j

/-- One hidden unit: the squared positive part. -/
def unit (h u : Fin 1024 → EReal) : EReal := max (∑ k, h k * u k) 0 * max (∑ k, h k * u k) 0

/-- What the feed-forward layer adds. -/
def ffn (h : Fin 1024 → EReal) (wu : Fin 1024 → Fin 4096 → EReal) (wd : Fin 4096 → Fin 1024 → EReal) : Fin 1024 → EReal := fun j =>
  ∑ n, unit h (fun k => wu k n) * wd n j

/-- The row that is written out. -/
def out (x : Fin 1024 → EReal) (a l : Fin 512 → EReal) (wo : Fin 1024 → Fin 1024 → EReal) (gm gf : Fin 1024 → EReal)
    (wu : Fin 1024 → Fin 4096 → EReal) (wd : Fin 4096 → Fin 1024 → EReal) : Fin 1024 → EReal :=
  nrm (fun j => res x a l wo j + ffn (nrm (res x a l wo) gm) wu wd j) gf

/-- A sum over 4096 is four sums over 1024. -/
theorem sum_four (f : Fin 4096 → EReal) :
    ∑ n, f n = (∑ n : Fin 1024, f ⟨n.val, by omega⟩) + (∑ n : Fin 1024, f ⟨1024 + n.val, by omega⟩)
      + (∑ n : Fin 1024, f ⟨2048 + n.val, by omega⟩) + ∑ n : Fin 1024, f ⟨3072 + n.val, by omega⟩ := by
  have e1 := Fin.sum_univ_add (a := 3072) (b := 1024) f
  have e2 := Fin.sum_univ_add (a := 2048) (b := 1024) (fun i : Fin (2048 + 1024) => f (Fin.castAdd 1024 i))
  have e3 := Fin.sum_univ_add (a := 1024) (b := 1024) (fun i : Fin (1024 + 1024) => f (Fin.castAdd 1024 (Fin.castAdd 1024 i)))
  exact e1.trans (congrArg (· + _) (e2.trans (congrArg (· + _) e3)))

end Cert.Row

end
-- ==== Proof.MlpValue.lean ====
/-
  What the body of the output projection and the feed-forward layer writes out, at the ideal values: every row of its output
  block is the row of `Proof/MlpRow.lean`, of that row of its blocks.
-/
module

public import proofs.«01_k».proof.Proof.MlpSpec
public import proofs.«01_k».proof.Proof.MlpRow
public import Idealize.ShloMosaic.Lib.Pointwise

@[expose] public section

set_option maxRecDepth 16384

noncomputable section

namespace Cert.Kernel2Ideal.Mlp

open Cert.Kernel2Ideal Cert.Kernel2Ideal.Gen
open Idealize.ShloMosaic

/-- A product's entry. -/
theorem dotW_apply (h : FVec Ideal S256x1024 .bf16) (w : FVec Ideal S1024x1024 .bf16) (i : Fin 256) (j : Fin 1024) :
    dotW h w (ix2 i j) = ∑ k : Fin 1024, h (ix2 i k) * w (ix2 k j) := by
  pointwise [dotW]

/-- A normalized row's entry. -/
theorem norm_apply (v : FVec Ideal S256x1024 .f32) (g : FVec Ideal S1x1024 .f32) (i : Fin 256) (j : Fin 1024) :
    norm v g (ix2 i j) = Row.nrm (fun k => v (ix2 i k)) (fun k => g (ix2 0 k)) j := by
  unfold Row.nrm
  pointwise [norm]

/-- The two halves of a row side by side. -/
theorem concat_apply (a l : FVec Ideal S256x512 .bf16) (i : Fin 256) (k : Fin 1024) :
    (concatenate S256x1024 1 [⟨S256x512, shapeCast S256x512 a shapeCasts_S256x512_S256x512⟩,
      ⟨S256x512, shapeCast S256x512 l shapeCasts_S256x512_S256x512⟩] concatenates_S256x512_S256x512_S256x1024_d1 : FVec Ideal S256x1024 .bf16) (ix2 i k)
      = Row.mix (fun k => a (ix2 i k)) (fun k => l (ix2 i k)) k := by
  unfold Row.mix
  pointwise

/-- The residual's entry. -/
theorem resid_apply (x : FVec Ideal S256x1024 .f32) (a l : FVec Ideal S256x512 .bf16) (wo : FVec Ideal S1024x1024 .bf16) (i : Fin 256) (j : Fin 1024) :
    resid x a l wo (ix2 i j) = Row.res (fun k => x (ix2 i k)) (fun k => a (ix2 i k)) (fun k => l (ix2 i k)) (fun k j => wo (ix2 k j)) j := by
  unfold resid Row.res
  show shapeCast S256x1024 x shapeCasts_S256x1024_S256x1024 (ix2 i j) + dotW _ wo (ix2 i j) = _
  rw [dotW_apply]
  simp only [concat_apply]
  pointwise

/-- A hidden unit. -/
theorem act_apply (h : FVec Ideal S256x1024 .bf16) (u : FVec Ideal S1024x1024 .bf16) (i : Fin 256) (n : Fin 1024) :
    act h u (ix2 i n) = Row.unit (fun k => h (ix2 i k)) (fun k => u (ix2 k n)) := by
  unfold act Row.unit
  show max (dotW h u (ix2 i n)) (Ideal.ofBits .f32 0x00000000#32) * max (dotW h u (ix2 i n)) (Ideal.ofBits .f32 0x00000000#32) = _
  rw [dotW_apply, show Ideal.ofBits .f32 0x00000000#32 = 0 by simp [Ideal.ofBits, Ideal.ieee]]

/-- What the feed-forward layer adds, chunk by chunk. -/
theorem mlp_apply (h : FVec Ideal S256x1024 .bf16) (u0 u1 u2 u3 d0 d1 d2 d3 : FVec Ideal S1024x1024 .bf16) (wu : Fin 1024 → Fin 4096 → EReal)
    (wd : Fin 4096 → Fin 1024 → EReal)
    (hu0 : ∀ k n : Fin 1024, u0 (ix2 k n) = wu k ⟨n.val, by omega⟩) (hu1 : ∀ k n : Fin 1024, u1 (ix2 k n) = wu k ⟨1024 + n.val, by omega⟩)
    (hu2 : ∀ k n : Fin 1024, u2 (ix2 k n) = wu k ⟨2048 + n.val, by omega⟩) (hu3 : ∀ k n : Fin 1024, u3 (ix2 k n) = wu k ⟨3072 + n.val, by omega⟩)
    (hd0 : ∀ n j : Fin 1024, d0 (ix2 n j) = wd ⟨n.val, by omega⟩ j) (hd1 : ∀ n j : Fin 1024, d1 (ix2 n j) = wd ⟨1024 + n.val, by omega⟩ j)
    (hd2 : ∀ n j : Fin 1024, d2 (ix2 n j) = wd ⟨2048 + n.val, by omega⟩ j) (hd3 : ∀ n j : Fin 1024, d3 (ix2 n j) = wd ⟨3072 + n.val, by omega⟩ j)
    (i : Fin 256) (j : Fin 1024) :
    mlp h u0 u1 u2 u3 d0 d1 d2 d3 (ix2 i j) = Row.ffn (fun k => h (ix2 i k)) wu wd j := by
  unfold mlp Row.ffn
  show (((Ideal.ofBits .f32 0x00000000#32 + dotW (act h u0) d0 (ix2 i j)) + dotW (act h u1) d1 (ix2 i j)) + dotW (act h u2) d2 (ix2 i j))
    + dotW (act h u3) d3 (ix2 i j) = _
  rw [Row.sum_four, show Ideal.ofBits .f32 0x00000000#32 = 0 by simp [Ideal.ofBits, Ideal.ieee], zero_add]
  simp only [dotW_apply, act_apply, hu0, hu1, hu2, hu3, hd0, hd1, hd2, hd3]

/-- A group's rows, from the whole weights. -/
theorem groupRows_apply (x : FVec Ideal S256x1024 .f32) (a l : FVec Ideal S256x512 .bf16) (Wo : S1024x1024.Idx → EReal) (Gm Gf : S1x1024.Idx → EReal)
    (Wu : S1024x4096.Idx → EReal) (Wd : S4096x1024.Idx → EReal) (i : Fin 256) (j : Fin 1024) :
    groupRows (F := Ideal) x a l Wo Gm Gf Wu Wd (ix2 i j) = Row.out (fun k => x (ix2 i k)) (fun k => a (ix2 i k)) (fun k => l (ix2 i k))
      (fun k j => Wo (ix2 k j)) (fun k => Gm (ix2 0 k)) (fun k => Gf (ix2 0 k)) (fun k n => Wu (ix2 k n)) (fun n j => Wd (ix2 n j)) j := by
  have hc : ∀ (o : ℕ) (ho : o + 1024 ≤ 4096) (k n : Fin 1024) (y : S1024x4096.Idx), (y 0).val = 0 + 1 * k.val → (y 1).val = o + 1 * n.val →
      y = ix2 k ⟨o + n.val, by omega⟩ := fun o ho k n y h0 h1 => by
    rw [eq_ix2 y]; exact congrArg₂ ix2 (Fin.ext (by omega)) (Fin.ext (by show (y 1).val = o + n.val; omega))
  have hp : ∀ (o : ℕ) (ho : o + 1024 ≤ 4096) (n j : Fin 1024) (y : S4096x1024.Idx), (y 0).val = o + 1 * n.val → (y 1).val = 0 + 1 * j.val →
      y = ix2 ⟨o + n.val, by omega⟩ j := fun o ho n j y h0 h1 => by
    rw [eq_ix2 y]; exact congrArg₂ ix2 (Fin.ext (by show (y 0).val = o + n.val; omega)) (Fin.ext (by omega))
  unfold groupRows outRows Row.out
  rw [norm_apply]
  refine congrFun (congrFun (congrArg Row.nrm (funext fun j => ?_)) _) j
  show resid x a l Wo (ix2 i j) + mlp _ _ _ _ _ _ _ _ _ (ix2 i j) = _
  rw [resid_apply, mlp_apply _ _ _ _ _ _ _ _ _ (fun k n => Wu (ix2 k n)) (fun n j => Wd (ix2 n j))
    (fun k n => congrArg Wu ((hc 0 (by omega) k n _ rfl rfl).trans (congrArg (ix2 k) (Fin.ext (Nat.zero_add _)))))
    (fun k n => congrArg Wu (hc 1024 (by omega) k n _ rfl rfl)) (fun k n => congrArg Wu (hc 2048 (by omega) k n _ rfl rfl))
    (fun k n => congrArg Wu (hc 3072 (by omega) k n _ rfl rfl))
    (fun n j => congrArg Wd ((hp 0 (by omega) n j _ rfl rfl).trans (congrArg (fun z => ix2 z j) (Fin.ext (Nat.zero_add _)))))
    (fun n j => congrArg Wd (hp 1024 (by omega) n j _ rfl rfl)) (fun n j => congrArg Wd (hp 2048 (by omega) n j _ rfl rfl))
    (fun n j => congrArg Wd (hp 3072 (by omega) n j _ rfl rfl))]
  refine congrArg (_ + ·) (congrFun (congrFun (congrFun (congrArg Row.ffn (funext fun k => ?_)) _) _) j)
  show norm (resid x a l Wo) Gm (ix2 i k) = _
  rw [norm_apply]
  simp only [resid_apply]

/-- The output block's rows. -/
theorem outBlk_apply (X : S512x1024.Idx → EReal) (A L : S512x512.Idx → EReal) (Wo : S1024x1024.Idx → EReal) (Gm Gf : S1x1024.Idx → EReal)
    (Wu : S1024x4096.Idx → EReal) (Wd : S4096x1024.Idx → EReal) (p : Fin 512) (j : Fin 1024) :
    outBlk (F := Ideal) X A L Wo Gm Gf Wu Wd (ix2 p j) = Row.out (fun k => X (ix2 p k)) (fun k => A (ix2 p k)) (fun k => L (ix2 p k))
      (fun k j => Wo (ix2 k j)) (fun k => Gm (ix2 0 k)) (fun k => Gf (ix2 0 k)) (fun k n => Wu (ix2 k n)) (fun n j => Wd (ix2 n j)) j := by
  have he : ∀ (N o : ℕ) (q : Fin 256) (k : Fin N) (y : (⟨2, ![512, N]⟩ : Shape).Idx), o + q.val = p.val → (y 0).val = o + 1 * q.val →
      (y 1).val = 0 + 1 * k.val → y = ix2 p k := fun N o q k y ho h0 h1 => by
    rw [eq_ix2 y]; exact congrArg₂ ix2 (Fin.ext (by omega)) (Fin.ext (by omega))
  by_cases h : p.val < 256
  · have e : ix2 p j = r0.emb (ix2 ⟨p.val, h⟩ j) := (he 1024 0 ⟨p.val, h⟩ j _ (Nat.zero_add _) rfl rfl).symm
    rw [e, outBlk_0, groupRows_apply]
    have e1 : ∀ k, cut r0 X (ix2 ⟨p.val, h⟩ k) = X (ix2 p k) := fun k => congrArg X (he 1024 0 ⟨p.val, h⟩ k _ (Nat.zero_add _) rfl rfl)
    have e2 : ∀ k, cut q0 A (ix2 ⟨p.val, h⟩ k) = A (ix2 p k) := fun k => congrArg A (he 512 0 ⟨p.val, h⟩ k _ (Nat.zero_add _) rfl rfl)
    have e3 : ∀ k, cut q0 L (ix2 ⟨p.val, h⟩ k) = L (ix2 p k) := fun k => congrArg L (he 512 0 ⟨p.val, h⟩ k _ (Nat.zero_add _) rfl rfl)
    rw [funext e1, funext e2, funext e3]
  · have hl := p.isLt
    have hq : p.val - 256 < 256 := by omega
    have hs : 256 + (⟨p.val - 256, hq⟩ : Fin 256).val = p.val := by show 256 + (p.val - 256) = p.val; omega
    have e : ix2 p j = r1.emb (ix2 ⟨p.val - 256, hq⟩ j) := (he 1024 256 ⟨p.val - 256, hq⟩ j _ hs rfl rfl).symm
    rw [e, outBlk_1, groupRows_apply]
    have e1 : ∀ k, cut r1 X (ix2 ⟨p.val - 256, hq⟩ k) = X (ix2 p k) := fun k => congrArg X (he 1024 256 ⟨p.val - 256, hq⟩ k _ hs rfl rfl)
    have e2 : ∀ k, cut q1 A (ix2 ⟨p.val - 256, hq⟩ k) = A (ix2 p k) := fun k => congrArg A (he 512 256 ⟨p.val - 256, hq⟩ k _ hs rfl rfl)
    have e3 : ∀ k, cut q1 L (ix2 ⟨p.val - 256, hq⟩ k) = L (ix2 p k) := fun k => congrArg L (he 512 256 ⟨p.val - 256, hq⟩ k _ hs rfl rfl)
    rw [funext e1, funext e2, funext e3]

end Cert.Kernel2Ideal.Mlp

end
-- ==== Proof.MlpRef.lean ====
/-
  What the reference of the output projection and the feed-forward layer returns, at the ideal values: at each token the row of
  `Proof/MlpRow.lean`, of that token's row of its arguments.
-/
module

public import proofs.«01_k».proof.Proof.Gen.Reference2Ideal.Read
public import proofs.«01_k».proof.Proof.MlpRow
public import Idealize.ShloMosaic.Lib.Pointwise

@[expose] public section

set_option maxRecDepth 16384

noncomputable section

namespace Cert.Reference2Ideal.Mlp

open Cert.Reference2Ideal Cert.Reference2Ideal.Gen Cert.Reference2Ideal.Read
open Idealize.ShloMosaic

variable (x0 : (⟨S4x4096x1024, .f32⟩ : BufTy).Contents (Elt Ideal)) (x1 x2 : (⟨S4x4096x512, .f32⟩ : BufTy).Contents (Elt Ideal))
  (x3 : (⟨S1x1024x1024, .f32⟩ : BufTy).Contents (Elt Ideal)) (x4 : (⟨S1x1024, .f32⟩ : BufTy).Contents (Elt Ideal))
  (x5 : (⟨S1x1024x4096, .f32⟩ : BufTy).Contents (Elt Ideal)) (x6 : (⟨S1x4096x1024, .f32⟩ : BufTy).Contents (Elt Ideal))
  (x7 : (⟨S1024, .f32⟩ : BufTy).Contents (Elt Ideal)) (b : Fin 4) (p : Fin 4096)

/-- The zero word is zero. -/
theorem bits_zero : Ideal.ofBits .f32 0x00000000#32 = 0 := by simp [Ideal.ofBits, Ideal.ieee]

/-- A token's row of the input. -/
abbrev rowX : Fin 1024 → EReal := fun k => x0 (ix3 b p k)
/-- A token's row of a branch's output. -/
abbrev rowB : Fin 512 → EReal := fun k => x1 (ix3 b p k)
/-- The output projection. -/
abbrev matO : Fin 1024 → Fin 1024 → EReal := fun k j => x3 (ix3 0 k j)
/-- The first matrix. -/
abbrev matU : Fin 1024 → Fin 4096 → EReal := fun k n => x5 (ix3 0 k n)
/-- The second matrix. -/
abbrev matD : Fin 4096 → Fin 1024 → EReal := fun n j => x6 (ix3 0 n j)

/-- The two branches side by side. -/
theorem v0_val (k : Fin 1024) : val_main_v0 (F := Ideal) x1 x2 (ix3 b p k) = Row.mix (rowB x1 b p) (rowB x2 b p) k := by
  unfold Row.mix
  pointwise [val_main_v0]

/-- The residual. -/
theorem v3_val (j : Fin 1024) :
    val_main_v3 (F := Ideal) x0 x1 x2 x3 (ix3 b p j) = Row.res (rowX x0 b p) (rowB x1 b p) (rowB x2 b p) (matO x3) j := by
  have el : ∀ k, lidx_main_v2 (ix3 b p j) k = ix3 b p k := fun k => by
    funext a; match a with | ⟨0, _⟩ => rfl | ⟨1, _⟩ => rfl | ⟨2, _⟩ => rfl
  have er : ∀ k, idx_main_v1 (ridx_main_v2 (ix3 b p j) k) = ix3 0 k j := fun k => by
    have hk := k.isLt
    have hj := j.isLt
    funext a; refine Fin.ext ?_
    match a with
    | ⟨0, _⟩ => rfl
    | ⟨1, _⟩ => show (k.val * 1024 + j.val) / 1024 % 1024 = k.val; omega
    | ⟨2, _⟩ => show (k.val * 1024 + j.val) % 1024 = j.val; omega
  rw [val_main_v3_apply, val_main_v2_apply]
  unfold Row.res
  refine congrArg (_ + ·) (Finset.sum_congr rfl fun k _ => ?_)
  rw [el, v0_val, val_main_v1_apply, er]

/-- The normalized residual. -/
theorem v17_val (j : Fin 1024) : val_main_v17 (F := Ideal) x0 x1 x2 x3 x4 (ix3 b p j)
    = Row.nrm (Row.res (rowX x0 b p) (rowB x1 b p) (rowB x2 b p) (matO x3)) (fun k => x4 (ix2 0 k)) j := by
  have e6 : ∀ k, idx_main_v6 (idx_main_v7 (idx_main_v13 (ix3 b p j))) k = ix3 b p k := fun k => by
    funext a; match a with | ⟨0, _⟩ => rfl | ⟨1, _⟩ => rfl | ⟨2, _⟩ => rfl
  have e4 : idx_main_v4 (idx_main_v15 (idx_main_v16 (ix3 b p j))) = ix2 0 j := by
    have hj := j.isLt
    funext a; refine Fin.ext ?_
    match a with
    | ⟨0, _⟩ => rfl
    | ⟨1, _⟩ => show j.val % 1024 = j.val; omega
  have es : (∑ k, val_main_v5 (F := Ideal) x0 x1 x2 x3 (idx_main_v6 (idx_main_v7 (idx_main_v13 (ix3 b p j))) k))
      = ∑ k, Row.res (rowX x0 b p) (rowB x1 b p) (rowB x2 b p) (matO x3) k * Row.res (rowX x0 b p) (rowB x1 b p) (rowB x2 b p) (matO x3) k :=
    Finset.sum_congr rfl fun k _ => by rw [e6, val_main_v5_apply, v3_val, Ideal.mulf_def]
  rw [val_main_v17_apply, val_main_v16_apply, val_main_v15_apply, val_main_v4_apply, e4, val_main_v14_apply, v3_val, val_main_v13_apply,
    val_main_v12_apply, val_main_v11_apply, val_main_v10_apply, val_main_cst_1_apply, val_main_v9_apply, val_main_v8_apply, val_main_cst_0_apply,
    val_main_v7_apply, val_main_v6_apply, val_main_cst_apply, es]
  unfold Row.nrm
  generalize Row.res (rowX x0 b p) (rowB x1 b p) (rowB x2 b p) (matO x3) = r
  generalize (∑ k, r k * r k) = z
  show r j * Ideal.rsqrt (Ideal.div (Ideal.ofBits .f32 0x00000000#32 + z) (Ideal.ofBits .f32 0x44800000#32) + Ideal.ofBits .f32 0x358637BD#32) * _ = _
  rw [bits_zero, zero_add]

/-- A hidden unit. -/
theorem v21_val (n : Fin 4096) : val_main_v21 (F := Ideal) x0 x1 x2 x3 x4 x5 (ix3 b p n)
    = Row.unit (Row.nrm (Row.res (rowX x0 b p) (rowB x1 b p) (rowB x2 b p) (matO x3)) (fun k => x4 (ix2 0 k))) (fun k => matU x5 k n) := by
  have el : ∀ k, lidx_main_v19 (ix3 b p n) k = ix3 b p k := fun k => by
    funext a; match a with | ⟨0, _⟩ => rfl | ⟨1, _⟩ => rfl | ⟨2, _⟩ => rfl
  have er : ∀ k, idx_main_v18 (ridx_main_v19 (ix3 b p n) k) = ix3 0 k n := fun k => by
    have hk := k.isLt
    have hn := n.isLt
    funext a; refine Fin.ext ?_
    match a with
    | ⟨0, _⟩ => rfl
    | ⟨1, _⟩ => show (k.val * 4096 + n.val) / 4096 % 1024 = k.val; omega
    | ⟨2, _⟩ => show (k.val * 4096 + n.val) % 4096 = n.val; omega
  have e19 : val_main_v19 (F := Ideal) x0 x1 x2 x3 x4 x5 (ix3 b p n)
      = ∑ k, Row.nrm (Row.res (rowX x0 b p) (rowB x1 b p) (rowB x2 b p) (matO x3)) (fun k => x4 (ix2 0 k)) k * matU x5 k n := by
    rw [val_main_v19_apply]
    refine Finset.sum_congr rfl fun k _ => ?_
    rw [el, v17_val, val_main_v18_apply, er]
  rw [val_main_v21_apply, val_main_v20_apply, e19, val_main_call0_v0_apply, val_main_call0_cst_apply]
  unfold Row.unit
  generalize (∑ k, Row.nrm (Row.res (rowX x0 b p) (rowB x1 b p) (rowB x2 b p) (matO x3)) (fun k => x4 (ix2 0 k)) k * matU x5 k n) = z
  show max z (Ideal.ofBits .f32 0x00000000#32) * max z (Ideal.ofBits .f32 0x00000000#32) = _
  rw [bits_zero]

/-- The residual with what the feed-forward layer adds. -/
theorem v24_val (j : Fin 1024) : val_main_v24 (F := Ideal) x0 x1 x2 x3 x4 x5 x6 (ix3 b p j)
    = Row.res (rowX x0 b p) (rowB x1 b p) (rowB x2 b p) (matO x3) j
      + Row.ffn (Row.nrm (Row.res (rowX x0 b p) (rowB x1 b p) (rowB x2 b p) (matO x3)) (fun k => x4 (ix2 0 k))) (matU x5) (matD x6) j := by
  have el : ∀ n, lidx_main_v23 (ix3 b p j) n = ix3 b p n := fun k => by
    funext a; match a with | ⟨0, _⟩ => rfl | ⟨1, _⟩ => rfl | ⟨2, _⟩ => rfl
  have er : ∀ n, idx_main_v22 (ridx_main_v23 (ix3 b p j) n) = ix3 0 n j := fun n => by
    have hn := n.isLt
    have hj := j.isLt
    funext a; refine Fin.ext ?_
    match a with
    | ⟨0, _⟩ => rfl
    | ⟨1, _⟩ => show (n.val * 1024 + j.val) / 1024 % 4096 = n.val; omega
    | ⟨2, _⟩ => show (n.val * 1024 + j.val) % 1024 = j.val; omega
  rw [val_main_v24_apply, v3_val, val_main_v23_apply]
  unfold Row.ffn
  refine congrArg (Row.res (rowX x0 b p) (rowB x1 b p) (rowB x2 b p) (matO x3) j + ·) (Finset.sum_congr rfl fun n _ => ?_)
  rw [el, v21_val, val_main_v22_apply, er]

/-- What the reference returns, before it is laid out as a list of tokens. -/
theorem v37_val (j : Fin 1024) : val_main_v37 (F := Ideal) x0 x1 x2 x3 x4 x5 x6 x7 (ix3 b p j)
    = Row.out (rowX x0 b p) (rowB x1 b p) (rowB x2 b p) (matO x3) (fun k => x4 (ix2 0 k)) (fun k => x7 (ix1 k)) (matU x5) (matD x6) j := by
  have e26 : ∀ k, idx_main_v26 (idx_main_v27 (idx_main_v33 (ix3 b p j))) k = ix3 b p k := fun k => by
    funext a; match a with | ⟨0, _⟩ => rfl | ⟨1, _⟩ => rfl | ⟨2, _⟩ => rfl
  have e35 : idx_main_v35 (idx_main_v36 (ix3 b p j)) = ix1 j := by
    funext a; match a with | ⟨0, _⟩ => rfl
  unfold Row.out
  have e24 := v24_val x0 x1 x2 x3 x4 x5 x6 b p
  obtain ⟨r, hr⟩ : ∃ r : Fin 1024 → EReal, r = fun j => Row.res (rowX x0 b p) (rowB x1 b p) (rowB x2 b p) (matO x3) j
    + Row.ffn (Row.nrm (Row.res (rowX x0 b p) (rowB x1 b p) (rowB x2 b p) (matO x3)) (fun k => x4 (ix2 0 k))) (matU x5) (matD x6) j := ⟨_, rfl⟩
  rw [← hr]
  have e24' : ∀ j, val_main_v24 (F := Ideal) x0 x1 x2 x3 x4 x5 x6 (ix3 b p j) = r j := by rw [hr]; exact e24
  have es : (∑ k, val_main_v25 (F := Ideal) x0 x1 x2 x3 x4 x5 x6 (idx_main_v26 (idx_main_v27 (idx_main_v33 (ix3 b p j))) k)) = ∑ k, r k * r k :=
    Finset.sum_congr rfl fun k _ => by rw [e26, val_main_v25_apply, e24', Ideal.mulf_def]
  rw [val_main_v37_apply, val_main_v36_apply, val_main_v35_apply, e35, val_main_v34_apply, e24', val_main_v33_apply,
    val_main_v32_apply, val_main_v31_apply, val_main_v30_apply, val_main_cst_4_apply, val_main_v29_apply, val_main_v28_apply, val_main_cst_3_apply,
    val_main_v27_apply, val_main_v26_apply, val_main_cst_2_apply, es]
  unfold Row.nrm
  generalize (∑ k, r k * r k) = z
  show r j * Ideal.rsqrt (Ideal.div (Ideal.ofBits .f32 0x00000000#32 + z) (Ideal.ofBits .f32 0x44800000#32) + Ideal.ofBits .f32 0x358637BD#32) * _ = _
  rw [bits_zero, zero_add]

/-- What the reference returns: the row of each token. -/
theorem v38_val (t : Fin 16384) (j : Fin 1024) (ht : t.val = b.val * 4096 + p.val) :
    val_main_v38 (F := Ideal) x0 x1 x2 x3 x4 x5 x6 x7 (ix2 t j)
    = Row.out (rowX x0 b p) (rowB x1 b p) (rowB x2 b p) (matO x3) (fun k => x4 (ix2 0 k)) (fun k => x7 (ix1 k)) (matU x5) (matD x6) j := by
  have e : idx_main_v38 (ix2 t j) = ix3 b p j := by
    have hb := b.isLt
    have hp := p.isLt
    have hj := j.isLt
    funext a; refine Fin.ext ?_
    match a with
    | ⟨0, _⟩ => show (t.val * 1024 + j.val) / 4194304 = b.val; omega
    | ⟨1, _⟩ => show (t.val * 1024 + j.val) / 1024 % 4096 = p.val; omega
    | ⟨2, _⟩ => show (t.val * 1024 + j.val) % 1024 = j.val; omega
  rw [val_main_v38_apply, e, v37_val]

end Cert.Reference2Ideal.Mlp

end
-- ==== Proof.MlpMeet.lean ====
/-
  The result of the output projection and the feed-forward layer after the run, at the ideal values, is the reference's: the
  blocks read off the program's arguments, the output array assembled from its blocks, and each of its rows compared.
-/
module

public import proofs.«01_k».proof.Proof.MlpLaunch
public import proofs.«01_k».proof.Proof.MlpValue
public import proofs.«01_k».proof.Proof.MlpRef
public import Idealize.ShloMosaic.Lib.Claim
public import Idealize.ShloMosaic.Lib.Pipeline.ValueKit

@[expose] public section

set_option maxRecDepth 16384

noncomputable section

namespace Cert.Kernel2Ideal.Mlp

open Cert.Kernel2Ideal Cert.Kernel2Ideal.Gen
open Idealize.ShloMosaic Idealize.ShloMosaic.TcCoe
open Idealize.SL.Sem

variable (m : (ℓ : Loc nD τ sig) → Buf (Elt Ideal) ℓ) (c : Dev nD)

/-! ## The arrays when the launch begins -/

/-- The batch entry of a token. -/
def batch (t : Fin 16384) : Fin 4 := ⟨t.val / 4096, by have := t.isLt; omega⟩
/-- The place of a token in its sequence. -/
def place (t : Fin 16384) : Fin 4096 := ⟨t.val % 4096, by omega⟩

/-- The input, as a list of tokens. -/
theorem array_x (t : Fin 16384) (k : Fin 1024) : V m c main_v8 (ix2 t k) = m ((c : Thread nD τ).loc main_arg0) (ix3 (batch t) (place t) k) := by
  show StableHlo.after hostOps0 (fun b => m (c, b)) (Proc.tc.devRef _) _ = _
  simp only [hostOps0, List.flatten_cons, List.flatten_nil, List.append_nil, List.cons_append, List.nil_append]
  entry_read
  pointwise
  try rfl
/-- The first branch's output, as a list of tokens. -/
theorem array_a (t : Fin 16384) (k : Fin 512) : V m c main_v9 (ix2 t k) = m ((c : Thread nD τ).loc main_arg1) (ix3 (batch t) (place t) k) := by
  show StableHlo.after hostOps0 (fun b => m (c, b)) (Proc.tc.devRef _) _ = _
  simp only [hostOps0, List.flatten_cons, List.flatten_nil, List.append_nil, List.cons_append, List.nil_append]
  entry_read
  pointwise
  try rfl
/-- The second branch's output, as a list of tokens. -/
theorem array_l (t : Fin 16384) (k : Fin 512) : V m c main_v10 (ix2 t k) = m ((c : Thread nD τ).loc main_arg2) (ix3 (batch t) (place t) k) := by
  show StableHlo.after hostOps0 (fun b => m (c, b)) (Proc.tc.devRef _) _ = _
  simp only [hostOps0, List.flatten_cons, List.flatten_nil, List.append_nil, List.cons_append, List.nil_append]
  entry_read
  pointwise
  try rfl
/-- The output projection. -/
theorem array_wo (k j : Fin 1024) : V m c main_v2 (ix2 k j) = m ((c : Thread nD τ).loc main_arg3) (ix3 0 k j) := by
  show StableHlo.after hostOps0 (fun b => m (c, b)) (Proc.tc.devRef _) _ = _
  simp only [hostOps0, List.flatten_cons, List.flatten_nil, List.append_nil, List.cons_append, List.nil_append]
  entry_read
  pointwise
  try rfl
/-- The first gain. -/
theorem array_gm (k : Fin 1024) : V m c main_v4 (ix2 0 k) = m ((c : Thread nD τ).loc main_arg4) (ix2 0 k) := by
  show StableHlo.after hostOps0 (fun b => m (c, b)) (Proc.tc.devRef _) _ = _
  simp only [hostOps0, List.flatten_cons, List.flatten_nil, List.append_nil, List.cons_append, List.nil_append]
  entry_read
  pointwise
  try rfl
/-- The first matrix. -/
theorem array_wu (k : Fin 1024) (n : Fin 4096) : V m c main_v5 (ix2 k n) = m ((c : Thread nD τ).loc main_arg5) (ix3 0 k n) := by
  show StableHlo.after hostOps0 (fun b => m (c, b)) (Proc.tc.devRef _) _ = _
  simp only [hostOps0, List.flatten_cons, List.flatten_nil, List.append_nil, List.cons_append, List.nil_append]
  entry_read
  pointwise
  try rfl
/-- The second matrix. -/
theorem array_wd (n : Fin 4096) (j : Fin 1024) : V m c main_v6 (ix2 n j) = m ((c : Thread nD τ).loc main_arg6) (ix3 0 n j) := by
  show StableHlo.after hostOps0 (fun b => m (c, b)) (Proc.tc.devRef _) _ = _
  simp only [hostOps0, List.flatten_cons, List.flatten_nil, List.append_nil, List.cons_append, List.nil_append]
  entry_read
  pointwise
  try rfl
/-- The second gain. -/
theorem array_gf (k : Fin 1024) : V m c main_v7 (ix2 0 k) = m ((c : Thread nD τ).loc main_arg7) (ix1 k) := by
  show StableHlo.after hostOps0 (fun b => m (c, b)) (Proc.tc.devRef _) _ = _
  simp only [hostOps0, List.flatten_cons, List.flatten_nil, List.append_nil, List.cons_append, List.nil_append]
  entry_read
  pointwise
  try rfl

/-! ## The blocks -/

/-- The token of a row of a grid point's blocks. -/
def tok (t : Fin cfg0.N) (p : Fin 512) : Fin 16384 := ⟨t.val * 512 + p.val, by
  have ht : t.val < 32 := t.isLt
  have hp := p.isLt
  omega⟩

/-- A grid point is its coordinate. -/
theorem coord_eq : ∀ t : Fin cfg0.N, (grid0.coords t 0).val = t.val := by decide +kernel
/-- Where window 0 stands at each grid point. -/
theorem index_0 : ∀ t : Fin cfg0.N, win0_0.index t = ![t.val, 0] := by decide +kernel
/-- Where window 1 stands at each grid point. -/
theorem index_1 : ∀ t : Fin cfg0.N, win0_1.index t = ![t.val, 0] := by decide +kernel
/-- Where window 2 stands at each grid point. -/
theorem index_2 : ∀ t : Fin cfg0.N, win0_2.index t = ![t.val, 0] := by decide +kernel
/-- Where window 3 stands at each grid point. -/
theorem index_3 : ∀ t : Fin cfg0.N, win0_3.index t = ![0, 0] := by decide +kernel
/-- Where window 4 stands at each grid point. -/
theorem index_4 : ∀ t : Fin cfg0.N, win0_4.index t = ![0, 0] := by decide +kernel
/-- Where window 5 stands at each grid point. -/
theorem index_5 : ∀ t : Fin cfg0.N, win0_5.index t = ![t.val, 0] := by decide +kernel

/-- The block of the input. -/
theorem block_x (t : Fin cfg0.N) (p : Fin 512) (k : Fin 1024) : iblk m c 0 t (ix2 p k) = V m c main_v8 (ix2 (tok t p) k) := by
  unfold iblk tok
  blk_simp [index_0]
  refine congrArg (V m c main_v8) ?_
  blk_ext [index_0]
/-- The block of the first branch's output. -/
theorem block_a (t : Fin cfg0.N) (p : Fin 512) (k : Fin 512) : iblk m c 1 t (ix2 p k) = V m c main_v9 (ix2 (tok t p) k) := by
  unfold iblk tok
  blk_simp [index_1]
  refine congrArg (V m c main_v9) ?_
  blk_ext [index_1]
/-- The block of the second branch's output. -/
theorem block_l (t : Fin cfg0.N) (p : Fin 512) (k : Fin 512) : iblk m c 2 t (ix2 p k) = V m c main_v10 (ix2 (tok t p) k) := by
  unfold iblk tok
  blk_simp [index_2]
  refine congrArg (V m c main_v10) ?_
  blk_ext [index_2]
/-- The block of the first gain. -/
theorem block_gm (t : Fin cfg0.N) (k : Fin 1024) : iblk m c 3 t (ix2 0 k) = V m c main_v4 (ix2 0 k) := by
  unfold iblk
  blk_simp [index_3]
  refine congrArg (V m c main_v4) ?_
  blk_ext [index_3]
/-- The block of the second gain. -/
theorem block_gf (t : Fin cfg0.N) (k : Fin 1024) : iblk m c 4 t (ix2 0 k) = V m c main_v7 (ix2 0 k) := by
  unfold iblk
  blk_simp [index_4]
  refine congrArg (V m c main_v7) ?_
  blk_ext [index_4]

/-! ## The result -/

/-- The reference's result of the program's arguments. -/
def want : S16384x1024.Idx → EReal :=
  Cert.Reference2Ideal.Read.val_main_v38 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- The output block at a grid point is the reference's, at its tokens. -/
theorem outAt_want (t : Fin cfg0.N) (p : Fin 512) (j : Fin 1024) : outAt m c t (ix2 p j) = want m c (ix2 (tok t p) j) := by
  unfold outAt want
  refine (outBlk_apply _ _ _ _ _ _ _ _ p j).trans (Eq.trans ?_ (Cert.Reference2Ideal.Mlp.v38_val _ _ _ _ _ _ _ _ (batch (tok t p)) (place (tok t p))
    (tok t p) j (by show (tok t p).val = (tok t p).val / 4096 * 4096 + (tok t p).val % 4096; omega)).symm)
  have ex : ∀ k, iblk m c 0 t (ix2 p k) = m ((c : Thread nD τ).loc main_arg0) (ix3 (batch (tok t p)) (place (tok t p)) k) := fun k =>
    (block_x m c t p k).trans (array_x m c _ k)
  have ea : ∀ k, iblk m c 1 t (ix2 p k) = m ((c : Thread nD τ).loc main_arg1) (ix3 (batch (tok t p)) (place (tok t p)) k) := fun k =>
    (block_a m c t p k).trans (array_a m c _ k)
  have el : ∀ k, iblk m c 2 t (ix2 p k) = m ((c : Thread nD τ).loc main_arg2) (ix3 (batch (tok t p)) (place (tok t p)) k) := fun k =>
    (block_l m c t p k).trans (array_l m c _ k)
  have eo : ∀ k j, woOf c (V m c main_v2) (ix2 k j) = m ((c : Thread nD τ).loc main_arg3) (ix3 0 k j) := fun k j => array_wo m c k j
  have eu : ∀ k n, wuOf c (V m c main_v5) (ix2 k n) = m ((c : Thread nD τ).loc main_arg5) (ix3 0 k n) := fun k n => array_wu m c k n
  have ed : ∀ n j, wdOf c (V m c main_v6) (ix2 n j) = m ((c : Thread nD τ).loc main_arg6) (ix3 0 n j) := fun n j => array_wd m c n j
  have em : ∀ k, iblk m c 3 t (ix2 0 k) = m ((c : Thread nD τ).loc main_arg4) (ix2 0 k) := fun k => (block_gm m c t k).trans (array_gm m c k)
  have ef : ∀ k, iblk m c 4 t (ix2 0 k) = m ((c : Thread nD τ).loc main_arg7) (ix1 k) := fun k => (block_gf m c t k).trans (array_gf m c k)
  have e0 : ∀ {x x' : Fin 1024 → EReal} {a a' l l' : Fin 512 → EReal} {wo wo' : Fin 1024 → Fin 1024 → EReal} {gm gm' gf gf' : Fin 1024 → EReal}
      {wu wu' : Fin 1024 → Fin 4096 → EReal} {wd wd' : Fin 4096 → Fin 1024 → EReal}, x = x' → a = a' → l = l' → wo = wo' → gm = gm' → gf = gf' →
      wu = wu' → wd = wd' → Row.out x a l wo gm gf wu wd j = Row.out x' a' l' wo' gm' gf' wu' wd' j := by
    intros; subst_vars; rfl
  exact e0 (funext ex) (funext ea) (funext el) (funext fun k => funext fun j => eo k j) (funext em) (funext ef)
    (funext fun k => funext fun n => eu k n) (funext fun n => funext fun j => ed n j)

/-- The output array after the run. -/
theorem array_out : (dats m 0 c).arrAt 5 cfg0.N = want m c := by
  refine (dats m 0 c).arrAt_eq_of_covers 5 (want m c) (by decide +kernel) fun t hf y => ?_
  have e := outAt_want m c t (y 0) (y 1)
  blk_simp
  refine (congrArg (outAt m c t) (eq_ix2 (n0 := 512) (n1 := 1024) y)).trans (e.trans (congrArg (want m c) (Eq.symm ?_)))
  unfold tok
  blk_ext [index_5]

/-- The result after the run, and the arguments as launched. -/
theorem run_value (ρ : Dev nD → PrngReg) :
    θ_run defs (onTc (τ := τ) (main (F := Ideal))) (s₀ m ρ) (fun r => ∀ c : Dev nD,
      r.2.mem ((c.tc : Thread nD τ).loc main_v11) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 5).trans (array_out m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩)
    (run_main m ρ)

end Cert.Kernel2Ideal.Mlp

end
-- ==== Proof.lean ====
/-
  The proof of `Cert.Claim`: the frames of the two calls and of their references, and the two equations over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Run
public import proofs.«01_k».proof.Proof.Meet
public import proofs.«01_k».proof.Proof.MlpMeet
public import Idealize.ShloMosaic.Adequacy
public import Idealize.ShloMosaic.Init

@[expose] public section

set_option maxRecDepth 65536
set_option maxHeartbeats 0

noncomputable section

namespace Cert.Proof

open Idealize.ShloMosaic Idealize.SL.Sem

variable {F : FTy → Type} [FloatOps F]

/-- The first idealized program's frame: the run at the ideal instance. -/
theorem frame_ideal : Cert.quiescent_KernelIdeal (hKernelIdeal := Cert.KernelIdeal.Gen.facts) :=
  fun m ρ _ => Cert.KernelIdeal.Attn.run_frame (F := Ideal) (m := m) ρ

/-- The two programs' kernel functions are one function. -/
theorem body_eq [Cert.Kernel.Facts] [Cert.KernelIdeal.Facts] :
    @Cert.Kernel.cc0_diff_attn F _ _ = @Cert.KernelIdeal.cc0_diff_attn F _ _ := rfl

/-- The two programs' kernel tables are one table. -/
theorem kernels_eq [Cert.Kernel.Facts] [Cert.KernelIdeal.Facts] :
    Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

/-- The two programs' body tables are one table. -/
theorem defs_eq [Cert.Kernel.Facts] [Cert.KernelIdeal.Facts] :
    Cert.Kernel.defs (F := F) = Cert.KernelIdeal.defs (F := F) := by
  unfold Cert.Kernel.defs Cert.KernelIdeal.defs
  rw [kernels_eq]
  rfl

/-- The program's frame: the same run at the bit-exact instance. -/
theorem frame_kernel : Cert.quiescent_Kernel (hKernel := Cert.Kernel.Gen.facts) := fun m ρ _ => by
  rw [defs_eq]
  exact (θ_run Cert.KernelIdeal.defs _ _).mono (fun _ h => h) (Cert.KernelIdeal.Attn.run_frame (F := Bits) (m := m) ρ)

/-- The reference's frame. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two idealized programs' results are one, where the arguments are real. -/
theorem results : Cert.algebraic_KernelIdeal_ReferenceIdeal_pre_finite (hKernelIdeal := Cert.KernelIdeal.Gen.facts)
    (hReferenceIdeal := Cert.ReferenceIdeal.Gen.facts) (hPre_finite := Cert.Finite.facts) := fun m g m' g' hpre heq => by
  refine ⟨fun c => Cert.Meet.want m c, Cert.KernelIdeal.Attn.run_value m g (Cert.Meet.want m) (Cert.Meet.writes_want m hpre),
    (θ_run Cert.ReferenceIdeal.defs _ _).mono (fun r h c => ⟨(h c).1.trans ?_, (h c).2⟩) (Cert.ReferenceIdeal.Value.run (F := Ideal) m' g')⟩
  obtain ⟨e0, e1, e2, e3, e4, e5, e6, e7⟩ := heq c
  rw [Cert.ReferenceIdeal.Read.val_main_v87_eq, e0, e1, e2, e3, e4, e5, e6, e7]
  rfl

/-- The second program's idealized frame: the run at the ideal instance. -/
theorem frame_ideal2 : Cert.quiescent_Kernel2Ideal (hKernel2Ideal := Cert.Kernel2Ideal.Gen.facts) :=
  fun m ρ _ => Cert.Kernel2Ideal.Mlp.run_frame (F := Ideal) m ρ

/-- The second program's kernel function and its idealisation's are one function. -/
theorem body_eq2 [Cert.Kernel2.Facts] [Cert.Kernel2Ideal.Facts] :
    @Cert.Kernel2.cc0_out_mlp F _ _ = @Cert.Kernel2Ideal.cc0_out_mlp F _ _ := rfl

/-- Their kernel tables are one table. -/
theorem kernels_eq2 [Cert.Kernel2.Facts] [Cert.Kernel2Ideal.Facts] :
    Cert.Kernel2.defs₀ (F := F) = Cert.Kernel2Ideal.defs₀ (F := F) := by
  unfold Cert.Kernel2.defs₀ Cert.Kernel2Ideal.defs₀
  refine congrArg Defs.onTc (funext fun l => funext fun a => ?_)
  match l, a with
  | 0, (t, s) => rfl

/-- Their body tables are one table. -/
theorem defs_eq2 [Cert.Kernel2.Facts] [Cert.Kernel2Ideal.Facts] :
    Cert.Kernel2.defs (F := F) = Cert.Kernel2Ideal.defs (F := F) := by
  unfold Cert.Kernel2.defs Cert.Kernel2Ideal.defs
  rw [kernels_eq2]
  rfl

/-- The second program's frame: the same run at the bit-exact instance. -/
theorem frame_kernel2 : Cert.quiescent_Kernel2 (hKernel2 := Cert.Kernel2.Gen.facts) := fun m ρ _ => by
  rw [defs_eq2]
  exact (θ_run Cert.Kernel2Ideal.defs _ _).mono (fun _ h => h) (Cert.Kernel2Ideal.Mlp.run_frame (F := Bits) m ρ)

/-- The second reference's frame. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The second pair's results are one, for all arguments. -/
theorem results2 : Cert.algebraic_Kernel2Ideal_Reference2Ideal (hKernel2Ideal := Cert.Kernel2Ideal.Gen.facts)
    (hReference2Ideal := Cert.Reference2Ideal.Gen.facts) := fun m g m' g' hpre heq => by
  refine ⟨fun c => Cert.Kernel2Ideal.Mlp.want m c, Cert.Kernel2Ideal.Mlp.run_value m g,
    (θ_run Cert.Reference2Ideal.defs _ _).mono (fun r h c => ⟨(h c).1.trans ?_, (h c).2⟩) (Cert.Reference2Ideal.Value.run (F := Ideal) m' g')⟩
  obtain ⟨e0, e1, e2, e3, e4, e5, e6, e7⟩ := heq c
  rw [Cert.Reference2Ideal.Read.val_main_v38_eq, e0, e1, e2, e3, e4, e5, e6, e7]
  rfl

/-- The claim: the six frames; each idealized program is the program itself; its result is its reference's, for the attention where
the arguments are real. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Finite.facts,
  frame_kernel, frame_ideal, fun m ρ _ => frame_ideal m ρ trivial, frame_reference, fun m ρ _ => frame_reference m ρ trivial,
  frame_kernel2, frame_ideal2, frame_reference2, trivial, results, trivial, results2⟩

end Cert.Proof

end
